-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x768x8448 : Shape := ⟨3, ![4, 768, 8448]⟩
abbrev S4x8448x640 : Shape := ⟨3, ![4, 8448, 640]⟩
abbrev S4x512x8448 : Shape := ⟨3, ![4, 512, 8448]⟩
abbrev S1024 : Shape := ⟨1, ![1024]⟩
abbrev S64 : Shape := ⟨1, ![64]⟩
abbrev S_ : Shape := ⟨0, ![]⟩

class Facts : Prop where
  bitsLt_bf16_f32 : FTy.bits .bf16 < FTy.bits .f32
  bcast_S_S4x768x8448 : S_.BroadcastsInDim S4x768x8448 (![] : Fin 0 → Fin S4x768x8448.rank)
  reducesTo_S4x768x8448_S_d0_1_2 : S4x768x8448.ReducesTo [0, 1, 2] S_
  h_S_ : 0 < S_.numel
  bcast_S_S4x8448x640 : S_.BroadcastsInDim S4x8448x640 (![] : Fin 0 → Fin S4x8448x640.rank)
  reducesTo_S4x8448x640_S_d0_1_2 : S4x8448x640.ReducesTo [0, 1, 2] S_

variable [Facts]

def fn {F : FTy → Type} [FloatOps F] (main_arg0 : FVec F S4x768x8448 .bf16) (main_arg1 : FVec F S4x8448x640 .bf16) (main_arg2 : FVec F S4x512x8448 .bf16) (main_arg3 : FVec F S1024 .f32) (main_arg4 : FVec F S64 .f32) (main_arg5 : FVec F S64 .f32) (main_arg6 : FVec F S64 .f32) (main_arg7 : FVec F S64 .f32) (main_arg8 : FVec F S_ .f32) : IVec S_ 1 :=
  let main_v0 : FVec F S4x768x8448 .f32 := (extf .f32 · bitsLt_bf16_f32) main_arg0
  let main_v1 : FVec F S4x768x8448 .f32 := Host.absf main_v0
  let main_cst : FVec F S_ .f32 := constant S_ .f32 0x7F800000#32
  let main_v2 : FVec F S4x768x8448 .f32 := broadcastInDim S4x768x8448 ![] bcast_S_S4x768x8448 main_cst
  let main_v3 : IVec S4x768x8448 1 := cmpf .olt main_v1 main_v2
  let main_c : IVec S_ 1 := constantI S_ 1 1#1
  let main_v4 : IVec S_ 1 := (fun x v => Host.reduce IntOp.andi x v reducesTo_S4x768x8448_S_d0_1_2 h_S_) main_v3 main_c
  let main_v5 : FVec F S4x8448x640 .f32 := (extf .f32 · bitsLt_bf16_f32) main_arg1
  let main_v6 : FVec F S4x8448x640 .f32 := Host.absf main_v5
  let main_cst_0 : FVec F S_ .f32 := constant S_ .f32 0x7F800000#32
  let main_v7 : FVec F S4x8448x640 .f32 := broadcastInDim S4x8448x640 ![] bcast_S_S4x8448x640 main_cst_0
  let main_v8 : IVec S4x8448x640 1 := cmpf .olt main_v6 main_v7
  let main_c_1 : IVec S_ 1 := constantI S_ 1 1#1
  let main_v9 : IVec S_ 1 := (fun x v => Host.reduce IntOp.andi x v reducesTo_S4x8448x640_S_d0_1_2 h_S_) main_v8 main_c_1
  let main_v10 : IVec S_ 1 := andi main_v4 main_v9
  main_v10
-- ==== Kernel.lean ====
abbrev S4x768x8448 : Shape := ⟨3, ![4, 768, 8448]⟩
abbrev S4x8448x640 : Shape := ⟨3, ![4, 8448, 640]⟩
abbrev S4x512x8448 : Shape := ⟨3, ![4, 512, 8448]⟩
abbrev S1024 : Shape := ⟨1, ![1024]⟩
abbrev S64 : Shape := ⟨1, ![64]⟩
abbrev S_ : Shape := ⟨0, ![]⟩
abbrev S512 : Shape := ⟨1, ![512]⟩
abbrev S4x128x1 : Shape := ⟨3, ![4, 128, 1]⟩
abbrev S1x64 : Shape := ⟨2, ![1, 64]⟩
abbrev S4x64 : Shape := ⟨2, ![4, 64]⟩
abbrev S8x128 : Shape := ⟨2, ![8, 128]⟩
abbrev S4x8448x512 : Shape := ⟨3, ![4, 8448, 512]⟩
abbrev S1x128x256 : Shape := ⟨3, ![1, 128, 256]⟩
abbrev S1x8448x128 : Shape := ⟨3, ![1, 8448, 128]⟩
abbrev S1x128x8448 : Shape := ⟨3, ![1, 128, 8448]⟩
abbrev S2x128x1 : Shape := ⟨3, ![2, 128, 1]⟩
abbrev S1x256x256 : Shape := ⟨3, ![1, 256, 256]⟩
abbrev S128x256 : Shape := ⟨2, ![128, 256]⟩
abbrev S1x256 : Shape := ⟨2, ![1, 256]⟩
abbrev S8448x256 : Shape := ⟨2, ![8448, 256]⟩
abbrev S8x256 : Shape := ⟨2, ![8, 256]⟩
abbrev S2x128x256 : Shape := ⟨3, ![2, 128, 256]⟩
abbrev S64x256 : Shape := ⟨2, ![64, 256]⟩
abbrev S1x1 : Shape := ⟨2, ![1, 1]⟩
abbrev S1 : Shape := ⟨1, ![1]⟩
abbrev S1x64x256 : Shape := ⟨3, ![1, 64, 256]⟩
abbrev S1x256x128 : Shape := ⟨3, ![1, 256, 128]⟩
abbrev S256x128 : Shape := ⟨2, ![256, 128]⟩
abbrev S256x256 : Shape := ⟨2, ![256, 256]⟩
abbrev S32x8x256 : Shape := ⟨3, ![32, 8, 256]⟩
abbrev S256 : Shape := ⟨1, ![256]⟩
abbrev S1x768x128 : Shape := ⟨3, ![1, 768, 128]⟩
abbrev S768x128 : Shape := ⟨2, ![768, 128]⟩
abbrev S768x256 : Shape := ⟨2, ![768, 256]⟩
abbrev S96x8x256 : Shape := ⟨3, ![96, 8, 256]⟩
abbrev S1x128x1 : Shape := ⟨3, ![1, 128, 1]⟩
abbrev S128x1 : Shape := ⟨2, ![128, 1]⟩
abbrev S1x128x768 : Shape := ⟨3, ![1, 128, 768]⟩
abbrev S128x768 : Shape := ⟨2, ![128, 768]⟩

abbrev nBuf : Space → Nat
  | .hbm => 18
  | .vmem => 41
  | .smem => 0
  | _ => 0

abbrev bufTy : (tb : Table) → Fin (tcTables nBuf tb) → BufTy
  | .hbm, ⟨0, _⟩ => ⟨S4x768x8448, .bf16⟩
  | .hbm, ⟨1, _⟩ => ⟨S4x8448x640, .bf16⟩
  | .hbm, ⟨2, _⟩ => ⟨S4x512x8448, .bf16⟩
  | .hbm, ⟨3, _⟩ => ⟨S1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S512, .f32⟩
  | .hbm, ⟨10, _⟩ => ⟨S4x128x1, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x64, .f32⟩
  | .hbm, ⟨16, _⟩ => ⟨S8x128, .f32⟩
  | .hbm, ⟨17, _⟩ => ⟨S4x8448x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x8448x128, .bf16⟩
  | .local _ .vmem, ⟨7, _⟩ => ⟨S1x8448x128, .bf16⟩
  | .local _ .vmem, ⟨8, _⟩ => ⟨S1x128x8448, .bf16⟩
  | .local _ .vmem, ⟨9, _⟩ => ⟨S1x128x8448, .bf16⟩
  | .local _ .vmem, ⟨10, _⟩ => ⟨S1x128x8448, .bf16⟩
  | .local _ .vmem, ⟨11, _⟩ => ⟨S1x128x8448, .bf16⟩
  | .local _ .vmem, ⟨12, _⟩ => ⟨S1x128x256, .bf16⟩
  | .local _ .vmem, ⟨13, _⟩ => ⟨S1x128x256, .bf16⟩
  | .local _ .vmem, ⟨14, _⟩ => ⟨S2x128x1, .f32⟩
  | .local _ .vmem, ⟨15, _⟩ => ⟨S2x128x1, .f32⟩
  | .local _ .vmem, ⟨16, _⟩ => ⟨S4x64, .f32⟩
  | .local _ .vmem, ⟨17, _⟩ => ⟨S8x128, .f32⟩
  | .local _ .vmem, ⟨18, _⟩ => ⟨S1x256x256, .bf16⟩
  | .local _ .vmem, ⟨19, _⟩ => ⟨S1x256x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S128x256, .f32⟩
  | .local _ .vmem, ⟨36, _⟩ => ⟨S8448x256, .f32⟩
  | .local _ .vmem, ⟨37, _⟩ => ⟨S8448x256, .f32⟩
  | .local _ .vmem, ⟨38, _⟩ => ⟨S8x256, .f32⟩
  | .local _ .vmem, ⟨39, _⟩ => ⟨S8x256, .f32⟩
  | .local _ .vmem, ⟨40, _⟩ => ⟨S2x128x256, .bf16⟩
  | _, _ => ⟨S4x768x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_scratch12 : Ref sig .tc := ⟨.vmem, 32, rfl⟩
abbrev cc0_scratch13 : Ref sig .tc := ⟨.vmem, 33, rfl⟩
abbrev cc0_scratch14 : Ref sig .tc := ⟨.vmem, 34, rfl⟩
abbrev cc0_scratch15 : Ref sig .tc := ⟨.vmem, 35, rfl⟩
abbrev cc0_scratch16 : Ref sig .tc := ⟨.vmem, 36, rfl⟩
abbrev cc0_scratch17 : Ref sig .tc := ⟨.vmem, 37, rfl⟩
abbrev cc0_scratch18 : Ref sig .tc := ⟨.vmem, 38, rfl⟩
abbrev cc0_scratch19 : Ref sig .tc := ⟨.vmem, 39, rfl⟩
abbrev cc0_scratch20 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 2, 33], ![false, false, false]⟩

def k0_cond1 (i : grid0.Coords) : BitVec 1 :=
  let arg2 : BitVec 32 := BitVec.ofNat 32 (i 2).val
  let c1_i32 : BitVec 32 := 1#32
  let v55 : BitVec 1 := Scalar.cmpi .slt arg2 c1_i32
  let v56 : BitVec 32 := Scalar.extui v55
  let c0_i32 : BitVec 32 := 0#32
  let v57 : BitVec 1 := Scalar.cmpi .ne v56 c0_i32
  v57

def k0_cond2 (i : grid0.Coords) : BitVec 1 :=
  let arg2 : BitVec 32 := BitVec.ofNat 32 (i 2).val
  let c1_i32_35 : BitVec 32 := 1#32
  let v58 : BitVec 1 := Scalar.cmpi .sge arg2 c1_i32_35
  let v59 : BitVec 32 := Scalar.extui v58
  let c0_i32_36 : BitVec 32 := 0#32
  let v60 : BitVec 1 := Scalar.cmpi .ne v59 c0_i32_36
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi c2_i32_0 v0
  let c0_i32 : BitVec 32 := 0#32
  let v2 : BitVec 32 := Scalar.addi v1 c0_i32
  let c0_i32_1 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi c2_i32_0 v0
  let c1_i32 : BitVec 32 := 1#32
  let v2 : BitVec 32 := Scalar.addi v1 c1_i32
  let c0_i32 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  ![arg0.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  ![arg0.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c2_i32_0 : BitVec 32 := 2#32
  let v1 : BitVec 32 := Scalar.addi c2_i32_0 v0
  let c1_i32 : BitVec 32 := 1#32
  let v2 : BitVec 32 := Scalar.addi arg2 c1_i32
  let c32_i32 : BitVec 32 := 32#32
  let v3 : BitVec 32 := Scalar.minsi v2 c32_i32
  let c0_i32 : BitVec 32 := 0#32
  ![arg0.toNat, v1.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x8448 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x8448 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S4x768x8448 : Shape := ⟨3, ![4, 768, 8448]⟩
abbrev S4x8448x640 : Shape := ⟨3, ![4, 8448, 640]⟩
abbrev S4x512x8448 : Shape := ⟨3, ![4, 512, 8448]⟩
abbrev S1024 : Shape := ⟨1, ![1024]⟩
abbrev S64 : Shape := ⟨1, ![64]⟩
abbrev S_ : Shape := ⟨0, ![]⟩
abbrev S4x8448x512 : Shape := ⟨3, ![4, 8448, 512]⟩
abbrev S4x8448x4x2x64 : Shape := ⟨5, ![4, 8448, 4, 2, 64]⟩
abbrev S4x8448x4x128 : Shape := ⟨4, ![4, 8448, 4, 128]⟩
abbrev S4x8192x4x2x64 : Shape := ⟨5, ![4, 8192, 4, 2, 64]⟩
abbrev S4x4x8448x128 : Shape := ⟨4, ![4, 4, 8448, 128]⟩
abbrev S4x8192x4x1x64 : Shape := ⟨5, ![4, 8192, 4, 1, 64]⟩
abbrev S4x8192x4x64 : Shape := ⟨4, ![4, 8192, 4, 64]⟩
abbrev S4x4x8192x64 : Shape := ⟨4, ![4, 4, 8192, 64]⟩
abbrev S4x8448x4x1x64 : Shape := ⟨5, ![4, 8448, 4, 1, 64]⟩
abbrev S4x8448x4x64 : Shape := ⟨4, ![4, 8448, 4, 64]⟩
abbrev S4x4x8448x64 : Shape := ⟨4, ![4, 4, 8448, 64]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x4x8192x128 : Shape := ⟨4, ![4, 4, 8192, 128]⟩
abbrev S4x8192x4x128 : Shape := ⟨4, ![4, 8192, 4, 128]⟩
abbrev S4x256x4x2x64 : Shape := ⟨5, ![4, 256, 4, 2, 64]⟩
abbrev S4x256x4x128 : Shape := ⟨4, ![4, 256, 4, 128]⟩
abbrev S4x4x256x128 : Shape := ⟨4, ![4, 4, 256, 128]⟩
abbrev S4x256x4x1x64 : Shape := ⟨5, ![4, 256, 4, 1, 64]⟩
abbrev S4x256x4x64 : Shape := ⟨4, ![4, 256, 4, 64]⟩
abbrev S4x4x256x64 : Shape := ⟨4, ![4, 4, 256, 64]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S512 : Shape := ⟨1, ![512]⟩
abbrev S4x128 : Shape := ⟨2, ![4, 128]⟩
abbrev S4x8448x4 : Shape := ⟨3, ![4, 8448, 4]⟩
abbrev S4x8448x4x1 : Shape := ⟨4, ![4, 8448, 4, 1]⟩
abbrev S1x1x4x128 : Shape := ⟨4, ![1, 1, 4, 128]⟩

abbrev nBuf : Space → Nat
  | .hbm => 176
  | .vmem => 0
  | .smem => 0
  | _ => 0

abbrev hbmTy0_0 (i : Nat) : BufTy := match i % 128 with
  | 0 => ⟨S4x768x8448, .bf16⟩
  | 1 => ⟨S4x8448x640, .bf16⟩
  | 2 => ⟨S4x512x8448, .bf16⟩
  | 3 => ⟨S1024, .f32⟩
  | 4 => ⟨S64, .f32⟩
  | 5 => ⟨S64, .f32⟩
  | 6 => ⟨S64, .f32⟩
  | 7 => ⟨S64, .f32⟩
  | 8 => ⟨S_, .f32⟩
  | 9 => ⟨S4x768x8448, .f32⟩
  | 10 => ⟨S4x512x8448, .f32⟩
  | 11 => ⟨S4x8448x512, .f32⟩
  | 12 => ⟨S4x8448x4x2x64, .f32⟩
  | 13 => ⟨S4x8448x640, .f32⟩
  | 14 => ⟨S4x8448x512, .f32⟩
  | 15 => ⟨S4x8448x4x2x64, .f32⟩
  | 16 => ⟨S4x512x8448, .f32⟩
  | 17 => ⟨S4x8448x512, .f32⟩
  | 18 => ⟨S4x8448x4x128, .f32⟩
  | 19 => ⟨S64, .f32⟩
  | 20 => ⟨S_, .f32⟩
  | 21 => ⟨S_, .f32⟩
  | 22 => ⟨S_, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S4x8192x4x2x64, .f32⟩
  | 30 => ⟨S4x4x8448x128, .f32⟩
  | 31 => ⟨S4x8192x4x1x64, .f32⟩
  | 32 => ⟨S4x8192x4x64, .f32⟩
  | 33 => ⟨S4x4x8192x64, .f32⟩
  | 34 => ⟨S4x8448x4x1x64, .f32⟩
  | 35 => ⟨S4x8448x4x64, .f32⟩
  | 36 => ⟨S4x4x8448x64, .f32⟩
  | 37 => ⟨S4x4x8192x8448, .f32⟩
  | 38 => ⟨S_, .f32⟩
  | 39 => ⟨S_, .f32⟩
  | 40 => ⟨S_, .f32⟩
  | 41 => ⟨S4x4x8192x8448, .f32⟩
  | 42 => ⟨S4x4x8192x8448, .f32⟩
  | 43 => ⟨S_, .f32⟩
  | 44 => ⟨S4x4x8192, .f32⟩
  | 45 => ⟨S_, .f32⟩
  | 46 => ⟨S4x4x8192, .f32⟩
  | 47 => ⟨S4x4x8192, .f32⟩
  | 48 => ⟨S4x4x8192x1, .f32⟩
  | 49 => ⟨S4x4x8192x8448, .f32⟩
  | 50 => ⟨S4x4x8192x8448, .f32⟩
  | 51 => ⟨S4x4x8192x8448, .f32⟩
  | 52 => ⟨S_, .f32⟩
  | 53 => ⟨S4x4x8192, .f32⟩
  | 54 => ⟨S4x4x8192x1, .f32⟩
  | 55 => ⟨S4x4x8192x8448, .f32⟩
  | 56 => ⟨S4x4x8192x8448, .f32⟩
  | 57 => ⟨S4x4x8192x128, .f32⟩
  | 58 => ⟨S4x8192x4x1x64, .f32⟩
  | 59 => ⟨S4x8192x4x64, .f32⟩
  | 60 => ⟨S4x4x8192x64, .f32⟩
  | 61 => ⟨S4x8448x4x1x64, .f32⟩
  | 62 => ⟨S4x8448x4x64, .f32⟩
  | 63 => ⟨S4x4x8448x64, .f32⟩
  | 64 => ⟨S4x4x8192x8448, .f32⟩
  | 65 => ⟨S_, .f32⟩
  | 66 => ⟨S_, .f32⟩
  | 67 => ⟨S_, .f32⟩
  | 68 => ⟨S4x4x8192x8448, .f32⟩
  | 69 => ⟨S4x4x8192x8448, .f32⟩
  | 70 => ⟨S_, .f32⟩
  | 71 => ⟨S4x4x8192, .f32⟩
  | 72 => ⟨S_, .f32⟩
  | 73 => ⟨S4x4x8192, .f32⟩
  | 74 => ⟨S4x4x8192, .f32⟩
  | 75 => ⟨S4x4x8192x1, .f32⟩
  | 76 => ⟨S4x4x8192x8448, .f32⟩
  | 77 => ⟨S4x4x8192x8448, .f32⟩
  | 78 => ⟨S4x4x8192x8448, .f32⟩
  | 79 => ⟨S_, .f32⟩
  | 80 => ⟨S4x4x8192, .f32⟩
  | 81 => ⟨S4x4x8192x1, .f32⟩
  | 82 => ⟨S4x4x8192x8448, .f32⟩
  | 83 => ⟨S4x4x8192x8448, .f32⟩
  | 84 => ⟨S4x4x8192x128, .f32⟩
  | 85 => ⟨S4x4x8192x128, .f32⟩
  | 86 => ⟨S4x4x8192x128, .f32⟩
  | 87 => ⟨S4x4x8192x128, .f32⟩
  | 88 => ⟨S4x8192x4x128, .f32⟩
  | 89 => ⟨S4x256x4x2x64, .f32⟩
  | 90 => ⟨S4x256x4x2x64, .f32⟩
  | 91 => ⟨S4x256x4x128, .f32⟩
  | 92 => ⟨S4x4x256x128, .f32⟩
  | 93 => ⟨S4x256x4x1x64, .f32⟩
  | 94 => ⟨S4x256x4x64, .f32⟩
  | 95 => ⟨S4x4x256x64, .f32⟩
  | 96 => ⟨S4x256x4x1x64, .f32⟩
  | 97 => ⟨S4x256x4x64, .f32⟩
  | 98 => ⟨S4x4x256x64, .f32⟩
  | 99 => ⟨S4x4x256x256, .f32⟩
  | 100 => ⟨S_, .f32⟩
  | 101 => ⟨S_, .f32⟩
  | 102 => ⟨S_, .f32⟩
  | 103 => ⟨S4x4x256x256, .f32⟩
  | 104 => ⟨S4x4x256x256, .f32⟩
  | 105 => ⟨S_, .f32⟩
  | 106 => ⟨S4x4x256, .f32⟩
  | 107 => ⟨S_, .f32⟩
  | 108 => ⟨S4x4x256, .f32⟩
  | 109 => ⟨S4x4x256, .f32⟩
  | 110 => ⟨S4x4x256x1, .f32⟩
  | 111 => ⟨S4x4x256x256, .f32⟩
  | 112 => ⟨S4x4x256x256, .f32⟩
  | 113 => ⟨S4x4x256x256, .f32⟩
  | 114 => ⟨S_, .f32⟩
  | 115 => ⟨S4x4x256, .f32⟩
  | 116 => ⟨S4x4x256x1, .f32⟩
  | 117 => ⟨S4x4x256x256, .f32⟩
  | 118 => ⟨S4x4x256x256, .f32⟩
  | 119 => ⟨S4x4x256x128, .f32⟩
  | 120 => ⟨S4x256x4x1x64, .f32⟩
  | 121 => ⟨S4x256x4x64, .f32⟩
  | 122 => ⟨S4x4x256x64, .f32⟩
  | 123 => ⟨S4x256x4x1x64, .f32⟩
  | 124 => ⟨S4x256x4x64, .f32⟩
  | 125 => ⟨S4x4x256x64, .f32⟩
  | 126 => ⟨S4x4x256x256, .f32⟩
  | 127 => ⟨S_, .f32⟩
  | _ => ⟨S4x768x8448, .bf16⟩

abbrev hbmTy0_1 (i : Nat) : BufTy := match i % 128 with
  | 0 => ⟨S_, .f32⟩
  | 1 => ⟨S_, .f32⟩
  | 2 => ⟨S4x4x256x256, .f32⟩
  | 3 => ⟨S4x4x256x256, .f32⟩
  | 4 => ⟨S_, .f32⟩
  | 5 => ⟨S4x4x256, .f32⟩
  | 6 => ⟨S_, .f32⟩
  | 7 => ⟨S4x4x256, .f32⟩
  | 8 => ⟨S4x4x256, .f32⟩
  | 9 => ⟨S4x4x256x1, .f32⟩
  | 10 => ⟨S4x4x256x256, .f32⟩
  | 11 => ⟨S4x4x256x256, .f32⟩
  | 12 => ⟨S4x4x256x256, .f32⟩
  | 13 => ⟨S_, .f32⟩
  | 14 => ⟨S4x4x256, .f32⟩
  | 15 => ⟨S4x4x256x1, .f32⟩
  | 16 => ⟨S4x4x256x256, .f32⟩
  | 17 => ⟨S4x4x256x256, .f32⟩
  | 18 => ⟨S4x4x256x128, .f32⟩
  | 19 => ⟨S4x4x256x128, .f32⟩
  | 20 => ⟨S4x4x256x128, .f32⟩
  | 21 => ⟨S4x4x256x128, .f32⟩
  | 22 => ⟨S4x256x4x128, .f32⟩
  | 23 => ⟨S4x8448x4x128, .f32⟩
  | 24 => ⟨S512, .f32⟩
  | 25 => ⟨S4x128, .f32⟩
  | 26 => ⟨S4x8448x4x128, .f32⟩
  | 27 => ⟨S_, .f32⟩
  | 28 => ⟨S4x8448x4, .f32⟩
  | 29 => ⟨S4x8448x4x1, .f32⟩
  | 30 => ⟨S_, .f32⟩
  | 31 => ⟨S4x8448x4x1, .f32⟩
  | 32 => ⟨S4x8448x4x1, .f32⟩
  | 33 => ⟨S_, .f32⟩
  | 34 => ⟨S4x8448x4x1, .f32⟩
  | 35 => ⟨S4x8448x4x1, .f32⟩
  | 36 => ⟨S4x8448x4x1, .f32⟩
  | 37 => ⟨S4x8448x4x128, .f32⟩
  | 38 => ⟨S4x8448x4x128, .f32⟩
  | 39 => ⟨S1x1x4x128, .f32⟩
  | 40 => ⟨S4x8448x4x128, .f32⟩
  | 41 => ⟨S4x8448x4x128, .f32⟩
  | 42 => ⟨S_, .f32⟩
  | 43 => ⟨S_, .f32⟩
  | 44 => ⟨S4x8448x4x128, .f32⟩
  | 45 => ⟨S4x8448x4x128, .f32⟩
  | 46 => ⟨S4x8448x512, .f32⟩
  | 47 => ⟨S4x8448x512, .bf16⟩
  | _ => ⟨S4x768x8448, .bf16⟩

abbrev hbmTy (i : Nat) : BufTy := match i / 128 with
  | 0 => hbmTy0_0 i
  | 1 => hbmTy0_1 i
  | _ => ⟨S4x768x8448, .bf16⟩

abbrev bufTy : (tb : Table) → Fin (tcTables nBuf tb) → BufTy
  | .hbm, ⟨i, _⟩ => hbmTy i
  | _, _ => ⟨S4x768x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_10 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_12 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_13 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_14 : Ref sig .tc := ⟨.hbm, 132, rfl⟩
abbrev main_v108 : Ref sig .tc := ⟨.hbm, 133, rfl⟩
abbrev main_cst_15 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_16 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_17 : Ref sig .tc := ⟨.hbm, 155, rfl⟩
abbrev main_v128 : Ref sig .tc := ⟨.hbm, 156, rfl⟩
abbrev main_v129 : Ref sig .tc := ⟨.hbm, 157, rfl⟩
abbrev main_cst_18 : Ref sig .tc := ⟨.hbm, 158, rfl⟩
abbrev main_v130 : Ref sig .tc := ⟨.hbm, 159, rfl⟩
abbrev main_v131 : Ref sig .tc := ⟨.hbm, 160, rfl⟩
abbrev main_cst_19 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_20 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x6x1024 : Shape := ⟨3, ![4, 6, 1024]⟩
abbrev S6x1024 : Shape := ⟨2, ![6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x2x1024 : Shape := ⟨3, ![4, 2, 1024]⟩
abbrev S1x6x1024 : Shape := ⟨3, ![1, 6, 1024]⟩
abbrev S4x16x1024 : Shape := ⟨3, ![4, 16, 1024]⟩
abbrev S1024x2816 : Shape := ⟨2, ![1024, 2816]⟩
abbrev S1x1024 : Shape := ⟨2, ![1, 1024]⟩
abbrev S1x2816 : Shape := ⟨2, ![1, 2816]⟩
abbrev S1x768x1024 : Shape := ⟨3, ![1, 768, 1024]⟩
abbrev S1x8x1024 : Shape := ⟨3, ![1, 8, 1024]⟩
abbrev S1x16x1024 : Shape := ⟨3, ![1, 16, 1024]⟩
abbrev S768x1024 : Shape := ⟨2, ![768, 1024]⟩
abbrev S8x1024 : Shape := ⟨2, ![8, 1024]⟩
abbrev S784x1024 : Shape := ⟨2, ![784, 1024]⟩
abbrev S784x1 : Shape := ⟨2, ![784, 1]⟩
abbrev S784 : Shape := ⟨1, ![784]⟩
abbrev S1x1x1024 : Shape := ⟨3, ![1, 1, 1024]⟩
abbrev S768x1 : Shape := ⟨2, ![768, 1]⟩
abbrev S1024x1536 : Shape := ⟨2, ![1024, 1536]⟩
abbrev S784x1536 : Shape := ⟨2, ![784, 1536]⟩
abbrev S768x1536 : Shape := ⟨2, ![768, 1536]⟩
abbrev S1024x1280 : Shape := ⟨2, ![1024, 1280]⟩
abbrev S784x1280 : Shape := ⟨2, ![784, 1280]⟩
abbrev S768x1280 : Shape := ⟨2, ![768, 1280]⟩
abbrev S1x1536 : Shape := ⟨2, ![1, 1536]⟩
abbrev S1536x1024 : Shape := ⟨2, ![1536, 1024]⟩
abbrev S1x1280 : Shape := ⟨2, ![1, 1280]⟩
abbrev S1280x1024 : Shape := ⟨2, ![1280, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S4x6x1024, .f32⟩
  | .hbm, ⟨2, _⟩ => ⟨S6x1024, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S_, .f32⟩
  | .hbm, ⟨9, _⟩ => ⟨S4x2x1024, .f32⟩
  | .hbm, ⟨10, _⟩ => ⟨S1x6x1024, .f32⟩
  | .hbm, ⟨11, _⟩ => ⟨S4x6x1024, .f32⟩
  | .hbm, ⟨12, _⟩ => ⟨S4x16x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S1x2816, .f32⟩
  | .hbm, ⟨20, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x768x1024, .f32⟩
  | .local _ .vmem, ⟨15, _⟩ => ⟨S1x768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.muli arg1 c96_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c96_i32 : BitVec 32 := 96#32
  let v1 : BitVec 32 := Scalar.muli v0 c96_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x8448x1024 : Shape := ⟨3, ![4, 8448, 1024]⟩
abbrev S4x6x1024 : Shape := ⟨3, ![4, 6, 1024]⟩
abbrev S6x1024 : Shape := ⟨2, ![6, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x256x1024 : Shape := ⟨3, ![4, 256, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S4x256x5632 : Shape := ⟨3, ![4, 256, 5632]⟩
abbrev S4x256x2816 : Shape := ⟨3, ![4, 256, 2816]⟩
abbrev S4x258x2816 : Shape := ⟨3, ![4, 258, 2816]⟩

abbrev nBuf : Space → Nat
  | .hbm => 166
  | .vmem => 0
  | .smem => 0
  | _ => 0

abbrev hbmTy0_0 (i : Nat) : BufTy := match i % 128 with
  | 0 => ⟨S4x8448x1024, .f32⟩
  | 1 => ⟨S4x6x1024, .f32⟩
  | 2 => ⟨S6x1024, .f32⟩
  | 3 => ⟨S1024, .f32⟩
  | 4 => ⟨S1024x5632, .f32⟩
  | 5 => ⟨S3x2816, .f32⟩
  | 6 => ⟨S2816, .f32⟩
  | 7 => ⟨S2816x1024, .f32⟩
  | 8 => ⟨S4x256x1024, .f32⟩
  | 9 => ⟨S4x8192x1024, .f32⟩
  | 10 => ⟨S4x1x1024, .f32⟩
  | 11 => ⟨S4x1x1024, .f32⟩
  | 12 => ⟨S4x1x1024, .f32⟩
  | 13 => ⟨S1x1024, .f32⟩
  | 14 => ⟨S1x1024, .f32⟩
  | 15 => ⟨S1x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S4x256x1024, .f32⟩
  | 40 => ⟨S_, .f32⟩
  | 41 => ⟨S4x256, .f32⟩
  | 42 => ⟨S4x256x1, .f32⟩
  | 43 => ⟨S_, .f32⟩
  | 44 => ⟨S4x256x1, .f32⟩
  | 45 => ⟨S4x256x1, .f32⟩
  | 46 => ⟨S_, .f32⟩
  | 47 => ⟨S4x256x1, .f32⟩
  | 48 => ⟨S4x256x1, .f32⟩
  | 49 => ⟨S4x256x1, .f32⟩
  | 50 => ⟨S4x256x1024, .f32⟩
  | 51 => ⟨S4x256x1024, .f32⟩
  | 52 => ⟨S1x1x1024, .f32⟩
  | 53 => ⟨S4x256x1024, .f32⟩
  | 54 => ⟨S4x256x1024, .f32⟩
  | 55 => ⟨S_, .f32⟩
  | 56 => ⟨S1x1024, .f32⟩
  | 57 => ⟨S1x1024, .f32⟩
  | 58 => ⟨S1x1x1024, .f32⟩
  | 59 => ⟨S4x256x1024, .f32⟩
  | 60 => ⟨S4x256x1024, .f32⟩
  | 61 => ⟨S1x1x1024, .f32⟩
  | 62 => ⟨S4x256x1024, .f32⟩
  | 63 => ⟨S4x256x1024, .f32⟩
  | 64 => ⟨S4x8192x5632, .f32⟩
  | 65 => ⟨S4x8192x2816, .f32⟩
  | 66 => ⟨S4x8192x2816, .f32⟩
  | 67 => ⟨S_, .f32⟩
  | 68 => ⟨S4x8194x2816, .f32⟩
  | 69 => ⟨S4x8192x2816, .f32⟩
  | 70 => ⟨S1x2816, .f32⟩
  | 71 => ⟨S2816, .f32⟩
  | 72 => ⟨S1x1x2816, .f32⟩
  | 73 => ⟨S4x8192x2816, .f32⟩
  | 74 => ⟨S4x8192x2816, .f32⟩
  | 75 => ⟨S4x8192x2816, .f32⟩
  | 76 => ⟨S1x2816, .f32⟩
  | 77 => ⟨S2816, .f32⟩
  | 78 => ⟨S1x1x2816, .f32⟩
  | 79 => ⟨S4x8192x2816, .f32⟩
  | 80 => ⟨S4x8192x2816, .f32⟩
  | 81 => ⟨S4x8192x2816, .f32⟩
  | 82 => ⟨S4x8192x2816, .f32⟩
  | 83 => ⟨S1x2816, .f32⟩
  | 84 => ⟨S2816, .f32⟩
  | 85 => ⟨S1x1x2816, .f32⟩
  | 86 => ⟨S4x8192x2816, .f32⟩
  | 87 => ⟨S4x8192x2816, .f32⟩
  | 88 => ⟨S4x8192x2816, .f32⟩
  | 89 => ⟨S1x1x2816, .f32⟩
  | 90 => ⟨S4x8192x2816, .f32⟩
  | 91 => ⟨S4x8192x2816, .f32⟩
  | 92 => ⟨S4x8192x2816, .f32⟩
  | 93 => ⟨S4x8192x2816, .f32⟩
  | 94 => ⟨S_, .f32⟩
  | 95 => ⟨S4x8192x2816, .f32⟩
  | 96 => ⟨S4x8192x2816, .f32⟩
  | 97 => ⟨S4x8192x2816, .f32⟩
  | 98 => ⟨S_, .f32⟩
  | 99 => ⟨S4x8192x2816, .f32⟩
  | 100 => ⟨S4x8192x2816, .f32⟩
  | 101 => ⟨S4x8192x2816, .f32⟩
  | 102 => ⟨S_, .f32⟩
  | 103 => ⟨S4x8192x2816, .f32⟩
  | 104 => ⟨S4x8192x2816, .f32⟩
  | 105 => ⟨S_, .f32⟩
  | 106 => ⟨S4x8192x2816, .f32⟩
  | 107 => ⟨S4x8192x2816, .f32⟩
  | 108 => ⟨S4x8192x2816, .f32⟩
  | 109 => ⟨S4x8192x2816, .f32⟩
  | 110 => ⟨S4x8192x1024, .f32⟩
  | 111 => ⟨S4x8192x1024, .f32⟩
  | 112 => ⟨S4x8192x1024, .f32⟩
  | 113 => ⟨S4x8192x1024, .f32⟩
  | 114 => ⟨S4x256x5632, .f32⟩
  | 115 => ⟨S4x256x2816, .f32⟩
  | 116 => ⟨S4x256x2816, .f32⟩
  | 117 => ⟨S_, .f32⟩
  | 118 => ⟨S4x258x2816, .f32⟩
  | 119 => ⟨S4x256x2816, .f32⟩
  | 120 => ⟨S1x2816, .f32⟩
  | 121 => ⟨S2816, .f32⟩
  | 122 => ⟨S1x1x2816, .f32⟩
  | 123 => ⟨S4x256x2816, .f32⟩
  | 124 => ⟨S4x256x2816, .f32⟩
  | 125 => ⟨S4x256x2816, .f32⟩
  | 126 => ⟨S1x2816, .f32⟩
  | 127 => ⟨S2816, .f32⟩
  | _ => ⟨S4x8448x1024, .f32⟩

abbrev hbmTy0_1 (i : Nat) : BufTy := match i % 128 with
  | 0 => ⟨S1x1x2816, .f32⟩
  | 1 => ⟨S4x256x2816, .f32⟩
  | 2 => ⟨S4x256x2816, .f32⟩
  | 3 => ⟨S4x256x2816, .f32⟩
  | 4 => ⟨S4x256x2816, .f32⟩
  | 5 => ⟨S1x2816, .f32⟩
  | 6 => ⟨S2816, .f32⟩
  | 7 => ⟨S1x1x2816, .f32⟩
  | 8 => ⟨S4x256x2816, .f32⟩
  | 9 => ⟨S4x256x2816, .f32⟩
  | 10 => ⟨S4x256x2816, .f32⟩
  | 11 => ⟨S1x1x2816, .f32⟩
  | 12 => ⟨S4x256x2816, .f32⟩
  | 13 => ⟨S4x256x2816, .f32⟩
  | 14 => ⟨S4x256x2816, .f32⟩
  | 15 => ⟨S4x256x2816, .f32⟩
  | 16 => ⟨S_, .f32⟩
  | 17 => ⟨S4x256x2816, .f32⟩
  | 18 => ⟨S4x256x2816, .f32⟩
  | 19 => ⟨S4x256x2816, .f32⟩
  | 20 => ⟨S_, .f32⟩
  | 21 => ⟨S4x256x2816, .f32⟩
  | 22 => ⟨S4x256x2816, .f32⟩
  | 23 => ⟨S4x256x2816, .f32⟩
  | 24 => ⟨S_, .f32⟩
  | 25 => ⟨S4x256x2816, .f32⟩
  | 26 => ⟨S4x256x2816, .f32⟩
  | 27 => ⟨S_, .f32⟩
  | 28 => ⟨S4x256x2816, .f32⟩
  | 29 => ⟨S4x256x2816, .f32⟩
  | 30 => ⟨S4x256x2816, .f32⟩
  | 31 => ⟨S4x256x2816, .f32⟩
  | 32 => ⟨S4x256x1024, .f32⟩
  | 33 => ⟨S1x1x1024, .f32⟩
  | 34 => ⟨S4x256x1024, .f32⟩
  | 35 => ⟨S4x256x1024, .f32⟩
  | 36 => ⟨S4x256x1024, .f32⟩
  | 37 => ⟨S4x8448x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_13 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_14 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_cst_16 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩

abbrev nD : Nat := 1
abbrev τ : Topo := Topo.v7x

variable {F : FTy → Type} [FloatOps F]
-- ==== Proof.Softmax.lean ====
/- Softmax attention of one query over extended reals: both ways of computing it give one real number. -/
module

public import Idealize.ShloMosaic.PureOps.Ideal
public import Idealize.ShloMosaic.PureOps.Ideal.Laws

@[expose] public section

noncomputable section

namespace Cert.Attn

open Idealize.ShloMosaic

/-- The attention of one query whose scores against the keys are `s` (in powers of two), over the values `v`: the weights
    are real and positive, the values any extended reals. -/
def att {ι : Type} [Fintype ι] (s : ι → ℝ) (v : ι → EReal) : EReal :=
  ∑ k, (((2 : ℝ) ^ s k / ∑ i, (2 : ℝ) ^ s i : ℝ) : EReal) * v k

/-- A finite extended real is the real it is cast from. -/
theorem coe_toReal_of_abs_lt {x : EReal} (h : max x (-x) < ⊤) : ((x.toReal : ℝ) : EReal) = x := by
  refine EReal.coe_toReal ?_ ?_
  · rintro rfl; simp at h
  · rintro rfl; simp at h

/-- A finite sum of reals, cast. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Neither infinity. -/
def Fin' (x : EReal) : Prop := ∃ r : ℝ, x = r

/-- A real is neither. -/
theorem fin'_coe (r : ℝ) : Fin' (r : EReal) := ⟨r, rfl⟩

/-- A maximum of two values below `⊤`. -/
theorem max_ne_top {a b : EReal} (ha : a ≠ ⊤) (hb : b ≠ ⊤) : max a b ≠ ⊤ := by
  rcases max_choice a b with h | h <;> rw [h] <;> assumption

/-- A running maximum of values below `⊤` from a start below `⊤` is below `⊤`. -/
theorem fold_max_ne_top {ι : Type} (t : Finset ι) (f : ι → EReal) (b : EReal) (hb : b ≠ ⊤) (hf : ∀ k, f k ≠ ⊤) :
    t.fold max b f ≠ ⊤ := by
  classical
  induction t using Finset.induction_on with
  | empty => simpa
  | insert a t ha ih => rw [Finset.fold_insert ha]; exact max_ne_top (hf a) ih

/-- A maximum with one real, the other value below `⊤`, is real. -/
theorem fin'_max {a b : EReal} (ha : Fin' a) (hb : b ≠ ⊤) : Fin' (max a b) := by
  obtain ⟨r, rfl⟩ := ha
  have h1 : max (r : EReal) b ≠ ⊤ := max_ne_top (EReal.coe_ne_top r) hb
  have h2 : max (r : EReal) b ≠ ⊥ := fun h => EReal.coe_ne_bot r (le_bot_iff.1 (h ▸ le_max_left _ _))
  exact ⟨_, (EReal.coe_toReal h1 h2).symm⟩

/-- A running maximum over a nonempty set of reals, from a start below `⊤`, is real. -/
theorem fin'_fold_max {ι : Type} (t : Finset ι) (ht : t.Nonempty) (f : ι → EReal) (b : EReal) (hb : b ≠ ⊤)
    (hf : ∀ k, Fin' (f k)) : Fin' (t.fold max b f) := by
  classical
  obtain ⟨a, ha⟩ := ht
  rw [← Finset.insert_erase ha, Finset.fold_insert (Finset.notMem_erase a t)]
  refine fin'_max (hf a) (fold_max_ne_top _ _ _ hb fun k => ?_)
  obtain ⟨r, hr⟩ := hf k
  rw [hr]; exact EReal.coe_ne_top r

/-- A shifted power of two. -/
theorem rpow_sub_shift (s M : ℝ) : Real.rpow 2 (s - M) = (2 : ℝ) ^ s / (2 : ℝ) ^ M :=
  Real.rpow_sub (by norm_num) s M

/-- A sum of powers of two is positive. -/
theorem sum_pow_pos {ι : Type} [Fintype ι] [Nonempty ι] (s : ι → ℝ) : 0 < ∑ k, (2 : ℝ) ^ s k :=
  Finset.sum_pos (fun _ _ => Real.rpow_pos_of_pos (by norm_num) _) Finset.univ_nonempty

/-- A real factor that is not negative goes into a sum of extended reals. -/
theorem sum_mul_coe {ι : Type} (t : Finset ι) (f : ι → EReal) (c : ℝ) (hc : 0 ≤ c) : (∑ k ∈ t, f k) * (c : EReal) = ∑ k ∈ t, f k * c := by
  classical
  induction t using Finset.induction_on with
  | empty => simp
  | insert a t ha ih =>
    rw [Finset.sum_insert ha, Finset.sum_insert ha, EReal.right_distrib_of_nonneg_of_ne_top (EReal.coe_nonneg.2 hc) (EReal.coe_ne_top c), ih]

/-- Weights `2^(s - M)` over their sum do not depend on the real `M`. -/
theorem weight_of_shift {ι : Type} [Fintype ι] [Nonempty ι] (s : ι → ℝ) (M : ℝ) (k : ι) :
    Real.rpow 2 (s k - M) * (1 / ∑ i, Real.rpow 2 (s i - M)) = (2 : ℝ) ^ s k / ∑ i, (2 : ℝ) ^ s i := by
  have hM : (2 : ℝ) ^ M ≠ 0 := (Real.rpow_pos_of_pos (by norm_num) M).ne'
  have hS := (sum_pow_pos s).ne'
  have h2 : ∑ k, Real.rpow 2 (s k - M) = (∑ k, (2 : ℝ) ^ s k) / (2 : ℝ) ^ M := by
    rw [Finset.sum_div]; exact Finset.sum_congr rfl fun k _ => rpow_sub_shift _ _
  rw [h2, rpow_sub_shift]
  field_simp

/-- Two to the `s`, by the natural exponential. -/
theorem exp_log_two (s : ℝ) : Real.exp (s * Real.log 2) = (2 : ℝ) ^ s := by
  rw [Real.rpow_def_of_pos (by norm_num), mul_comm]

/-- Natural exponentials of scores times `log 2`, shifted by any real, over their sum: the same weights. -/
theorem weight_of_softmax {ι : Type} [Fintype ι] [Nonempty ι] (s : ι → ℝ) (M : ℝ) (k : ι) :
    Real.exp (s k * Real.log 2 - M) / ∑ i, Real.exp (s i * Real.log 2 - M) = (2 : ℝ) ^ s k / ∑ i, (2 : ℝ) ^ s i := by
  have hM : Real.exp M ≠ 0 := (Real.exp_pos M).ne'
  have hS := (sum_pow_pos s).ne'
  have h2 : ∑ k, Real.exp (s k * Real.log 2 - M) = (∑ k, (2 : ℝ) ^ s k) / Real.exp M := by
    rw [Finset.sum_div]; refine Finset.sum_congr rfl fun k _ => ?_
    rw [Real.exp_sub, exp_log_two]
  rw [h2, Real.exp_sub, exp_log_two]
  field_simp

/-- The reference's way: the scores times `log 2`, any finite shift, the host's softmax, then the weighted sum. -/
theorem host_att {ι : Type} [Fintype ι] [Nonempty ι] (s : ι → ℝ) (v : ι → EReal) (M z : EReal) (hM : Fin' M) (hz : z = 0) :
    ∑ k, Ideal.div (Ideal.exp ((s k : EReal) * ((Real.log 2 : ℝ) : EReal) - M))
        (z + ∑ i, Ideal.exp ((s i : EReal) * ((Real.log 2 : ℝ) : EReal) - M)) * v k = att s v := by
  obtain ⟨M, rfl⟩ := hM
  subst hz
  have hpos : (0 : ℝ) < ∑ i, Real.exp (s i * Real.log 2 - M) :=
    Finset.sum_pos (fun _ _ => Real.exp_pos _) Finset.univ_nonempty
  refine Finset.sum_congr rfl fun k _ => ?_
  have he : ∀ i, Ideal.exp ((s i : EReal) * ((Real.log 2 : ℝ) : EReal) - (M : EReal))
      = ((Real.exp (s i * Real.log 2 - M) : ℝ) : EReal) := fun i => by
    rw [← EReal.coe_mul, ← EReal.coe_sub, Ideal.exp_coe]
  simp only [he]
  rw [zero_add, ← coe_sum, Ideal.div_coe hpos.ne', ← EReal.coe_mul, ← weight_of_softmax s M k]
  congr 2
  rw [mul_one_div]

end Cert.Attn

end
-- ==== Proof.Spec.lean ====
/- The mathematics both programs compute: differential attention with its head norm, as a function of the arguments. -/
module

public import proofs.«01_k».proof.Proof.Softmax
public import Idealize.ShloMosaic.Lib.ValueIdx

@[expose] public section

noncomputable section

namespace Cert.Attn

open Idealize.ShloMosaic Idealize.ShloMosaic.ValueIdx

/-- The queries `[batch, feature, position]`. -/
abbrev QArr := (⟨3, ![4, 768, 8448]⟩ : Shape).Idx → EReal
/-- The keys `[batch, position, feature]`. -/
abbrev KArr := (⟨3, ![4, 8448, 640]⟩ : Shape).Idx → EReal
/-- The values `[batch, feature, position]`. -/
abbrev VArr := (⟨3, ![4, 512, 8448]⟩ : Shape).Idx → EReal
/-- A vector of 64. -/
abbrev LArr := (⟨1, ![64]⟩ : Shape).Idx → EReal
/-- The norm's weights. -/
abbrev GArr := (⟨1, ![1024]⟩ : Shape).Idx → EReal
/-- One number. -/
abbrev SArr := (⟨0, ![]⟩ : Shape).Idx → EReal

/-- The score, in powers of two, of query `p` against key `r`: component `c` of head `h` of batch element `b`. -/
def sc (q : QArr) (k : KArr) (b h : Fin 4) (c : Fin 2) (p r : Fin 8448) : ℝ :=
  ∑ d : Fin 64, (q (ix3 b ⟨256 + h.val * 128 + c.val * 64 + d.val, by omega⟩ p)).toReal
    * (k (ix3 b r ⟨128 + h.val * 128 + c.val * 64 + d.val, by omega⟩)).toReal

/-- Feature `j` of the value at key `r`, of head `h`. -/
def vl (v : VArr) (b h : Fin 4) (j : Fin 128) (r : Fin 8448) : EReal :=
  v (ix3 b ⟨h.val * 128 + j.val, by omega⟩ r)

/-- A key of the context. -/
abbrev ctxKey (r : Fin 256) : Fin 8448 := ⟨r.val, by omega⟩

/-- One component's attention: a query of the context attends the context, the others attend every key. -/
def attn (q : QArr) (k : KArr) (v : VArr) (b h : Fin 4) (c : Fin 2) (p : Fin 8448) (j : Fin 128) : EReal :=
  if p.val < 256 then att (fun r : Fin 256 => sc q k b h c p (ctxKey r)) (fun r => vl v b h j (ctxKey r))
  else att (sc q k b h c p) (vl v b h j)

/-- The weight of the second component. -/
def lam (l₁ l₂ l₃ l₄ : LArr) (li : SArr) : EReal :=
  Ideal.exp (∑ d : Fin 64, l₁ (ix1 d) * l₂ (ix1 d)) - Ideal.exp (∑ d : Fin 64, l₃ (ix1 d) * l₄ (ix1 d)) + li ix0

/-- The difference of the two components. -/
def dif (q : QArr) (k : KArr) (v : VArr) (w : EReal) (b h : Fin 4) (p : Fin 8448) (j : Fin 128) : EReal :=
  attn q k v b h 0 p j - w * attn q k v b h 1 p j

/-- The norm of one query's head `y`, weighted by `g` and by one minus `li`. -/
def normed (y : Fin 128 → EReal) (g li : EReal) (j : Fin 128) : EReal :=
  y j * Ideal.rsqrt (Ideal.div (∑ i, y i * y i) (Ideal.ofBits .f32 0x43000000#32) + Ideal.ofBits .f32 0x358637BD#32)
    * g * (Ideal.ofBits .f32 0x3F800000#32 - li)

/-- Feature `j` of head `h` of the result, at position `p`. -/
def outv (q : QArr) (k : KArr) (v : VArr) (g : GArr) (l₁ l₂ l₃ l₄ : LArr) (li : SArr) (b h : Fin 4) (p : Fin 8448)
    (j : Fin 128) : EReal :=
  normed (dif q k v (lam l₁ l₂ l₃ l₄ li) b h p) (g (ix1 ⟨512 + h.val * 128 + j.val, by omega⟩)) (li ix0) j

/-- An array none of whose entries is an infinity. -/
def Finite {ι : Type} (x : ι → EReal) : Prop := ∀ i, (((x i).toReal : ℝ) : EReal) = x i

end Cert.Attn

end
-- ==== Proof.Pre.lean ====
/- The precondition, read back: every entry of the queries and the keys is a real number. -/
module

public import proofs.«01_k».proof.Defs
public import proofs.«01_k».proof.Proof.Softmax
public import proofs.«01_k».proof.Proof.Spec
public import Idealize.ShloMosaic.Lib.ReduceAll
public import Idealize.ShloMosaic.Lib.Affine
public import Idealize.ShloMosaic.Lib.Decide

@[expose] public section

set_option maxRecDepth 16384

noncomputable section

namespace Cert.Attn.Pre

open Idealize.ShloMosaic Idealize.ShloMosaic.TcCoe Idealize.SL.Sem Cert.Attn Cert.Pre_finite

/-- The narrow float is narrower. -/
theorem bits : FTy.bits .bf16 < FTy.bits .f32 := by decide
/-- A scalar spreads over the queries' shape. -/
theorem bcast_q : S_.BroadcastsInDim S4x768x8448 (![] : Fin 0 → Fin S4x768x8448.rank) := by decide
/-- The queries' shape reduces to a scalar. -/
theorem red_q : S4x768x8448.ReducesTo [0, 1, 2] S_ := by decide
/-- A scalar has one entry. -/
theorem pos_one : 0 < S_.numel := by decide
/-- A scalar spreads over the keys' shape. -/
theorem bcast_k : S_.BroadcastsInDim S4x8448x640 (![] : Fin 0 → Fin S4x8448x640.rank) := by decide
/-- The keys' shape reduces to a scalar. -/
theorem red_k : S4x8448x640.ReducesTo [0, 1, 2] S_ := by decide
/-- The shape relations the precondition's operations take. -/
theorem facts : Cert.Pre_finite.Facts where
  bitsLt_bf16_f32 := bits
  bcast_S_S4x768x8448 := bcast_q
  reducesTo_S4x768x8448_S_d0_1_2 := red_q
  h_S_ := pos_one
  bcast_S_S4x8448x640 := bcast_k
  reducesTo_S4x8448x640_S_d0_1_2 := red_k

/-- A scalar's index is the only one. -/
instance : Subsingleton S_.Idx := ⟨fun a b => funext fun i => i.elim0⟩

/-- The word `0x7F800000` is `+∞`. -/
theorem inf_word : Ideal.ofBits .f32 0x7F800000#32 = (⊤ : EReal) := by simp [Ideal.ofBits, Ideal.ieee]

/-- An array whose `jnp.all(|x| < ∞)` is true holds real numbers only. -/
theorem finite_of_all {s : Shape} (x : FVec Ideal s .bf16) (hb : S_.BroadcastsInDim s (![] : Fin 0 → Fin s.rank)) (axes : List (Fin s.rank))
    (hr : s.ReducesTo axes S_) (j : S_.Idx)
    (e : Host.reduce IntOp.andi (cmpf .olt (Host.absf (extf .f32 x bits)) (broadcastInDim s ![] hb (constant (F := Ideal) S_ .f32 0x7F800000#32))) (constantI S_ 1 1#1) hr pos_one j = 1#1) :
    Finite (ι := s.Idx) x := by
  intro i
  have h := Host.reduce_andi_all _ _ _ _ j e i
  refine coe_toReal_of_abs_lt ?_
  by_contra hn
  have hd : Ideal.cmp .olt (max (x i) (-(x i))) (Ideal.ofBits .f32 0x7F800000#32) = 1#1 := h
  rw [inf_word] at hd
  simp [Ideal.cmp, hn] at hd

/-- The precondition gives the two arrays finite. -/
theorem finite_of_pre [inst : Cert.Pre_finite.Facts] (x0 : FVec Ideal S4x768x8448 .bf16) (x1 : FVec Ideal S4x8448x640 .bf16) (x2 : FVec Ideal S4x512x8448 .bf16)
    (x3 : FVec Ideal S1024 .f32) (x4 x5 x6 x7 : FVec Ideal S64 .f32) (x8 : FVec Ideal S_ .f32)
    (h : Cert.Pre_finite.fn (F := Ideal) x0 x1 x2 x3 x4 x5 x6 x7 x8 = fun _ => 1#1) :
    Finite (ι := S4x768x8448.Idx) x0 ∧ Finite (ι := S4x8448x640.Idx) x1 := by
  have j : S_.Idx := fun i => i.elim0
  have e := congrFun h j
  have e' := IntOp.andi_eq_one.1 e
  exact ⟨finite_of_all x0 bcast_q [0, 1, 2] red_q j e'.1, finite_of_all x1 bcast_k [0, 1, 2] red_k j e'.2⟩

end Cert.Attn.Pre

end
-- ==== Proof.Blocks.lean ====
/- The kernel's vector operations on one block of keys, read at an index. -/
module

public import proofs.«01_k».proof.Proof.Softmax
public import proofs.«01_k».proof.Proof.Gen.KernelIdeal.Skeleton
public import Idealize.ShloMosaic.Lib.Pointwise
public import Idealize.ShloMosaic.PureOps.Reduce

@[expose] public section

set_option maxRecDepth 16384

noncomputable section

namespace Cert.Attn.Ker

open Idealize.ShloMosaic Cert.KernelIdeal Cert.KernelIdeal.Gen Cert.Attn

/-- The scores of a block of 768 keys against 256 queries. -/
def blkS (q : FVec Ideal S128x256 .bf16) (k : FVec Ideal S1x768x128 .bf16) : FVec Ideal S768x256 .f32 :=
  matmul dot_S768x128_S128x256_S768x256_1_0_0_1_n_n none (shapeCast S768x128 k shapeCasts_S1x768x128_S768x128) q
    (constant S768x256 .f32 0x00000000#32)

/-- A block's running maxima, one for each of 8 rows. -/
def blkM (s : FVec Ideal S768x256 .f32) : FVec Ideal S8x256 .f32 :=
  multiReduction .maximumf [0] S8x256 (shapeCast S96x8x256 s shapeCasts_S768x256_S96x8x256) 0xFF800000#32 reduces_S96x8x256_S8x256 (.inl rfl) rfl

/-- A block's weights, from its scores and the queries' shifts. -/
def blkP (m : FVec Ideal S1x256 .f32) (s : FVec Ideal S768x256 .f32) : FVec Ideal S768x256 .f32 :=
  exp2 (subf s (broadcastTo S768x256 m broadcasts_S1x256_S768x256))

/-- A block's sums of weights, one for each of 8 rows. -/
def blkL (p : FVec Ideal S768x256 .f32) : FVec Ideal S8x256 .f32 :=
  multiReduction .add [0] S8x256 (shapeCast S96x8x256 p shapeCasts_S768x256_S96x8x256) 0x00000000#32 reduces_S96x8x256_S8x256 (.inl rfl) rfl

/-- A block's weighted sum of values. -/
def blkA (v : FVec Ideal S1x128x768 .bf16) (p : FVec Ideal S768x256 .f32) : FVec Ideal S128x256 .f32 :=
  matmul dot_S128x768_S768x256_S128x256_1_0_0_1_n_n none (shapeCast S128x768 v shapeCasts_S1x128x768_S128x768)
    (truncf .bf16 p bitsLt_bf16_f32) (constant S128x256 .f32 0x00000000#32)

/-- The queries' shifts, from their running maxima. -/
def newM (m : FVec Ideal S1x256 .f32) (cm : FVec Ideal S8x256 .f32) : FVec Ideal S1x256 .f32 :=
  maximumf m (shapeCast S1x256 (multiReduction .maximumf [0] S256 cm 0xFF800000#32 reduces_S8x256_S256 (.inl rfl) rfl) shapeCasts_S256_S1x256)

/-- The scores of the 256 keys of the context. -/
def ctxS (q : FVec Ideal S128x256 .bf16) (k : FVec Ideal S1x256x128 .bf16) : FVec Ideal S256x256 .f32 :=
  matmul dot_S256x128_S128x256_S256x256_1_0_0_1_n_n none (shapeCast S256x128 k shapeCasts_S1x256x128_S256x128) q
    (constant S256x256 .f32 0x00000000#32)

/-- The context's running maxima. -/
def ctxM (s : FVec Ideal S256x256 .f32) : FVec Ideal S8x256 .f32 :=
  multiReduction .maximumf [0] S8x256 (shapeCast S32x8x256 s shapeCasts_S256x256_S32x8x256) 0xFF800000#32 reduces_S32x8x256_S8x256 (.inl rfl) rfl

/-- The context's weights. -/
def ctxP (m : FVec Ideal S1x256 .f32) (s : FVec Ideal S256x256 .f32) : FVec Ideal S256x256 .f32 :=
  exp2 (subf s (broadcastTo S256x256 m broadcasts_S1x256_S256x256))

/-- The context's sums of weights. -/
def ctxL (p : FVec Ideal S256x256 .f32) : FVec Ideal S8x256 .f32 :=
  multiReduction .add [0] S8x256 (shapeCast S32x8x256 p shapeCasts_S256x256_S32x8x256) 0x00000000#32 reduces_S32x8x256_S8x256 (.inl rfl) rfl

/-- The context's weighted sum of values. -/
def ctxA (v : FVec Ideal S1x128x256 .bf16) (p : FVec Ideal S256x256 .f32) : FVec Ideal S128x256 .f32 :=
  matmul dot_S128x256_S256x256_S128x256_1_0_0_1_n_n none (shapeCast S128x256 v shapeCasts_S1x128x256_S128x256)
    (truncf .bf16 p bitsLt_bf16_f32) (constant S128x256 .f32 0x00000000#32)

/-- The factor a running sum is rescaled by. -/
def alpha (m : FVec Ideal S1x256 .f32) (cm : FVec Ideal S8x256 .f32) : FVec Ideal S1x256 .f32 := exp2 (subf m (newM m cm))

/-- The sum of all weights of a query, from the sums of 8 rows and the sum before. -/
def sumL (al l : FVec Ideal S1x256 .f32) (w : FVec Ideal S8x256 .f32) : FVec Ideal S1x256 .f32 :=
  shapeCast S1x256 (addf (mulf al l) (shapeCast S1x256 (multiReduction .add [0] S256 w 0x00000000#32 reduces_S8x256_S256 (.inl rfl) rfl)
    shapeCasts_S256_S1x256)) shapeCasts_S1x256_S1x256

/-- The weighted sum of values, and the sum before. -/
def sumA (al : FVec Ideal S1x256 .f32) (a w : FVec Ideal S128x256 .f32) : FVec Ideal S128x256 .f32 :=
  shapeCast S128x256 (addf (mulf (broadcastTo S128x256 al broadcasts_S1x256_S128x256) a) w) shapeCasts_S128x256_S128x256

/-- The weighted sum over the sum of weights. -/
def quot (l : FVec Ideal S1x256 .f32) (a : FVec Ideal S128x256 .f32) : FVec Ideal S128x256 .f32 :=
  mulf a (broadcastTo S128x256 (divf (broadcast S1x256 (Scalar.ofBits .f32 0x3F800000#32)) l) broadcasts_S1x256_S128x256)

/-- The running maxima before the first key. -/
def m0 : FVec Ideal S1x256 .f32 := shapeCast S1x256 (broadcast S1x256 (Scalar.ofBits .f32 0xF149F2CA#32)) shapeCasts_S1x256_S1x256
/-- The sums of weights before the first key. -/
def l0 : FVec Ideal S1x256 .f32 := shapeCast S1x256 (broadcast S1x256 (Scalar.ofBits .f32 0x00000000#32)) shapeCasts_S1x256_S1x256
/-- The weighted sums before the first key. -/
def a0 : FVec Ideal S128x256 .f32 := shapeCast S128x256 (broadcast S128x256 (Scalar.ofBits .f32 0x00000000#32)) shapeCasts_S128x256_S128x256

/-- The sums of weights over eleven blocks. -/
def chainL (m : FVec Ideal S1x256 .f32) (s : Fin 11 → FVec Ideal S768x256 .f32) : FVec Ideal S8x256 .f32 :=
  addf (addf (addf (addf (addf (addf (addf (addf (addf (addf (blkL (blkP m (s 0))) (blkL (blkP m (s 1)))) (blkL (blkP m (s 2)))) (blkL (blkP m (s 3)))) (blkL (blkP m (s 4)))) (blkL (blkP m (s 5)))) (blkL (blkP m (s 6)))) (blkL (blkP m (s 7)))) (blkL (blkP m (s 8)))) (blkL (blkP m (s 9)))) (blkL (blkP m (s 10)))

/-- The weighted sums of values over eleven blocks. -/
def chainA (m : FVec Ideal S1x256 .f32) (s : Fin 11 → FVec Ideal S768x256 .f32) (v : Fin 11 → FVec Ideal S1x128x768 .bf16) : FVec Ideal S128x256 .f32 :=
  addf (addf (addf (addf (addf (addf (addf (addf (addf (addf (blkA (v 0) (blkP m (s 0))) (blkA (v 1) (blkP m (s 1)))) (blkA (v 2) (blkP m (s 2)))) (blkA (v 3) (blkP m (s 3)))) (blkA (v 4) (blkP m (s 4)))) (blkA (v 5) (blkP m (s 5)))) (blkA (v 6) (blkP m (s 6)))) (blkA (v 7) (blkP m (s 7)))) (blkA (v 8) (blkP m (s 8)))) (blkA (v 9) (blkP m (s 9)))) (blkA (v 10) (blkP m (s 10)))

/-- The running maxima over eleven blocks. -/
def chainM (s : Fin 11 → FVec Ideal S768x256 .f32) : FVec Ideal S8x256 .f32 :=
  maximumf (maximumf (maximumf (maximumf (maximumf (maximumf (maximumf (maximumf (maximumf (maximumf (blkM (s 0)) (blkM (s 1))) (blkM (s 2))) (blkM (s 3))) (blkM (s 4))) (blkM (s 5))) (blkM (s 6))) (blkM (s 7))) (blkM (s 8))) (blkM (s 9))) (blkM (s 10))

/-- One unit's attention: its eleven blocks of scores and of values. -/
def unit (cm : FVec Ideal S8x256 .f32) (s : Fin 11 → FVec Ideal S768x256 .f32) (v : Fin 11 → FVec Ideal S1x128x768 .bf16) : FVec Ideal S128x256 .f32 :=
  quot (sumL (alpha m0 cm) l0 (chainL (newM m0 cm) s)) (sumA (alpha m0 cm) a0 (chainA (newM m0 cm) s v))

/-- One unit's attention over the context alone. -/
def ctxUnit (cm : FVec Ideal S8x256 .f32) (s : FVec Ideal S256x256 .f32) (v : FVec Ideal S1x128x256 .bf16) : FVec Ideal S128x256 .f32 :=
  quot (sumL (alpha m0 cm) l0 (ctxL (ctxP (newM m0 cm) s))) (sumA (alpha m0 cm) a0 (ctxA v (ctxP (newM m0 cm) s)))

theorem blkS_apply (q : FVec Ideal S128x256 .bf16) (k : FVec Ideal S1x768x128 .bf16) (r : Fin 768) (p : Fin 256) :
    blkS q k (ix2 r p) = ∑ d : Fin 128, k (ix3 0 r d) * q (ix2 d p) := by
  pointwise [blkS]

theorem blkP_apply (m : FVec Ideal S1x256 .f32) (s : FVec Ideal S768x256 .f32) (r : Fin 768) (p : Fin 256) :
    blkP m s (ix2 r p) = Ideal.exp2 (s (ix2 r p) - m (ix2 0 p)) := by
  pointwise [blkP]; rfl

theorem blkL_apply (w : FVec Ideal S768x256 .f32) (a : Fin 8) (p : Fin 256) :
    blkL w (ix2 a p) = ∑ g : Fin 96, w (ix2 ⟨g.val * 8 + a.val, by omega⟩ p) := by
  pointwise [blkL]

theorem blkA_apply (v : FVec Ideal S1x128x768 .bf16) (w : FVec Ideal S768x256 .f32) (j : Fin 128) (p : Fin 256) :
    blkA v w (ix2 j p) = ∑ r : Fin 768, v (ix3 0 j r) * w (ix2 r p) := by
  pointwise [blkA]

theorem ctxS_apply (q : FVec Ideal S128x256 .bf16) (k : FVec Ideal S1x256x128 .bf16) (r : Fin 256) (p : Fin 256) :
    ctxS q k (ix2 r p) = ∑ d : Fin 128, k (ix3 0 r d) * q (ix2 d p) := by
  pointwise [ctxS]

theorem ctxP_apply (m : FVec Ideal S1x256 .f32) (s : FVec Ideal S256x256 .f32) (r : Fin 256) (p : Fin 256) :
    ctxP m s (ix2 r p) = Ideal.exp2 (s (ix2 r p) - m (ix2 0 p)) := by
  pointwise [ctxP]; rfl

theorem ctxL_apply (w : FVec Ideal S256x256 .f32) (a : Fin 8) (p : Fin 256) :
    ctxL w (ix2 a p) = ∑ g : Fin 32, w (ix2 ⟨g.val * 8 + a.val, by omega⟩ p) := by
  pointwise [ctxL]

theorem ctxA_apply (v : FVec Ideal S1x128x256 .bf16) (w : FVec Ideal S256x256 .f32) (j : Fin 128) (p : Fin 256) :
    ctxA v w (ix2 j p) = ∑ r : Fin 256, v (ix3 0 j r) * w (ix2 r p) := by
  pointwise [ctxA]

theorem minusInf : Ideal.ofBits .f32 0xFF800000#32 = ⊥ := by simp [Ideal.ofBits, Ideal.ieee]

/-- The running maxima's first value is a real number. -/
theorem fin'_first : Fin' (Ideal.ofBits .f32 0xF149F2CA#32) := by
  refine ⟨-(13234890 * 2 ^ 76), ?_⟩
  simp [Ideal.ofBits, Ideal.ieee]

theorem blkM_ne_top (s : FVec Ideal S768x256 .f32) (hs : ∀ r p, s (ix2 r p) ≠ ⊤) (a : Fin 8) (p : Fin 256) : blkM s (ix2 a p) ≠ ⊤ := by
  pointwise [blkM]
  rw [show (4286578688#32 : BitVec 32) = 0xFF800000#32 from rfl, minusInf]
  exact fold_max_ne_top _ _ _ (by simp) fun _ => hs _ _

theorem ctxM_ne_top (s : FVec Ideal S256x256 .f32) (hs : ∀ r p, s (ix2 r p) ≠ ⊤) (a : Fin 8) (p : Fin 256) : ctxM s (ix2 a p) ≠ ⊤ := by
  pointwise [ctxM]
  rw [show (4286578688#32 : BitVec 32) = 0xFF800000#32 from rfl, minusInf]
  exact fold_max_ne_top _ _ _ (by simp) fun _ => hs _ _

theorem newM_fin (cm : FVec Ideal S8x256 .f32) (hc : ∀ a p, cm (ix2 a p) ≠ ⊤) (p : Fin 256) : Fin' (newM m0 cm (ix2 0 p)) := by
  pointwise [newM, m0]
  rw [show (4286578688#32 : BitVec 32) = 0xFF800000#32 from rfl, minusInf]
  refine fin'_max fin'_first (fold_max_ne_top _ _ _ (by simp) fun _ => hc _ _)

theorem maximumf_ne_top (x y : FVec Ideal S8x256 .f32) (i : S8x256.Idx) (hx : x i ≠ ⊤) (hy : y i ≠ ⊤) : maximumf x y i ≠ ⊤ :=
  max_ne_top hx hy

theorem chainM_ne_top (s : Fin 11 → FVec Ideal S768x256 .f32) (hs : ∀ n r p, s n (ix2 r p) ≠ ⊤) (a : Fin 8) (p : Fin 256) :
    chainM s (ix2 a p) ≠ ⊤ := by
  exact maximumf_ne_top _ _ _ (maximumf_ne_top _ _ _ (maximumf_ne_top _ _ _ (maximumf_ne_top _ _ _ (maximumf_ne_top _ _ _ (maximumf_ne_top _ _ _ (maximumf_ne_top _ _ _ (maximumf_ne_top _ _ _ (maximumf_ne_top _ _ _ (maximumf_ne_top _ _ _ (blkM_ne_top (s 0) (hs 0) a p) (blkM_ne_top (s 1) (hs 1) a p)) (blkM_ne_top (s 2) (hs 2) a p)) (blkM_ne_top (s 3) (hs 3) a p)) (blkM_ne_top (s 4) (hs 4) a p)) (blkM_ne_top (s 5) (hs 5) a p)) (blkM_ne_top (s 6) (hs 6) a p)) (blkM_ne_top (s 7) (hs 7) a p)) (blkM_ne_top (s 8) (hs 8) a p)) (blkM_ne_top (s 9) (hs 9) a p)) (blkM_ne_top (s 10) (hs 10) a p)

theorem chainL_apply (m : FVec Ideal S1x256 .f32) (s : Fin 11 → FVec Ideal S768x256 .f32) (i : S8x256.Idx) :
    chainL m s i = ∑ n, blkL (blkP m (s n)) i := by
  simp only [Fin.sum_univ_castSucc, Fin.sum_univ_zero, zero_add]; rfl

theorem chainA_apply (m : FVec Ideal S1x256 .f32) (s : Fin 11 → FVec Ideal S768x256 .f32) (v : Fin 11 → FVec Ideal S1x128x768 .bf16) (i : S128x256.Idx) :
    chainA m s v i = ∑ n, blkA (v n) (blkP m (s n)) i := by
  simp only [Fin.sum_univ_castSucc, Fin.sum_univ_zero, zero_add]; rfl

theorem quot_apply (al : FVec Ideal S1x256 .f32) (w : FVec Ideal S8x256 .f32) (x : FVec Ideal S128x256 .f32) (j : Fin 128) (p : Fin 256) :
    quot (sumL al l0 w) (sumA al a0 x) (ix2 j p) = x (ix2 j p) * Ideal.div 1 (∑ a : Fin 8, w (ix2 a p)) := by
  pointwise [quot, sumL, sumA, l0, a0]
  simp only [mul_zero, zero_add]

/-- A sum over every key, block by block. -/
theorem sum_keys {M : Type} [AddCommMonoid M] (f : Fin 8448 → M) :
    ∑ k, f k = ∑ n : Fin 11, ∑ r : Fin 768, f ⟨768 * n.val + r.val, by omega⟩ := by
  rw [← Fintype.sum_prod_type', ← Equiv.sum_comp (finProdFinEquiv (m := 11) (n := 768)) f]
  refine Finset.sum_congr rfl fun x _ => congrArg f (Fin.ext ?_)
  simp [finProdFinEquiv]; omega

/-- A block's sum, eight rows at a time. -/
theorem sum_rows {M : Type} [AddCommMonoid M] (f : Fin 768 → M) :
    ∑ a : Fin 8, ∑ g : Fin 96, f ⟨g.val * 8 + a.val, by omega⟩ = ∑ r, f r := by
  rw [Finset.sum_comm, ← Fintype.sum_prod_type', ← Equiv.sum_comp (finProdFinEquiv (m := 96) (n := 8)) f]
  refine Finset.sum_congr rfl fun x _ => congrArg f (Fin.ext ?_)
  simp [finProdFinEquiv]; omega

/-- The context's sum, eight rows at a time. -/
theorem sum_rows' {M : Type} [AddCommMonoid M] (f : Fin 256 → M) :
    ∑ a : Fin 8, ∑ g : Fin 32, f ⟨g.val * 8 + a.val, by omega⟩ = ∑ r, f r := by
  rw [Finset.sum_comm, ← Fintype.sum_prod_type', ← Equiv.sum_comp (finProdFinEquiv (m := 32) (n := 8)) f]
  refine Finset.sum_congr rfl fun x _ => congrArg f (Fin.ext ?_)
  simp [finProdFinEquiv]; omega

/-- A weighted sum over the sum of weights, with a real shift, is the attention. -/
theorem quot_att {ι : Type} [Fintype ι] [Nonempty ι] (s : ι → ℝ) (v : ι → EReal) (M : EReal) (hM : Fin' M) :
    (∑ k, v k * Ideal.exp2 ((s k : EReal) - M)) * Ideal.div 1 (∑ k, Ideal.exp2 ((s k : EReal) - M)) = att s v := by
  obtain ⟨M, rfl⟩ := hM
  have he : ∀ k, Ideal.exp2 ((s k : EReal) - (M : EReal)) = ((Real.rpow 2 (s k - M) : ℝ) : EReal) := fun k => by
    rw [← EReal.coe_sub, Ideal.exp2_coe]
  have hpos : (0 : ℝ) < ∑ k, Real.rpow 2 (s k - M) :=
    Finset.sum_pos (fun _ _ => Real.rpow_pos_of_pos (by norm_num) _) Finset.univ_nonempty
  simp only [he]
  rw [← coe_sum, Ideal.div_coe hpos.ne', one_mul, sum_mul_coe _ _ _ (one_div_pos.2 hpos).le]
  refine Finset.sum_congr rfl fun k _ => ?_
  rw [mul_assoc, ← EReal.coe_mul, weight_of_shift, mul_comm]

/-- One unit's attention, where its scores are real and its running maxima below `⊤`. -/
theorem unit_apply (cm : FVec Ideal S8x256 .f32) (s : Fin 11 → FVec Ideal S768x256 .f32) (v : Fin 11 → FVec Ideal S1x128x768 .bf16)
    (hc : ∀ a p, cm (ix2 a p) ≠ ⊤) (sf : Fin 8448 → ℝ) (vf : Fin 8448 → EReal) (j : Fin 128) (p : Fin 256)
    (hs : ∀ n r, s n (ix2 r p) = (sf ⟨768 * n.val + r.val, by omega⟩ : EReal))
    (hv : ∀ n r, v n (ix3 0 j r) = vf ⟨768 * n.val + r.val, by omega⟩) :
    unit cm s v (ix2 j p) = att sf vf := by
  haveI : Nonempty (Fin 8448) := ⟨⟨0, by decide⟩⟩
  rw [unit, quot_apply, ← quot_att sf vf _ (newM_fin cm hc p), chainA_apply, sum_keys, sum_keys]
  refine congrArg₂ (fun x y : EReal => x * Ideal.div 1 y) ?_ ?_
  · refine Finset.sum_congr rfl fun n _ => ?_
    rw [blkA_apply]
    refine Finset.sum_congr rfl fun r _ => ?_
    rw [blkP_apply, hs, hv]
  · simp only [chainL_apply]
    rw [Finset.sum_comm]
    refine Finset.sum_congr rfl fun n _ => ?_
    simp only [blkL_apply]
    rw [sum_rows (M := EReal) (fun r => blkP (newM m0 cm) (s n) (ix2 r p))]
    refine Finset.sum_congr rfl fun r _ => ?_
    rw [blkP_apply, hs]

/-- One unit's attention over the context, where its scores are real and its running maxima below `⊤`. -/
theorem ctxUnit_apply (cm : FVec Ideal S8x256 .f32) (s : FVec Ideal S256x256 .f32) (v : FVec Ideal S1x128x256 .bf16)
    (hc : ∀ a p, cm (ix2 a p) ≠ ⊤) (sf : Fin 256 → ℝ) (vf : Fin 256 → EReal) (j : Fin 128) (p : Fin 256)
    (hs : ∀ r, s (ix2 r p) = (sf r : EReal)) (hv : ∀ r, v (ix3 0 j r) = vf r) :
    ctxUnit cm s v (ix2 j p) = att sf vf := by
  haveI : Nonempty (Fin 256) := ⟨⟨0, by decide⟩⟩
  rw [ctxUnit, quot_apply, ← quot_att sf vf _ (newM_fin cm hc p), ctxA_apply]
  refine congrArg₂ (fun x y : EReal => x * Ideal.div 1 y) ?_ ?_
  · refine Finset.sum_congr rfl fun r _ => ?_
    rw [ctxP_apply, hs, hv]
  · simp only [ctxL_apply]
    rw [sum_rows' (M := EReal) (fun r => ctxP (newM m0 cm) s (ix2 r p))]
    refine Finset.sum_congr rfl fun r _ => ?_
    rw [ctxP_apply, hs]

end Cert.Attn.Ker

end
-- ==== Proof.Windows.lean ====
/- Blocks of the windows and of the score scratch, and the queries of one component of a head padded with zeros. -/
module

public import proofs.«01_k».proof.Proof.Blocks
public import Idealize.ShloMosaic.Lib.Pipeline.ValueKit
public import proofs.«01_k».proof.Proof.Spec
public import Idealize.ShloMosaic.Lib.Pipeline.ReadBack

@[expose] public section

set_option maxRecDepth 16384

noncomputable section

namespace Cert.Attn.Ker

open Idealize.ShloMosaic Idealize.SL.Sem Cert.KernelIdeal Cert.KernelIdeal.Gen Cert.Attn

/-- Block `n` of the scores of every key. -/
def rows (X : FVec Ideal S8448x256 .f32) (n : Fin 11) : FVec Ideal S768x256 .f32 :=
  fun i => X (ix2 ⟨768 * n.val + (i 0).val, by have h : (i 0).val < 768 := (i 0).isLt; omega⟩ (i 1))
/-- Block `n` of the keys. -/
def kblk (X : FVec Ideal S1x8448x128 .bf16) (n : Fin 11) : FVec Ideal S1x768x128 .bf16 :=
  fun i => X (ix3 0 ⟨768 * n.val + (i 1).val, by have h : (i 1).val < 768 := (i 1).isLt; omega⟩ (i 2))
/-- Block `n` of the values. -/
def vblk (X : FVec Ideal S1x128x8448 .bf16) (n : Fin 11) : FVec Ideal S1x128x768 .bf16 :=
  fun i => X (ix3 0 (i 1) ⟨768 * n.val + (i 2).val, by have h : (i 2).val < 768 := (i 2).isLt; omega⟩)
/-- The queries of component `e` of a head, zero on the other component's features. -/
def qz (e : Fin 2) (x : FVec Ideal S1x128x256 .bf16) : FVec Ideal S128x256 .bf16 :=
  fun i => if (i 0).val / 64 = e.val then x (ix3 0 (i 0) (i 1)) else 0

/-- Reading the score scratch at row `768·n` gives its `n`-th block of rows. -/
theorem ld_rows (X : FVec Ideal S8448x256 .f32) (n : Fin 11) (off : ℕ) (h : off = 768 * n.val) (inb) :
    View.ld (Val := Elt Ideal) (e' := .f32) X (Rect.unit ![off, 0] S768x256.size inb) = rows X n := by
  subst h; funext i; refine congrArg X (funext fun a => Fin.ext ?_)
  match a with
  | ⟨0, _⟩ => show 768 * n.val + 1 * (i 0).val = 768 * n.val + (i 0).val; omega
  | ⟨1, _⟩ => show 0 + 1 * (i 1).val = (i 1).val; omega

/-- Reading the keys at row `768·n` gives their `n`-th block. -/
theorem ld_kblk (X : FVec Ideal S1x8448x128 .bf16) (n : Fin 11) (off : ℕ) (h : off = 768 * n.val) (inb) :
    View.ld (Val := Elt Ideal) (e' := .bf16) X (Rect.unit ![0, off, 0] S1x768x128.size inb) = kblk X n := by
  subst h; funext i; refine congrArg X (funext fun a => Fin.ext ?_)
  match a with
  | ⟨0, _⟩ => show 0 + 1 * (i 0).val = 0; have h : (i 0).val < 1 := (i 0).isLt; omega
  | ⟨1, _⟩ => show 768 * n.val + 1 * (i 1).val = 768 * n.val + (i 1).val; omega
  | ⟨2, _⟩ => show 0 + 1 * (i 2).val = (i 2).val; omega

/-- Reading the values at column `768·n` gives their `n`-th block. -/
theorem ld_vblk (X : FVec Ideal S1x128x8448 .bf16) (n : Fin 11) (off : ℕ) (h : off = 768 * n.val) (inb) :
    View.ld (Val := Elt Ideal) (e' := .bf16) X (Rect.unit ![0, 0, off] S1x128x768.size inb) = vblk X n := by
  subst h; funext i; refine congrArg X (funext fun a => Fin.ext ?_)
  match a with
  | ⟨0, _⟩ => show 0 + 1 * (i 0).val = 0; have h : (i 0).val < 1 := (i 0).isLt; omega
  | ⟨1, _⟩ => show 0 + 1 * (i 1).val = (i 1).val; omega
  | ⟨2, _⟩ => show 768 * n.val + 1 * (i 2).val = 768 * n.val + (i 2).val; omega

/-- A piece of the score scratch, read back under stores of other pieces. -/
theorem read_piece {L : List (View.Piece (Elt Ideal) S8448x256 .f32)} (v : View sig .tc .vmem S8448x256 .f32) (r : Rect S8448x256)
    (w : r.shape.Idx → Elt Ideal .f32) : v.readCov (⟨r, w⟩ :: L) r.toLoadRect = w :=
  View.readCov_cons_toLoadRect v r w L

/-- Block 0 of the score scratch, as a load of its rows. -/
theorem ld_rows0 (X : FVec Ideal S8448x256 .f32) (inb) : View.ld (Val := Elt Ideal) (S := S8448x256) (e' := .f32) X (Rect.unit ![0, 0] S768x256.size inb) = rows X 0 := ld_rows X 0 _ rfl inb
/-- Block 0 of the keys, as a load of its rows. -/
theorem ld_kblk0 (X : FVec Ideal S1x8448x128 .bf16) (inb) : View.ld (Val := Elt Ideal) (S := S1x8448x128) (e' := .bf16) X (Rect.unit ![0, 0, 0] S1x768x128.size inb) = kblk X 0 := ld_kblk X 0 _ rfl inb
/-- Block 0 of the values, as a load of its columns. -/
theorem ld_vblk0 (X : FVec Ideal S1x128x8448 .bf16) (inb) : View.ld (Val := Elt Ideal) (S := S1x128x8448) (e' := .bf16) X (Rect.unit ![0, 0, 0] S1x128x768.size inb) = vblk X 0 := ld_vblk X 0 _ rfl inb
/-- Block 1 of the score scratch, as a load of its rows. -/
theorem ld_rows1 (X : FVec Ideal S8448x256 .f32) (inb) : View.ld (Val := Elt Ideal) (S := S8448x256) (e' := .f32) X (Rect.unit ![768, 0] S768x256.size inb) = rows X 1 := ld_rows X 1 _ rfl inb
/-- Block 1 of the keys, as a load of its rows. -/
theorem ld_kblk1 (X : FVec Ideal S1x8448x128 .bf16) (inb) : View.ld (Val := Elt Ideal) (S := S1x8448x128) (e' := .bf16) X (Rect.unit ![0, 768, 0] S1x768x128.size inb) = kblk X 1 := ld_kblk X 1 _ rfl inb
/-- Block 1 of the values, as a load of its columns. -/
theorem ld_vblk1 (X : FVec Ideal S1x128x8448 .bf16) (inb) : View.ld (Val := Elt Ideal) (S := S1x128x8448) (e' := .bf16) X (Rect.unit ![0, 0, 768] S1x128x768.size inb) = vblk X 1 := ld_vblk X 1 _ rfl inb
/-- Block 2 of the score scratch, as a load of its rows. -/
theorem ld_rows2 (X : FVec Ideal S8448x256 .f32) (inb) : View.ld (Val := Elt Ideal) (S := S8448x256) (e' := .f32) X (Rect.unit ![1536, 0] S768x256.size inb) = rows X 2 := ld_rows X 2 _ rfl inb
/-- Block 2 of the keys, as a load of its rows. -/
theorem ld_kblk2 (X : FVec Ideal S1x8448x128 .bf16) (inb) : View.ld (Val := Elt Ideal) (S := S1x8448x128) (e' := .bf16) X (Rect.unit ![0, 1536, 0] S1x768x128.size inb) = kblk X 2 := ld_kblk X 2 _ rfl inb
/-- Block 2 of the values, as a load of its columns. -/
theorem ld_vblk2 (X : FVec Ideal S1x128x8448 .bf16) (inb) : View.ld (Val := Elt Ideal) (S := S1x128x8448) (e' := .bf16) X (Rect.unit ![0, 0, 1536] S1x128x768.size inb) = vblk X 2 := ld_vblk X 2 _ rfl inb
/-- Block 3 of the score scratch, as a load of its rows. -/
theorem ld_rows3 (X : FVec Ideal S8448x256 .f32) (inb) : View.ld (Val := Elt Ideal) (S := S8448x256) (e' := .f32) X (Rect.unit ![2304, 0] S768x256.size inb) = rows X 3 := ld_rows X 3 _ rfl inb
/-- Block 3 of the keys, as a load of its rows. -/
theorem ld_kblk3 (X : FVec Ideal S1x8448x128 .bf16) (inb) : View.ld (Val := Elt Ideal) (S := S1x8448x128) (e' := .bf16) X (Rect.unit ![0, 2304, 0] S1x768x128.size inb) = kblk X 3 := ld_kblk X 3 _ rfl inb
/-- Block 3 of the values, as a load of its columns. -/
theorem ld_vblk3 (X : FVec Ideal S1x128x8448 .bf16) (inb) : View.ld (Val := Elt Ideal) (S := S1x128x8448) (e' := .bf16) X (Rect.unit ![0, 0, 2304] S1x128x768.size inb) = vblk X 3 := ld_vblk X 3 _ rfl inb
/-- Block 4 of the score scratch, as a load of its rows. -/
theorem ld_rows4 (X : FVec Ideal S8448x256 .f32) (inb) : View.ld (Val := Elt Ideal) (S := S8448x256) (e' := .f32) X (Rect.unit ![3072, 0] S768x256.size inb) = rows X 4 := ld_rows X 4 _ rfl inb
/-- Block 4 of the keys, as a load of its rows. -/
theorem ld_kblk4 (X : FVec Ideal S1x8448x128 .bf16) (inb) : View.ld (Val := Elt Ideal) (S := S1x8448x128) (e' := .bf16) X (Rect.unit ![0, 3072, 0] S1x768x128.size inb) = kblk X 4 := ld_kblk X 4 _ rfl inb
/-- Block 4 of the values, as a load of its columns. -/
theorem ld_vblk4 (X : FVec Ideal S1x128x8448 .bf16) (inb) : View.ld (Val := Elt Ideal) (S := S1x128x8448) (e' := .bf16) X (Rect.unit ![0, 0, 3072] S1x128x768.size inb) = vblk X 4 := ld_vblk X 4 _ rfl inb
/-- Block 5 of the score scratch, as a load of its rows. -/
theorem ld_rows5 (X : FVec Ideal S8448x256 .f32) (inb) : View.ld (Val := Elt Ideal) (S := S8448x256) (e' := .f32) X (Rect.unit ![3840, 0] S768x256.size inb) = rows X 5 := ld_rows X 5 _ rfl inb
/-- Block 5 of the keys, as a load of its rows. -/
theorem ld_kblk5 (X : FVec Ideal S1x8448x128 .bf16) (inb) : View.ld (Val := Elt Ideal) (S := S1x8448x128) (e' := .bf16) X (Rect.unit ![0, 3840, 0] S1x768x128.size inb) = kblk X 5 := ld_kblk X 5 _ rfl inb
/-- Block 5 of the values, as a load of its columns. -/
theorem ld_vblk5 (X : FVec Ideal S1x128x8448 .bf16) (inb) : View.ld (Val := Elt Ideal) (S := S1x128x8448) (e' := .bf16) X (Rect.unit ![0, 0, 3840] S1x128x768.size inb) = vblk X 5 := ld_vblk X 5 _ rfl inb
/-- Block 6 of the score scratch, as a load of its rows. -/
theorem ld_rows6 (X : FVec Ideal S8448x256 .f32) (inb) : View.ld (Val := Elt Ideal) (S := S8448x256) (e' := .f32) X (Rect.unit ![4608, 0] S768x256.size inb) = rows X 6 := ld_rows X 6 _ rfl inb
/-- Block 6 of the keys, as a load of its rows. -/
theorem ld_kblk6 (X : FVec Ideal S1x8448x128 .bf16) (inb) : View.ld (Val := Elt Ideal) (S := S1x8448x128) (e' := .bf16) X (Rect.unit ![0, 4608, 0] S1x768x128.size inb) = kblk X 6 := ld_kblk X 6 _ rfl inb
/-- Block 6 of the values, as a load of its columns. -/
theorem ld_vblk6 (X : FVec Ideal S1x128x8448 .bf16) (inb) : View.ld (Val := Elt Ideal) (S := S1x128x8448) (e' := .bf16) X (Rect.unit ![0, 0, 4608] S1x128x768.size inb) = vblk X 6 := ld_vblk X 6 _ rfl inb
/-- Block 7 of the score scratch, as a load of its rows. -/
theorem ld_rows7 (X : FVec Ideal S8448x256 .f32) (inb) : View.ld (Val := Elt Ideal) (S := S8448x256) (e' := .f32) X (Rect.unit ![5376, 0] S768x256.size inb) = rows X 7 := ld_rows X 7 _ rfl inb
/-- Block 7 of the keys, as a load of its rows. -/
theorem ld_kblk7 (X : FVec Ideal S1x8448x128 .bf16) (inb) : View.ld (Val := Elt Ideal) (S := S1x8448x128) (e' := .bf16) X (Rect.unit ![0, 5376, 0] S1x768x128.size inb) = kblk X 7 := ld_kblk X 7 _ rfl inb
/-- Block 7 of the values, as a load of its columns. -/
theorem ld_vblk7 (X : FVec Ideal S1x128x8448 .bf16) (inb) : View.ld (Val := Elt Ideal) (S := S1x128x8448) (e' := .bf16) X (Rect.unit ![0, 0, 5376] S1x128x768.size inb) = vblk X 7 := ld_vblk X 7 _ rfl inb
/-- Block 8 of the score scratch, as a load of its rows. -/
theorem ld_rows8 (X : FVec Ideal S8448x256 .f32) (inb) : View.ld (Val := Elt Ideal) (S := S8448x256) (e' := .f32) X (Rect.unit ![6144, 0] S768x256.size inb) = rows X 8 := ld_rows X 8 _ rfl inb
/-- Block 8 of the keys, as a load of its rows. -/
theorem ld_kblk8 (X : FVec Ideal S1x8448x128 .bf16) (inb) : View.ld (Val := Elt Ideal) (S := S1x8448x128) (e' := .bf16) X (Rect.unit ![0, 6144, 0] S1x768x128.size inb) = kblk X 8 := ld_kblk X 8 _ rfl inb
/-- Block 8 of the values, as a load of its columns. -/
theorem ld_vblk8 (X : FVec Ideal S1x128x8448 .bf16) (inb) : View.ld (Val := Elt Ideal) (S := S1x128x8448) (e' := .bf16) X (Rect.unit ![0, 0, 6144] S1x128x768.size inb) = vblk X 8 := ld_vblk X 8 _ rfl inb
/-- Block 9 of the score scratch, as a load of its rows. -/
theorem ld_rows9 (X : FVec Ideal S8448x256 .f32) (inb) : View.ld (Val := Elt Ideal) (S := S8448x256) (e' := .f32) X (Rect.unit ![6912, 0] S768x256.size inb) = rows X 9 := ld_rows X 9 _ rfl inb
/-- Block 9 of the keys, as a load of its rows. -/
theorem ld_kblk9 (X : FVec Ideal S1x8448x128 .bf16) (inb) : View.ld (Val := Elt Ideal) (S := S1x8448x128) (e' := .bf16) X (Rect.unit ![0, 6912, 0] S1x768x128.size inb) = kblk X 9 := ld_kblk X 9 _ rfl inb
/-- Block 9 of the values, as a load of its columns. -/
theorem ld_vblk9 (X : FVec Ideal S1x128x8448 .bf16) (inb) : View.ld (Val := Elt Ideal) (S := S1x128x8448) (e' := .bf16) X (Rect.unit ![0, 0, 6912] S1x128x768.size inb) = vblk X 9 := ld_vblk X 9 _ rfl inb
/-- Block 10 of the score scratch, as a load of its rows. -/
theorem ld_rows10 (X : FVec Ideal S8448x256 .f32) (inb) : View.ld (Val := Elt Ideal) (S := S8448x256) (e' := .f32) X (Rect.unit ![7680, 0] S768x256.size inb) = rows X 10 := ld_rows X 10 _ rfl inb
/-- Block 10 of the keys, as a load of its rows. -/
theorem ld_kblk10 (X : FVec Ideal S1x8448x128 .bf16) (inb) : View.ld (Val := Elt Ideal) (S := S1x8448x128) (e' := .bf16) X (Rect.unit ![0, 7680, 0] S1x768x128.size inb) = kblk X 10 := ld_kblk X 10 _ rfl inb
/-- Block 10 of the values, as a load of its columns. -/
theorem ld_vblk10 (X : FVec Ideal S1x128x8448 .bf16) (inb) : View.ld (Val := Elt Ideal) (S := S1x128x8448) (e' := .bf16) X (Rect.unit ![0, 0, 7680] S1x128x768.size inb) = vblk X 10 := ld_vblk X 10 _ rfl inb
/-- Reading block 0 of a score buffer that holds `X`. -/
theorem rd_rows0 (arg : Memref sig .tc .vmem S8448x256 .f32) (harg : arg.IsWhole) (X : FVec Ideal S8448x256 .f32) (inb) : View.readAt (Elt Ideal) arg.view (Rect.unit (s := S8448x256) ![0, 0] S768x256.size inb).toLoadRect (harg.unread X) = rows X 0 := by
  rw [View.readAt_eq_ld, harg.read_unread, ld_rows0]
/-- Reading block 0 of a key window that holds `X`. -/
theorem rd_kblk0 (arg : Memref sig .tc .vmem S1x8448x128 .bf16) (harg : arg.IsWhole) (X : FVec Ideal S1x8448x128 .bf16) (inb) : View.readAt (Elt Ideal) arg.view (Rect.unit (s := S1x8448x128) ![0, 0, 0] S1x768x128.size inb).toLoadRect (harg.unread X) = kblk X 0 := by
  rw [View.readAt_eq_ld, harg.read_unread, ld_kblk0]
/-- Reading block 0 of a value window that holds `X`. -/
theorem rd_vblk0 (arg : Memref sig .tc .vmem S1x128x8448 .bf16) (harg : arg.IsWhole) (X : FVec Ideal S1x128x8448 .bf16) (inb) : View.readAt (Elt Ideal) arg.view (Rect.unit (s := S1x128x8448) ![0, 0, 0] S1x128x768.size inb).toLoadRect (harg.unread X) = vblk X 0 := by
  rw [View.readAt_eq_ld, harg.read_unread, ld_vblk0]
/-- Reading block 1 of a score buffer that holds `X`. -/
theorem rd_rows1 (arg : Memref sig .tc .vmem S8448x256 .f32) (harg : arg.IsWhole) (X : FVec Ideal S8448x256 .f32) (inb) : View.readAt (Elt Ideal) arg.view (Rect.unit (s := S8448x256) ![768, 0] S768x256.size inb).toLoadRect (harg.unread X) = rows X 1 := by
  rw [View.readAt_eq_ld, harg.read_unread, ld_rows1]
/-- Reading block 1 of a key window that holds `X`. -/
theorem rd_kblk1 (arg : Memref sig .tc .vmem S1x8448x128 .bf16) (harg : arg.IsWhole) (X : FVec Ideal S1x8448x128 .bf16) (inb) : View.readAt (Elt Ideal) arg.view (Rect.unit (s := S1x8448x128) ![0, 768, 0] S1x768x128.size inb).toLoadRect (harg.unread X) = kblk X 1 := by
  rw [View.readAt_eq_ld, harg.read_unread, ld_kblk1]
/-- Reading block 1 of a value window that holds `X`. -/
theorem rd_vblk1 (arg : Memref sig .tc .vmem S1x128x8448 .bf16) (harg : arg.IsWhole) (X : FVec Ideal S1x128x8448 .bf16) (inb) : View.readAt (Elt Ideal) arg.view (Rect.unit (s := S1x128x8448) ![0, 0, 768] S1x128x768.size inb).toLoadRect (harg.unread X) = vblk X 1 := by
  rw [View.readAt_eq_ld, harg.read_unread, ld_vblk1]
/-- Reading block 2 of a score buffer that holds `X`. -/
theorem rd_rows2 (arg : Memref sig .tc .vmem S8448x256 .f32) (harg : arg.IsWhole) (X : FVec Ideal S8448x256 .f32) (inb) : View.readAt (Elt Ideal) arg.view (Rect.unit (s := S8448x256) ![1536, 0] S768x256.size inb).toLoadRect (harg.unread X) = rows X 2 := by
  rw [View.readAt_eq_ld, harg.read_unread, ld_rows2]
/-- Reading block 2 of a key window that holds `X`. -/
theorem rd_kblk2 (arg : Memref sig .tc .vmem S1x8448x128 .bf16) (harg : arg.IsWhole) (X : FVec Ideal S1x8448x128 .bf16) (inb) : View.readAt (Elt Ideal) arg.view (Rect.unit (s := S1x8448x128) ![0, 1536, 0] S1x768x128.size inb).toLoadRect (harg.unread X) = kblk X 2 := by
  rw [View.readAt_eq_ld, harg.read_unread, ld_kblk2]
/-- Reading block 2 of a value window that holds `X`. -/
theorem rd_vblk2 (arg : Memref sig .tc .vmem S1x128x8448 .bf16) (harg : arg.IsWhole) (X : FVec Ideal S1x128x8448 .bf16) (inb) : View.readAt (Elt Ideal) arg.view (Rect.unit (s := S1x128x8448) ![0, 0, 1536] S1x128x768.size inb).toLoadRect (harg.unread X) = vblk X 2 := by
  rw [View.readAt_eq_ld, harg.read_unread, ld_vblk2]
/-- Reading block 3 of a score buffer that holds `X`. -/
theorem rd_rows3 (arg : Memref sig .tc .vmem S8448x256 .f32) (harg : arg.IsWhole) (X : FVec Ideal S8448x256 .f32) (inb) : View.readAt (Elt Ideal) arg.view (Rect.unit (s := S8448x256) ![2304, 0] S768x256.size inb).toLoadRect (harg.unread X) = rows X 3 := by
  rw [View.readAt_eq_ld, harg.read_unread, ld_rows3]
/-- Reading block 3 of a key window that holds `X`. -/
theorem rd_kblk3 (arg : Memref sig .tc .vmem S1x8448x128 .bf16) (harg : arg.IsWhole) (X : FVec Ideal S1x8448x128 .bf16) (inb) : View.readAt (Elt Ideal) arg.view (Rect.unit (s := S1x8448x128) ![0, 2304, 0] S1x768x128.size inb).toLoadRect (harg.unread X) = kblk X 3 := by
  rw [View.readAt_eq_ld, harg.read_unread, ld_kblk3]
/-- Reading block 3 of a value window that holds `X`. -/
theorem rd_vblk3 (arg : Memref sig .tc .vmem S1x128x8448 .bf16) (harg : arg.IsWhole) (X : FVec Ideal S1x128x8448 .bf16) (inb) : View.readAt (Elt Ideal) arg.view (Rect.unit (s := S1x128x8448) ![0, 0, 2304] S1x128x768.size inb).toLoadRect (harg.unread X) = vblk X 3 := by
  rw [View.readAt_eq_ld, harg.read_unread, ld_vblk3]
/-- Reading block 4 of a score buffer that holds `X`. -/
theorem rd_rows4 (arg : Memref sig .tc .vmem S8448x256 .f32) (harg : arg.IsWhole) (X : FVec Ideal S8448x256 .f32) (inb) : View.readAt (Elt Ideal) arg.view (Rect.unit (s := S8448x256) ![3072, 0] S768x256.size inb).toLoadRect (harg.unread X) = rows X 4 := by
  rw [View.readAt_eq_ld, harg.read_unread, ld_rows4]
/-- Reading block 4 of a key window that holds `X`. -/
theorem rd_kblk4 (arg : Memref sig .tc .vmem S1x8448x128 .bf16) (harg : arg.IsWhole) (X : FVec Ideal S1x8448x128 .bf16) (inb) : View.readAt (Elt Ideal) arg.view (Rect.unit (s := S1x8448x128) ![0, 3072, 0] S1x768x128.size inb).toLoadRect (harg.unread X) = kblk X 4 := by
  rw [View.readAt_eq_ld, harg.read_unread, ld_kblk4]
/-- Reading block 4 of a value window that holds `X`. -/
theorem rd_vblk4 (arg : Memref sig .tc .vmem S1x128x8448 .bf16) (harg : arg.IsWhole) (X : FVec Ideal S1x128x8448 .bf16) (inb) : View.readAt (Elt Ideal) arg.view (Rect.unit (s := S1x128x8448) ![0, 0, 3072] S1x128x768.size inb).toLoadRect (harg.unread X) = vblk X 4 := by
  rw [View.readAt_eq_ld, harg.read_unread, ld_vblk4]
/-- Reading block 5 of a score buffer that holds `X`. -/
theorem rd_rows5 (arg : Memref sig .tc .vmem S8448x256 .f32) (harg : arg.IsWhole) (X : FVec Ideal S8448x256 .f32) (inb) : View.readAt (Elt Ideal) arg.view (Rect.unit (s := S8448x256) ![3840, 0] S768x256.size inb).toLoadRect (harg.unread X) = rows X 5 := by
  rw [View.readAt_eq_ld, harg.read_unread, ld_rows5]
/-- Reading block 5 of a key window that holds `X`. -/
theorem rd_kblk5 (arg : Memref sig .tc .vmem S1x8448x128 .bf16) (harg : arg.IsWhole) (X : FVec Ideal S1x8448x128 .bf16) (inb) : View.readAt (Elt Ideal) arg.view (Rect.unit (s := S1x8448x128) ![0, 3840, 0] S1x768x128.size inb).toLoadRect (harg.unread X) = kblk X 5 := by
  rw [View.readAt_eq_ld, harg.read_unread, ld_kblk5]
/-- Reading block 5 of a value window that holds `X`. -/
theorem rd_vblk5 (arg : Memref sig .tc .vmem S1x128x8448 .bf16) (harg : arg.IsWhole) (X : FVec Ideal S1x128x8448 .bf16) (inb) : View.readAt (Elt Ideal) arg.view (Rect.unit (s := S1x128x8448) ![0, 0, 3840] S1x128x768.size inb).toLoadRect (harg.unread X) = vblk X 5 := by
  rw [View.readAt_eq_ld, harg.read_unread, ld_vblk5]
/-- Reading block 6 of a score buffer that holds `X`. -/
theorem rd_rows6 (arg : Memref sig .tc .vmem S8448x256 .f32) (harg : arg.IsWhole) (X : FVec Ideal S8448x256 .f32) (inb) : View.readAt (Elt Ideal) arg.view (Rect.unit (s := S8448x256) ![4608, 0] S768x256.size inb).toLoadRect (harg.unread X) = rows X 6 := by
  rw [View.readAt_eq_ld, harg.read_unread, ld_rows6]
/-- Reading block 6 of a key window that holds `X`. -/
theorem rd_kblk6 (arg : Memref sig .tc .vmem S1x8448x128 .bf16) (harg : arg.IsWhole) (X : FVec Ideal S1x8448x128 .bf16) (inb) : View.readAt (Elt Ideal) arg.view (Rect.unit (s := S1x8448x128) ![0, 4608, 0] S1x768x128.size inb).toLoadRect (harg.unread X) = kblk X 6 := by
  rw [View.readAt_eq_ld, harg.read_unread, ld_kblk6]
/-- Reading block 6 of a value window that holds `X`. -/
theorem rd_vblk6 (arg : Memref sig .tc .vmem S1x128x8448 .bf16) (harg : arg.IsWhole) (X : FVec Ideal S1x128x8448 .bf16) (inb) : View.readAt (Elt Ideal) arg.view (Rect.unit (s := S1x128x8448) ![0, 0, 4608] S1x128x768.size inb).toLoadRect (harg.unread X) = vblk X 6 := by
  rw [View.readAt_eq_ld, harg.read_unread, ld_vblk6]
/-- Reading block 7 of a score buffer that holds `X`. -/
theorem rd_rows7 (arg : Memref sig .tc .vmem S8448x256 .f32) (harg : arg.IsWhole) (X : FVec Ideal S8448x256 .f32) (inb) : View.readAt (Elt Ideal) arg.view (Rect.unit (s := S8448x256) ![5376, 0] S768x256.size inb).toLoadRect (harg.unread X) = rows X 7 := by
  rw [View.readAt_eq_ld, harg.read_unread, ld_rows7]
/-- Reading block 7 of a key window that holds `X`. -/
theorem rd_kblk7 (arg : Memref sig .tc .vmem S1x8448x128 .bf16) (harg : arg.IsWhole) (X : FVec Ideal S1x8448x128 .bf16) (inb) : View.readAt (Elt Ideal) arg.view (Rect.unit (s := S1x8448x128) ![0, 5376, 0] S1x768x128.size inb).toLoadRect (harg.unread X) = kblk X 7 := by
  rw [View.readAt_eq_ld, harg.read_unread, ld_kblk7]
/-- Reading block 7 of a value window that holds `X`. -/
theorem rd_vblk7 (arg : Memref sig .tc .vmem S1x128x8448 .bf16) (harg : arg.IsWhole) (X : FVec Ideal S1x128x8448 .bf16) (inb) : View.readAt (Elt Ideal) arg.view (Rect.unit (s := S1x128x8448) ![0, 0, 5376] S1x128x768.size inb).toLoadRect (harg.unread X) = vblk X 7 := by
  rw [View.readAt_eq_ld, harg.read_unread, ld_vblk7]
/-- Reading block 8 of a score buffer that holds `X`. -/
theorem rd_rows8 (arg : Memref sig .tc .vmem S8448x256 .f32) (harg : arg.IsWhole) (X : FVec Ideal S8448x256 .f32) (inb) : View.readAt (Elt Ideal) arg.view (Rect.unit (s := S8448x256) ![6144, 0] S768x256.size inb).toLoadRect (harg.unread X) = rows X 8 := by
  rw [View.readAt_eq_ld, harg.read_unread, ld_rows8]
/-- Reading block 8 of a key window that holds `X`. -/
theorem rd_kblk8 (arg : Memref sig .tc .vmem S1x8448x128 .bf16) (harg : arg.IsWhole) (X : FVec Ideal S1x8448x128 .bf16) (inb) : View.readAt (Elt Ideal) arg.view (Rect.unit (s := S1x8448x128) ![0, 6144, 0] S1x768x128.size inb).toLoadRect (harg.unread X) = kblk X 8 := by
  rw [View.readAt_eq_ld, harg.read_unread, ld_kblk8]
/-- Reading block 8 of a value window that holds `X`. -/
theorem rd_vblk8 (arg : Memref sig .tc .vmem S1x128x8448 .bf16) (harg : arg.IsWhole) (X : FVec Ideal S1x128x8448 .bf16) (inb) : View.readAt (Elt Ideal) arg.view (Rect.unit (s := S1x128x8448) ![0, 0, 6144] S1x128x768.size inb).toLoadRect (harg.unread X) = vblk X 8 := by
  rw [View.readAt_eq_ld, harg.read_unread, ld_vblk8]
/-- Reading block 9 of a score buffer that holds `X`. -/
theorem rd_rows9 (arg : Memref sig .tc .vmem S8448x256 .f32) (harg : arg.IsWhole) (X : FVec Ideal S8448x256 .f32) (inb) : View.readAt (Elt Ideal) arg.view (Rect.unit (s := S8448x256) ![6912, 0] S768x256.size inb).toLoadRect (harg.unread X) = rows X 9 := by
  rw [View.readAt_eq_ld, harg.read_unread, ld_rows9]
/-- Reading block 9 of a key window that holds `X`. -/
theorem rd_kblk9 (arg : Memref sig .tc .vmem S1x8448x128 .bf16) (harg : arg.IsWhole) (X : FVec Ideal S1x8448x128 .bf16) (inb) : View.readAt (Elt Ideal) arg.view (Rect.unit (s := S1x8448x128) ![0, 6912, 0] S1x768x128.size inb).toLoadRect (harg.unread X) = kblk X 9 := by
  rw [View.readAt_eq_ld, harg.read_unread, ld_kblk9]
/-- Reading block 9 of a value window that holds `X`. -/
theorem rd_vblk9 (arg : Memref sig .tc .vmem S1x128x8448 .bf16) (harg : arg.IsWhole) (X : FVec Ideal S1x128x8448 .bf16) (inb) : View.readAt (Elt Ideal) arg.view (Rect.unit (s := S1x128x8448) ![0, 0, 6912] S1x128x768.size inb).toLoadRect (harg.unread X) = vblk X 9 := by
  rw [View.readAt_eq_ld, harg.read_unread, ld_vblk9]
/-- Reading block 10 of a score buffer that holds `X`. -/
theorem rd_rows10 (arg : Memref sig .tc .vmem S8448x256 .f32) (harg : arg.IsWhole) (X : FVec Ideal S8448x256 .f32) (inb) : View.readAt (Elt Ideal) arg.view (Rect.unit (s := S8448x256) ![7680, 0] S768x256.size inb).toLoadRect (harg.unread X) = rows X 10 := by
  rw [View.readAt_eq_ld, harg.read_unread, ld_rows10]
/-- Reading block 10 of a key window that holds `X`. -/
theorem rd_kblk10 (arg : Memref sig .tc .vmem S1x8448x128 .bf16) (harg : arg.IsWhole) (X : FVec Ideal S1x8448x128 .bf16) (inb) : View.readAt (Elt Ideal) arg.view (Rect.unit (s := S1x8448x128) ![0, 7680, 0] S1x768x128.size inb).toLoadRect (harg.unread X) = kblk X 10 := by
  rw [View.readAt_eq_ld, harg.read_unread, ld_kblk10]
/-- Reading block 10 of a value window that holds `X`. -/
theorem rd_vblk10 (arg : Memref sig .tc .vmem S1x128x8448 .bf16) (harg : arg.IsWhole) (X : FVec Ideal S1x128x8448 .bf16) (inb) : View.readAt (Elt Ideal) arg.view (Rect.unit (s := S1x128x8448) ![0, 0, 7680] S1x128x768.size inb).toLoadRect (harg.unread X) = vblk X 10 := by
  rw [View.readAt_eq_ld, harg.read_unread, ld_vblk10]
/-- Block 0 of a score buffer, read through the stores made to it. -/
theorem rows_canon0 (v : View sig .tc .vmem S8448x256 .f32) (L : List (View.Piece (Elt Ideal) S8448x256 .f32)) : rows (View.canon L) 0 = v.readCov L (Rect.unit (s := S8448x256) ![0, 0] S768x256.size inb_S8448x256_S768x256_0_0).toLoadRect := by
  rw [View.readCov_eq_canon']; exact (ld_rows0 _ _).symm
/-- Block 1 of a score buffer, read through the stores made to it. -/
theorem rows_canon1 (v : View sig .tc .vmem S8448x256 .f32) (L : List (View.Piece (Elt Ideal) S8448x256 .f32)) : rows (View.canon L) 1 = v.readCov L (Rect.unit (s := S8448x256) ![768, 0] S768x256.size inb_S8448x256_S768x256_768_0).toLoadRect := by
  rw [View.readCov_eq_canon']; exact (ld_rows1 _ _).symm
/-- Block 2 of a score buffer, read through the stores made to it. -/
theorem rows_canon2 (v : View sig .tc .vmem S8448x256 .f32) (L : List (View.Piece (Elt Ideal) S8448x256 .f32)) : rows (View.canon L) 2 = v.readCov L (Rect.unit (s := S8448x256) ![1536, 0] S768x256.size inb_S8448x256_S768x256_1536_0).toLoadRect := by
  rw [View.readCov_eq_canon']; exact (ld_rows2 _ _).symm
/-- Block 3 of a score buffer, read through the stores made to it. -/
theorem rows_canon3 (v : View sig .tc .vmem S8448x256 .f32) (L : List (View.Piece (Elt Ideal) S8448x256 .f32)) : rows (View.canon L) 3 = v.readCov L (Rect.unit (s := S8448x256) ![2304, 0] S768x256.size inb_S8448x256_S768x256_2304_0).toLoadRect := by
  rw [View.readCov_eq_canon']; exact (ld_rows3 _ _).symm
/-- Block 4 of a score buffer, read through the stores made to it. -/
theorem rows_canon4 (v : View sig .tc .vmem S8448x256 .f32) (L : List (View.Piece (Elt Ideal) S8448x256 .f32)) : rows (View.canon L) 4 = v.readCov L (Rect.unit (s := S8448x256) ![3072, 0] S768x256.size inb_S8448x256_S768x256_3072_0).toLoadRect := by
  rw [View.readCov_eq_canon']; exact (ld_rows4 _ _).symm
/-- Block 5 of a score buffer, read through the stores made to it. -/
theorem rows_canon5 (v : View sig .tc .vmem S8448x256 .f32) (L : List (View.Piece (Elt Ideal) S8448x256 .f32)) : rows (View.canon L) 5 = v.readCov L (Rect.unit (s := S8448x256) ![3840, 0] S768x256.size inb_S8448x256_S768x256_3840_0).toLoadRect := by
  rw [View.readCov_eq_canon']; exact (ld_rows5 _ _).symm
/-- Block 6 of a score buffer, read through the stores made to it. -/
theorem rows_canon6 (v : View sig .tc .vmem S8448x256 .f32) (L : List (View.Piece (Elt Ideal) S8448x256 .f32)) : rows (View.canon L) 6 = v.readCov L (Rect.unit (s := S8448x256) ![4608, 0] S768x256.size inb_S8448x256_S768x256_4608_0).toLoadRect := by
  rw [View.readCov_eq_canon']; exact (ld_rows6 _ _).symm
/-- Block 7 of a score buffer, read through the stores made to it. -/
theorem rows_canon7 (v : View sig .tc .vmem S8448x256 .f32) (L : List (View.Piece (Elt Ideal) S8448x256 .f32)) : rows (View.canon L) 7 = v.readCov L (Rect.unit (s := S8448x256) ![5376, 0] S768x256.size inb_S8448x256_S768x256_5376_0).toLoadRect := by
  rw [View.readCov_eq_canon']; exact (ld_rows7 _ _).symm
/-- Block 8 of a score buffer, read through the stores made to it. -/
theorem rows_canon8 (v : View sig .tc .vmem S8448x256 .f32) (L : List (View.Piece (Elt Ideal) S8448x256 .f32)) : rows (View.canon L) 8 = v.readCov L (Rect.unit (s := S8448x256) ![6144, 0] S768x256.size inb_S8448x256_S768x256_6144_0).toLoadRect := by
  rw [View.readCov_eq_canon']; exact (ld_rows8 _ _).symm
/-- Block 9 of a score buffer, read through the stores made to it. -/
theorem rows_canon9 (v : View sig .tc .vmem S8448x256 .f32) (L : List (View.Piece (Elt Ideal) S8448x256 .f32)) : rows (View.canon L) 9 = v.readCov L (Rect.unit (s := S8448x256) ![6912, 0] S768x256.size inb_S8448x256_S768x256_6912_0).toLoadRect := by
  rw [View.readCov_eq_canon']; exact (ld_rows9 _ _).symm
/-- Block 10 of a score buffer, read through the stores made to it. -/
theorem rows_canon10 (v : View sig .tc .vmem S8448x256 .f32) (L : List (View.Piece (Elt Ideal) S8448x256 .f32)) : rows (View.canon L) 10 = v.readCov L (Rect.unit (s := S8448x256) ![7680, 0] S768x256.size inb_S8448x256_S768x256_7680_0).toLoadRect := by
  rw [View.readCov_eq_canon']; exact (ld_rows10 _ _).symm

/-- The whole of a scratch of running maxima, as loaded. -/
theorem ld_cm (X : FVec Ideal S8x256 .f32) (inb) : View.ld (Val := Elt Ideal) (S := S8x256) (e' := .f32) X (Rect.unit ![0, 0] S8x256.size inb) = X :=
  funext fun i => congrArg X (funext fun a => Fin.ext (by
    match a with
    | ⟨0, _⟩ => show 0 + 1 * (i 0).val = (i 0).val; omega
    | ⟨1, _⟩ => show 0 + 1 * (i 1).val = (i 1).val; omega))

/-- Reading the stored column maxima back whole. -/
theorem rd_cm (arg : Memref sig .tc .vmem S8x256 .f32) (harg : arg.IsWhole) (X : FVec Ideal S8x256 .f32) (inb) :
    View.readAt (Elt Ideal) arg.view (Rect.unit (s := S8x256) ![0, 0] S8x256.size inb).toLoadRect (harg.unread X) = X := by
  rw [View.readAt_eq_ld, harg.read_unread, ld_cm]

/-- The 16-bit word of zero is the number zero. -/
theorem zero16 : Ideal.ofBits .bf16 0x0000#16 = 0 := by simp [Ideal.ofBits, Ideal.ieee]

/-- Rows 0 to 63 of a window, as loaded. -/
def lo (x : FVec Ideal S1x128x256 .bf16) : FVec Ideal S1x64x256 .bf16 :=
  View.ld (Val := Elt Ideal) (e' := .bf16) x (Rect.unit ![0, 0, 0] S1x64x256.size inb_S1x128x256_S1x64x256_0_0_0)
/-- Rows 64 to 127 of a window, as loaded. -/
def hi (x : FVec Ideal S1x128x256 .bf16) : FVec Ideal S1x64x256 .bf16 :=
  View.ld (Val := Elt Ideal) (e' := .bf16) x (Rect.unit ![0, 64, 0] S1x64x256.size inb_S1x128x256_S1x64x256_0_64_0)

/-- The queries of the first component of a head, entry by entry. -/
theorem lo_apply (x : FVec Ideal S1x128x256 .bf16) (d : Fin 64) (p : Fin 256) : lo x (ix3 0 d p) = x (ix3 0 ⟨d.val, by omega⟩ p) := by
  refine congrArg x (funext fun a => Fin.ext ?_)
  match a with
  | ⟨0, _⟩ => rfl
  | ⟨1, _⟩ => show 0 + 1 * d.val = d.val; omega
  | ⟨2, _⟩ => show 0 + 1 * p.val = p.val; omega
/-- The queries of the second component of a head, entry by entry. -/
theorem hi_apply (x : FVec Ideal S1x128x256 .bf16) (d : Fin 64) (p : Fin 256) : hi x (ix3 0 d p) = x (ix3 0 ⟨64 + d.val, by omega⟩ p) := by
  refine congrArg x (funext fun a => Fin.ext ?_)
  match a with
  | ⟨0, _⟩ => rfl
  | ⟨1, _⟩ => show 64 + 1 * d.val = 64 + d.val; omega
  | ⟨2, _⟩ => show 0 + 1 * p.val = p.val; omega

/-- A value the body passes on, read off: the query block padded with zeros, or the scalar itself. -/
theorem pay368 (x : FVec Ideal S1x128x256 .bf16) : k0_pay368 (lo x) = qz 0 x := by
  funext i; idx_vars i
  pointwise [k0_pay368, k0_pay365]
  show _ = if i0.val / 64 = 0 then x (ix3 0 i0 i1) else 0
  by_cases h : i0.val < 64
  · rw [dif_pos h, if_pos (show i0.val / 64 = 0 by omega), lo_apply]
  · rw [dif_neg h, if_neg (show ¬ i0.val / 64 = 0 by omega)]
/-- A value the body passes on, read off: the query block padded with zeros, or the scalar itself. -/
theorem pay369 (x : FVec Ideal S1x128x256 .bf16) : k0_pay369 (hi x) = qz 1 x := by
  funext i; idx_vars i
  pointwise [k0_pay369, k0_pay365]
  show _ = if i0.val / 64 = 1 then x (ix3 0 i0 i1) else 0
  by_cases h : i0.val < 64
  · rw [dif_pos h, if_neg (show ¬ i0.val / 64 = 1 by omega)]
  · rw [dif_neg h, if_pos (show i0.val / 64 = 1 by omega), hi_apply]
    exact congrArg (fun a => x (ix3 0 a i1)) (Fin.ext (show 64 + (i0.val - 64) = i0.val by omega))

/-- A value the body passes on, read off: the query block padded with zeros, or the scalar itself. -/
theorem pay2 (x : FVec Ideal S1x128x256 .bf16) : k0_pay2 k0_pay365 (hi x) = qz 1 x := pay369 x

/-- The real score of query `p` against key `r`, of component `e` of the head whose queries and keys are the windows. -/
def scB (x : FVec Ideal S1x128x256 .bf16) (k : FVec Ideal S1x8448x128 .bf16) (e : Fin 2) (p : Fin 256) (r : Fin 8448) : ℝ :=
  ∑ d : Fin 64, (x (ix3 0 ⟨e.val * 64 + d.val, by omega⟩ p)).toReal * (k (ix3 0 r ⟨e.val * 64 + d.val, by omega⟩)).toReal

/-- A sum over 128 features of products with padded queries is the sum over one component's 64. -/
theorem sum_qz (x : FVec Ideal S1x128x256 .bf16) (e : Fin 2) (f : Fin 128 → EReal) (p : Fin 256) :
    ∑ d : Fin 128, f d * qz e x (ix2 d p) = ∑ d : Fin 64, f ⟨e.val * 64 + d.val, by omega⟩ * x (ix3 0 ⟨e.val * 64 + d.val, by omega⟩ p) := by
  rw [← Equiv.sum_comp (finProdFinEquiv (m := 2) (n := 64)) (fun d => f d * qz e x (ix2 d p)), Fintype.sum_prod_type]
  rw [Finset.sum_eq_single e (fun b _ hb => ?_) (fun h => absurd (Finset.mem_univ _) h)]
  · refine Finset.sum_congr rfl fun d _ => ?_
    have hd : finProdFinEquiv (m := 2) (n := 64) (e, d) = ⟨e.val * 64 + d.val, by omega⟩ := Fin.ext (by simp [finProdFinEquiv]; omega)
    have hq : qz e x (ix2 ⟨e.val * 64 + d.val, by omega⟩ p) = x (ix3 0 ⟨e.val * 64 + d.val, by omega⟩ p) := by
      unfold qz; rw [if_pos]; · rfl
      · show (e.val * 64 + d.val) / 64 = e.val; omega
    rw [hd, hq]
  · refine Finset.sum_eq_zero fun d _ => ?_
    have hd : finProdFinEquiv (m := 2) (n := 64) (b, d) = ⟨b.val * 64 + d.val, by omega⟩ := Fin.ext (by simp [finProdFinEquiv]; omega)
    have hq : qz e x (ix2 ⟨b.val * 64 + d.val, by omega⟩ p) = 0 := by
      unfold qz; rw [if_neg]
      show ¬ (b.val * 64 + d.val) / 64 = e.val
      have : b.val ≠ e.val := fun h => hb (Fin.ext h)
      omega
    rw [hd, hq, mul_zero]

/-- The scores of block `n` are real. -/
theorem blkS_qz (x : FVec Ideal S1x128x256 .bf16) (k : FVec Ideal S1x8448x128 .bf16) (hx : Finite x) (hk : Finite k) (e : Fin 2)
    (n : Fin 11) (r : Fin 768) (p : Fin 256) :
    blkS (qz e x) (kblk k n) (ix2 r p) = (scB x k e p ⟨768 * n.val + r.val, by omega⟩ : EReal) := by
  rw [blkS_apply, sum_qz x e (fun d => kblk k n (ix3 0 r d)), scB, coe_sum]
  refine Finset.sum_congr rfl fun d _ => ?_
  rw [EReal.coe_mul, hx, hk, mul_comm]; rfl

end Cert.Attn.Ker

end
-- ==== Proof.Out.lean ====
/- The difference of two components, its norm, and the block of the result. -/
module

public import proofs.«01_k».proof.Proof.Windows

@[expose] public section

set_option maxRecDepth 16384

noncomputable section

namespace Cert.Attn.Ker

open Idealize.ShloMosaic Idealize.SL.Sem Cert.KernelIdeal Cert.KernelIdeal.Gen Cert.Attn

/-- A head's normed difference of its two components. -/
def headB (li lm : FVec Ideal S1x1 .f32) (u w : FVec Ideal S128x256 .f32) (g : FVec Ideal S1x128x1 .f32) : FVec Ideal S128x256 .f32 :=
  have y : FVec Ideal S128x256 .f32 := subf u (mulf (broadcastTo S128x256 lm broadcasts_S1x1_S128x256) w)
  mulf (mulf (mulf y (broadcastTo S128x256 (rsqrt (addf (divf (shapeCast S1x256 (multiReduction .add [0] S256 (mulf y y) 0x00000000#32 reduces_S128x256_S256 (.inl rfl) rfl) shapeCasts_S256_S1x256)
    (broadcast S1x256 (Scalar.ofBits .f32 0x43000000#32))) (broadcast S1x256 (Scalar.ofBits .f32 0x358637BD#32)))) broadcasts_S1x256_S128x256))
    (broadcastTo S128x256 (shapeCast S128x1 g shapeCasts_S1x128x1_S128x1) broadcasts_S128x1_S128x256))
    (broadcastTo S128x256 (subf (broadcast S1x1 (Scalar.ofBits .f32 0x3F800000#32)) li) broadcasts_S1x1_S128x256)

/-- The block of the result, from its two heads. -/
def outB (h₀ h₁ : FVec Ideal S128x256 .f32) : FVec Ideal S1x256x256 .bf16 :=
  shapeCast S1x256x256 (truncf .bf16 (transpose S256x256 [1, 0] (concatenate S256x256 0 [⟨S128x256, h₀⟩, ⟨S128x256, h₁⟩] concatenates_S128x256_S128x256_S256x256_d0)
    transposes_S256x256_p1_0_S256x256) bitsLt_bf16_f32) shapeCasts_S256x256_S1x256x256

/-- The difference of a head's two components, normed, scaled and written out, entry by entry. -/
theorem headB_apply (li lm : FVec Ideal S1x1 .f32) (u w : FVec Ideal S128x256 .f32) (g : FVec Ideal S1x128x1 .f32) (j : Fin 128) (p : Fin 256) :
    headB li lm u w g (ix2 j p) = normed (fun j => u (ix2 j p) - lm (ix2 0 0) * w (ix2 j p)) (g (ix3 0 j 0)) (li (ix2 0 0)) j := by
  unfold normed
  pointwise [headB]

/-- The first head's half of the block of the result. -/
theorem outB_lo (h₀ h₁ : FVec Ideal S128x256 .f32) (p : Fin 256) (j : Fin 128) :
    outB h₀ h₁ (ix3 0 p ⟨j.val, by omega⟩) = h₀ (ix2 j p) := by
  pointwise [outB]

/-- The second head's half of the block of the result. -/
theorem outB_hi (h₀ h₁ : FVec Ideal S128x256 .f32) (p : Fin 256) (j : Fin 128) :
    outB h₀ h₁ (ix3 0 p ⟨128 + j.val, by omega⟩) = h₁ (ix2 j p) := by
  pointwise [outB]

/-- The mixing factor computed from the four vectors and the starting constant. -/
theorem lam_apply (v1 : FVec Ideal S4x64 .f32) (v3 : FVec Ideal S1x1 .f32) :
    k0_pay367 (F := Ideal) v1 v3 (ix2 0 0) = Ideal.exp (∑ d : Fin 64, v1 (ix2 0 d) * v1 (ix2 1 d)) - Ideal.exp (∑ d : Fin 64, v1 (ix2 2 d) * v1 (ix2 3 d)) + v3 (ix2 0 0) := by
  pointwise [k0_pay367, k0_pay366]

/-- A value the body passes on, read off: the query block padded with zeros, or the scalar itself. -/
theorem pay366 (v : FVec Ideal S1x1 .f32) : k0_pay366 v = v := by simp only [k0_pay366, shapeCast_self]

/-- A head's norm weights. -/
def gblk (x : FVec Ideal S2x128x1 .f32) (h : Fin 2) : FVec Ideal S1x128x1 .f32 := fun i => x (ix3 h (i 1) (i 2))
/-- The first entry. -/
def one1 (x : FVec Ideal S8x128 .f32) : FVec Ideal S1x1 .f32 := fun _ => x (ix2 0 0)

/-- Reading one head's row of the norm's weights. -/
theorem rd_g (arg : Memref sig .tc .vmem S2x128x1 .f32) (harg : arg.IsWhole) (X : FVec Ideal S2x128x1 .f32) (h : Fin 2) (inb) :
    View.readAt (Elt Ideal) arg.view (Rect.unit (s := S2x128x1) ![h.val, 0, 0] S1x128x1.size inb).toLoadRect (harg.unread X) = gblk X h := by
  rw [View.readAt_eq_ld, harg.read_unread]
  funext i; refine congrArg X (funext fun a => Fin.ext ?_)
  match a with
  | ⟨0, _⟩ => show h.val + 1 * (i 0).val = h.val; have h : (i 0).val < 1 := (i 0).isLt; omega
  | ⟨1, _⟩ => show 0 + 1 * (i 1).val = (i 1).val; omega
  | ⟨2, _⟩ => show 0 + 1 * (i 2).val = (i 2).val; omega
/-- Reading one head's row of the norm's weights. -/
theorem rd_g0 (arg : Memref sig .tc .vmem S2x128x1 .f32) (harg : arg.IsWhole) (X : FVec Ideal S2x128x1 .f32) (inb) :
    View.readAt (Elt Ideal) arg.view (Rect.unit (s := S2x128x1) ![0, 0, 0] S1x128x1.size inb).toLoadRect (harg.unread X) = gblk X 0 := rd_g arg harg X 0 inb
/-- Reading one head's row of the norm's weights. -/
theorem rd_g1 (arg : Memref sig .tc .vmem S2x128x1 .f32) (harg : arg.IsWhole) (X : FVec Ideal S2x128x1 .f32) (inb) :
    View.readAt (Elt Ideal) arg.view (Rect.unit (s := S2x128x1) ![1, 0, 0] S1x128x1.size inb).toLoadRect (harg.unread X) = gblk X 1 := rd_g arg harg X 1 inb
/-- Reading the four vectors of the mixing factor. -/
theorem rd_lam (arg : Memref sig .tc .vmem S4x64 .f32) (harg : arg.IsWhole) (X : FVec Ideal S4x64 .f32) (inb) :
    View.readAt (Elt Ideal) arg.view (Rect.unit (s := S4x64) ![0, 0] S4x64.size inb).toLoadRect (harg.unread X) = X := by
  rw [View.readAt_eq_ld, harg.read_unread]
  funext i; refine congrArg X (funext fun a => Fin.ext ?_)
  match a with
  | ⟨0, _⟩ => show 0 + 1 * (i 0).val = (i 0).val; omega
  | ⟨1, _⟩ => show 0 + 1 * (i 1).val = (i 1).val; omega
/-- Reading the starting constant of the mixing factor. -/
theorem rd_li (arg : Memref sig .tc .vmem S8x128 .f32) (harg : arg.IsWhole) (X : FVec Ideal S8x128 .f32) (inb) :
    View.readAt (Elt Ideal) arg.view (Rect.unit (s := S8x128) ![0, 0] S1x1.size inb).toLoadRect (harg.unread X) = one1 X := by
  rw [View.readAt_eq_ld, harg.read_unread]
  funext i; refine congrArg X (funext fun a => Fin.ext ?_)
  match a with
  | ⟨0, _⟩ => show 0 + 1 * (i 0).val = 0; have h : (i 0).val < 1 := (i 0).isLt; omega
  | ⟨1, _⟩ => show 0 + 1 * (i 1).val = 0; have h : (i 1).val < 1 := (i 1).isLt; omega

/-- The padded queries of the next tile, as its scratch slot holds them. -/
theorem pay4 (x : FVec Ideal S1x128x256 .bf16) : k0_pay4 k0_pay365 (lo x) = shapeCast S1x128x256 (qz 0 x) shapeCasts_S128x256_S1x128x256 := by
  rw [← pay368]; simp only [k0_pay4, k0_pay368, shapeCast_self]
/-- The same, before the cast of the second padding to the scratch's shape. -/
theorem pay5q (x : FVec Ideal S1x128x256 .bf16) : k0_pay1 (k0_pay370 (lo x)) = qz 0 x := pay368 x

end Cert.Attn.Ker

end
-- ==== Proof.Ctx.lean ====
/- The context tile reads the first 256 keys and values. -/
module

public import proofs.«01_k».proof.Proof.Out

@[expose] public section

set_option maxRecDepth 16384

noncomputable section

namespace Cert.Attn.Ker

open Idealize.ShloMosaic Idealize.SL.Sem Cert.KernelIdeal Cert.KernelIdeal.Gen Cert.Attn

/-- The context's keys. -/
def kctx (X : FVec Ideal S1x8448x128 .bf16) : FVec Ideal S1x256x128 .bf16 :=
  fun i => X (ix3 0 ⟨(i 1).val, by have h : (i 1).val < 256 := (i 1).isLt; omega⟩ (i 2))
/-- The context's values. -/
def vctx (X : FVec Ideal S1x128x8448 .bf16) : FVec Ideal S1x128x256 .bf16 :=
  fun i => X (ix3 0 (i 1) ⟨(i 2).val, by have h : (i 2).val < 256 := (i 2).isLt; omega⟩)
/-- Reading the first 256 keys. -/
theorem rd_kctx (arg : Memref sig .tc .vmem S1x8448x128 .bf16) (harg : arg.IsWhole) (X : FVec Ideal S1x8448x128 .bf16) (inb) :
    View.readAt (Elt Ideal) arg.view (Rect.unit (s := S1x8448x128) ![0, 0, 0] S1x256x128.size inb).toLoadRect (harg.unread X) = kctx X := by
  rw [View.readAt_eq_ld, harg.read_unread]
  funext i; refine congrArg X (funext fun a => Fin.ext ?_)
  match a with
  | ⟨0, _⟩ => show 0 + 1 * (i 0).val = 0; have h : (i 0).val < 1 := (i 0).isLt; omega
  | ⟨1, _⟩ => show 0 + 1 * (i 1).val = (i 1).val; omega
  | ⟨2, _⟩ => show 0 + 1 * (i 2).val = (i 2).val; omega
/-- Reading the first 256 values. -/
theorem rd_vctx (arg : Memref sig .tc .vmem S1x128x8448 .bf16) (harg : arg.IsWhole) (X : FVec Ideal S1x128x8448 .bf16) (inb) :
    View.readAt (Elt Ideal) arg.view (Rect.unit (s := S1x128x8448) ![0, 0, 0] S1x128x256.size inb).toLoadRect (harg.unread X) = vctx X := by
  rw [View.readAt_eq_ld, harg.read_unread]
  funext i; refine congrArg X (funext fun a => Fin.ext ?_)
  match a with
  | ⟨0, _⟩ => show 0 + 1 * (i 0).val = 0; have h : (i 0).val < 1 := (i 0).isLt; omega
  | ⟨1, _⟩ => show 0 + 1 * (i 1).val = (i 1).val; omega
  | ⟨2, _⟩ => show 0 + 1 * (i 2).val = (i 2).val; omega
/-- The scores against the context are real. -/
theorem ctxS_qz (x : FVec Ideal S1x128x256 .bf16) (k : FVec Ideal S1x8448x128 .bf16) (hx : Finite x) (hk : Finite k) (e : Fin 2)
    (r : Fin 256) (p : Fin 256) : ctxS (qz e x) (kctx k) (ix2 r p) = (scB x k e p (ctxKey r) : EReal) := by
  rw [ctxS_apply, sum_qz x e (fun d => kctx k (ix3 0 r d)), scB, coe_sum]
  refine Finset.sum_congr rfl fun d _ => ?_
  rw [EReal.coe_mul, hx, hk, mul_comm]; rfl

end Cert.Attn.Ker

end
-- ==== Proof.PayA.lean ====
/- The values the context tile stores, as the blocks of the softmax. -/
module

public import proofs.«01_k».proof.Proof.Ctx

@[expose] public section

set_option maxRecDepth 16384

noncomputable section

namespace Cert.Attn.Ker

open Idealize.ShloMosaic Idealize.SL.Sem Cert.KernelIdeal Cert.KernelIdeal.Gen Cert.Attn

/-- The context tile's scores of unit 0, as the body computes them. -/
theorem pay_AS0 (q : FVec Ideal S128x256 .bf16) (k : FVec Ideal S1x256x128 .bf16) :
    (k0_pay21 q k) = ctxS q k := by
  simp only [k0_pay20, k0_pay21, shapeCast_self] <;> rfl

/-- The column maxima of the context tile's scores of unit 0. -/
theorem pay_AM0 (q : FVec Ideal S128x256 .bf16) (k : FVec Ideal S1x256x128 .bf16) :
    (k0_pay22 q k) = ctxM (ctxS q k) := by
  simp only [k0_pay20, k0_pay22, shapeCast_self] <;> rfl

/-- The context tile's softmax denominators of unit 0. -/
theorem pay_AL0 (m l : FVec Ideal S1x256 .f32) (cm : FVec Ideal S8x256 .f32) (s : FVec Ideal S256x256 .f32) :
    (k0_pay27 m cm s l) = sumL (alpha m cm) l (ctxL (ctxP (newM m cm) s)) := by
  simp only [k0_pay23, k0_pay25, k0_pay26, k0_pay27, shapeCast_self, sumL, sumA] <;> rfl

/-- The context tile's weighted values of unit 0. -/
theorem pay_AA0 (m : FVec Ideal S1x256 .f32) (a : FVec Ideal S128x256 .f32) (cm : FVec Ideal S8x256 .f32) (s : FVec Ideal S256x256 .f32) (v : FVec Ideal S1x128x256 .bf16) :
    (k0_pay29 (k0_pay28 m cm s v a)) = sumA (alpha m cm) a (ctxA v (ctxP (newM m cm) s)) := by
  simp only [k0_pay23, k0_pay25, k0_pay26, k0_pay28, k0_pay29, shapeCast_self, sumL, sumA] <;> rfl

/-- The context tile's scores of unit 1, as the body computes them. -/
theorem pay_AS1 (q : FVec Ideal S128x256 .bf16) (k : FVec Ideal S1x256x128 .bf16) :
    (k0_pay31 q k) = ctxS q k := by
  simp only [k0_pay30, k0_pay31, shapeCast_self] <;> rfl

/-- The column maxima of the context tile's scores of unit 1. -/
theorem pay_AM1 (q : FVec Ideal S128x256 .bf16) (k : FVec Ideal S1x256x128 .bf16) :
    (k0_pay32 q k) = ctxM (ctxS q k) := by
  simp only [k0_pay30, k0_pay32, shapeCast_self] <;> rfl

/-- The context tile's softmax denominators of unit 1. -/
theorem pay_AL1 (m l : FVec Ideal S1x256 .f32) (cm : FVec Ideal S8x256 .f32) (s : FVec Ideal S256x256 .f32) :
    (k0_pay40 (k0_pay35 m cm) (k0_pay37 m cm s) l) = sumL (alpha m cm) l (ctxL (ctxP (newM m cm) s)) := by
  simp only [k0_pay33, k0_pay35, k0_pay36, k0_pay37, k0_pay40, shapeCast_self, sumL, sumA] <;> rfl

/-- The context tile's weighted values of unit 1. -/
theorem pay_AA1 (m : FVec Ideal S1x256 .f32) (a : FVec Ideal S128x256 .f32) (cm : FVec Ideal S8x256 .f32) (s : FVec Ideal S256x256 .f32) (v : FVec Ideal S1x128x256 .bf16) :
    (k0_pay41 (k0_pay35 m cm) (k0_pay38 v) (k0_pay39 m cm s) a) = sumA (alpha m cm) a (ctxA v (ctxP (newM m cm) s)) := by
  simp only [k0_pay33, k0_pay35, k0_pay36, k0_pay38, k0_pay39, k0_pay41, shapeCast_self, sumL, sumA] <;> rfl

/-- The context tile's scores of unit 2, as the body computes them. -/
theorem pay_AS2 (q : FVec Ideal S128x256 .bf16) (k : FVec Ideal S1x256x128 .bf16) :
    (k0_pay43 q k) = ctxS q k := by
  simp only [k0_pay42, k0_pay43, shapeCast_self] <;> rfl

/-- The column maxima of the context tile's scores of unit 2. -/
theorem pay_AM2 (q : FVec Ideal S128x256 .bf16) (k : FVec Ideal S1x256x128 .bf16) :
    (k0_pay44 q k) = ctxM (ctxS q k) := by
  simp only [k0_pay42, k0_pay44, shapeCast_self] <;> rfl

/-- The context tile's softmax denominators of unit 2. -/
theorem pay_AL2 (m l : FVec Ideal S1x256 .f32) (cm : FVec Ideal S8x256 .f32) (s : FVec Ideal S256x256 .f32) :
    (k0_pay49 m cm s l) = sumL (alpha m cm) l (ctxL (ctxP (newM m cm) s)) := by
  simp only [k0_pay45, k0_pay47, k0_pay48, k0_pay49, shapeCast_self, sumL, sumA] <;> rfl

/-- The context tile's weighted values of unit 2. -/
theorem pay_AA2 (m : FVec Ideal S1x256 .f32) (a : FVec Ideal S128x256 .f32) (cm : FVec Ideal S8x256 .f32) (s : FVec Ideal S256x256 .f32) (v : FVec Ideal S1x128x256 .bf16) :
    (k0_pay50 m cm s v a) = sumA (alpha m cm) a (ctxA v (ctxP (newM m cm) s)) := by
  simp only [k0_pay45, k0_pay47, k0_pay48, k0_pay50, shapeCast_self, sumL, sumA] <;> rfl

/-- The context tile's scores of unit 3, as the body computes them. -/
theorem pay_AS3 (q : FVec Ideal S128x256 .bf16) (k : FVec Ideal S1x256x128 .bf16) :
    (k0_pay52 q k) = ctxS q k := by
  simp only [k0_pay51, k0_pay52, shapeCast_self] <;> rfl

/-- The column maxima of the context tile's scores of unit 3. -/
theorem pay_AM3 (q : FVec Ideal S128x256 .bf16) (k : FVec Ideal S1x256x128 .bf16) :
    (k0_pay53 q k) = ctxM (ctxS q k) := by
  simp only [k0_pay51, k0_pay53, shapeCast_self] <;> rfl

/-- The context tile's softmax denominators of unit 3. -/
theorem pay_AL3 (m l : FVec Ideal S1x256 .f32) (cm : FVec Ideal S8x256 .f32) (s : FVec Ideal S256x256 .f32) :
    (k0_pay61 (k0_pay59 m cm l) (k0_pay60 m cm s)) = sumL (alpha m cm) l (ctxL (ctxP (newM m cm) s)) := by
  simp only [k0_pay54, k0_pay56, k0_pay57, k0_pay59, k0_pay60, k0_pay61, shapeCast_self, sumL, sumA] <;> rfl

/-- The context tile's weighted values of unit 3. -/
theorem pay_AA3 (m : FVec Ideal S1x256 .f32) (a : FVec Ideal S128x256 .f32) (cm : FVec Ideal S8x256 .f32) (s : FVec Ideal S256x256 .f32) (v : FVec Ideal S1x128x256 .bf16) :
    (k0_pay62 (k0_pay56 m cm) (k0_pay58 m cm s v) a) = sumA (alpha m cm) a (ctxA v (ctxP (newM m cm) s)) := by
  simp only [k0_pay54, k0_pay56, k0_pay57, k0_pay58, k0_pay62, shapeCast_self, sumL, sumA] <;> rfl

/-- Block 0 of the next tile's scores, as the context tile's body computes it. -/
theorem pay_AN_0 (q : FVec Ideal S128x256 .bf16) (k : Fin 11 → FVec Ideal S1x768x128 .bf16) :
    (k0_pay64 (shapeCast S1x128x256 q shapeCasts_S128x256_S1x128x256) (k 0)) = blkS q (k 0) := by
  simp only [k0_pay63, k0_pay64, shapeCast_self, shapeCast_shapeCast] <;> rfl

/-- Block 1 of the next tile's scores, as the context tile's body computes it. -/
theorem pay_AN_1 (q : FVec Ideal S128x256 .bf16) (k : Fin 11 → FVec Ideal S1x768x128 .bf16) :
    (k0_pay67 (shapeCast S1x128x256 q shapeCasts_S128x256_S1x128x256) (k 1)) = blkS q (k 1) := by
  simp only [k0_pay66, k0_pay67, shapeCast_self, shapeCast_shapeCast] <;> rfl

/-- Block 2 of the next tile's scores, as the context tile's body computes it. -/
theorem pay_AN_2 (q : FVec Ideal S128x256 .bf16) (k : Fin 11 → FVec Ideal S1x768x128 .bf16) :
    (k0_pay70 (shapeCast S1x128x256 q shapeCasts_S128x256_S1x128x256) (k 2)) = blkS q (k 2) := by
  simp only [k0_pay69, k0_pay70, shapeCast_self, shapeCast_shapeCast] <;> rfl

/-- Block 3 of the next tile's scores, as the context tile's body computes it. -/
theorem pay_AN_3 (q : FVec Ideal S128x256 .bf16) (k : Fin 11 → FVec Ideal S1x768x128 .bf16) :
    (k0_pay72 (shapeCast S1x128x256 q shapeCasts_S128x256_S1x128x256) (k 3)) = blkS q (k 3) := by
  simp only [k0_pay71, k0_pay72, shapeCast_self, shapeCast_shapeCast] <;> rfl

/-- Block 4 of the next tile's scores, as the context tile's body computes it. -/
theorem pay_AN_4 (q : FVec Ideal S128x256 .bf16) (k : Fin 11 → FVec Ideal S1x768x128 .bf16) :
    (k0_pay75 (k0_pay74 (shapeCast S1x128x256 q shapeCasts_S128x256_S1x128x256) (k 4))) = blkS q (k 4) := by
  simp only [k0_pay74, k0_pay75, shapeCast_self, shapeCast_shapeCast] <;> rfl

/-- Block 5 of the next tile's scores, as the context tile's body computes it. -/
theorem pay_AN_5 (q : FVec Ideal S128x256 .bf16) (k : Fin 11 → FVec Ideal S1x768x128 .bf16) :
    (k0_pay77 (shapeCast S1x128x256 q shapeCasts_S128x256_S1x128x256) (k 5)) = blkS q (k 5) := by
  simp only [k0_pay76, k0_pay77, shapeCast_self, shapeCast_shapeCast] <;> rfl

/-- Block 6 of the next tile's scores, as the context tile's body computes it. -/
theorem pay_AN_6 (q : FVec Ideal S128x256 .bf16) (k : Fin 11 → FVec Ideal S1x768x128 .bf16) :
    (k0_pay79 (shapeCast S1x128x256 q shapeCasts_S128x256_S1x128x256) (k 6)) = blkS q (k 6) := by
  simp only [k0_pay78, k0_pay79, shapeCast_self, shapeCast_shapeCast] <;> rfl

/-- Block 7 of the next tile's scores, as the context tile's body computes it. -/
theorem pay_AN_7 (q : FVec Ideal S128x256 .bf16) (k : Fin 11 → FVec Ideal S1x768x128 .bf16) :
    (k0_pay83 (k0_pay81 (shapeCast S1x128x256 q shapeCasts_S128x256_S1x128x256)) (k 7)) = blkS q (k 7) := by
  simp only [k0_pay81, k0_pay82, k0_pay83, shapeCast_self, shapeCast_shapeCast] <;> rfl

/-- Block 8 of the next tile's scores, as the context tile's body computes it. -/
theorem pay_AN_8 (q : FVec Ideal S128x256 .bf16) (k : Fin 11 → FVec Ideal S1x768x128 .bf16) :
    (k0_pay85 (shapeCast S1x128x256 q shapeCasts_S128x256_S1x128x256) (k 8)) = blkS q (k 8) := by
  simp only [k0_pay84, k0_pay85, shapeCast_self, shapeCast_shapeCast] <;> rfl

/-- Block 9 of the next tile's scores, as the context tile's body computes it. -/
theorem pay_AN_9 (q : FVec Ideal S128x256 .bf16) (k : Fin 11 → FVec Ideal S1x768x128 .bf16) :
    (k0_pay87 (shapeCast S1x128x256 q shapeCasts_S128x256_S1x128x256) (k 9)) = blkS q (k 9) := by
  simp only [k0_pay86, k0_pay87, shapeCast_self, shapeCast_shapeCast] <;> rfl

/-- Block 10 of the next tile's scores, as the context tile's body computes it. -/
theorem pay_AN_10 (q : FVec Ideal S128x256 .bf16) (k : Fin 11 → FVec Ideal S1x768x128 .bf16) :
    (k0_pay90 (shapeCast S1x128x256 q shapeCasts_S128x256_S1x128x256) (k 10)) = blkS q (k 10) := by
  simp only [k0_pay89, k0_pay90, shapeCast_self, shapeCast_shapeCast] <;> rfl

/-- The column maxima of the next tile's scores, as the context tile's body computes them. -/
theorem pay_ANM (q : FVec Ideal S128x256 .bf16) (k : Fin 11 → FVec Ideal S1x768x128 .bf16) :
    (k0_pay91 (k0_pay88 (k0_pay80 (k0_pay73 (k0_pay65 (shapeCast S1x128x256 q shapeCasts_S128x256_S1x128x256) (k 0)) (k0_pay68 (shapeCast S1x128x256 q shapeCasts_S128x256_S1x128x256) (k 1)) (shapeCast S1x128x256 q shapeCasts_S128x256_S1x128x256) (k 2) (shapeCast S1x128x256 q shapeCasts_S128x256_S1x128x256) (k 3)) (k0_pay74 (shapeCast S1x128x256 q shapeCasts_S128x256_S1x128x256) (k 4)) (shapeCast S1x128x256 q shapeCasts_S128x256_S1x128x256) (k 5) (shapeCast S1x128x256 q shapeCasts_S128x256_S1x128x256) (k 6)) (k0_pay81 (shapeCast S1x128x256 q shapeCasts_S128x256_S1x128x256)) (k 7) (shapeCast S1x128x256 q shapeCasts_S128x256_S1x128x256) (k 8) (shapeCast S1x128x256 q shapeCasts_S128x256_S1x128x256) (k 9)) (shapeCast S1x128x256 q shapeCasts_S128x256_S1x128x256) (k 10)) = chainM (fun n => blkS q (k n)) := by
  simp only [k0_pay63, k0_pay65, k0_pay66, k0_pay68, k0_pay69, k0_pay71, k0_pay73, k0_pay74, k0_pay76, k0_pay78, k0_pay80, k0_pay81, k0_pay82, k0_pay84, k0_pay86, k0_pay88, k0_pay89, k0_pay91, shapeCast_self, shapeCast_shapeCast] <;> rfl

/-- The context tile's block of the result from the four denominators and weighted values. -/
theorem pay_Aout (li : FVec Ideal S1x1 .f32) (lv : FVec Ideal S4x64 .f32) (l0v l1v l2v l3v : FVec Ideal S1x256 .f32) (a0v a1v a2v a3v : FVec Ideal S128x256 .f32) (g0 g1 : FVec Ideal S1x128x1 .f32) :
    (k0_pay5 (k0_pay366 li) (k0_pay95 (k0_pay366 li) (k0_pay367 lv li) (k0_pay92 l0v a0v) (k0_pay93 l1v a1v) g0) (k0_pay96 (k0_pay367 lv li) (k0_pay94 l2v a2v) l3v a3v) (k0_pay97 g1)) = outB (headB li (k0_pay367 lv li) (quot l0v a0v) (quot l1v a1v) g0) (headB li (k0_pay367 lv li) (quot l2v a2v) (quot l3v a3v) g1) := by
  rw [pay366]
  generalize k0_pay367 (F := Ideal) lv li = lm
  rfl

end Cert.Attn.Ker

end
-- ==== Proof.BodyA.lean ====
/- What the context tile reads back of what it stored, and what it leaves. -/
module

public import proofs.«01_k».proof.Proof.PayA
public import proofs.«01_k».proof.Proof.Gen.KernelIdeal.Frame.RunA

@[expose] public section

set_option maxRecDepth 16384

noncomputable section

namespace Cert.Attn.Ker

open Idealize.ShloMosaic Idealize.SL.Sem Cert.KernelIdeal Cert.KernelIdeal.Gen Cert.Attn

variable (c : Dev nD)
  (arg3 : Memref sig .tc .vmem S1x128x256 .bf16) (harg3 : arg3.IsWhole)
  (arg4 : Memref sig .tc .vmem S1x128x256 .bf16) (harg4 : arg4.IsWhole)
  (arg5 : Memref sig .tc .vmem S1x8448x128 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg8 : Memref sig .tc .vmem S1x128x8448 .bf16) (harg8 : arg8.IsWhole)
  (arg9 : Memref sig .tc .vmem S1x128x256 .bf16) (harg9 : arg9.IsWhole)
  (arg10 : Memref sig .tc .vmem S2x128x1 .f32) (harg10 : arg10.IsWhole)
  (arg11 : Memref sig .tc .vmem S4x64 .f32) (harg11 : arg11.IsWhole)
  (arg12 : Memref sig .tc .vmem S8x128 .f32) (harg12 : arg12.IsWhole)
  (arg13 : Memref sig .tc .vmem S1x256x256 .bf16) (harg13 : arg13.IsWhole)
  (arg14 : Memref sig .tc .vmem S128x256 .bf16) (harg14 : arg14.IsWhole)
  (arg15 : Memref sig .tc .vmem S128x256 .bf16) (harg15 : arg15.IsWhole)
  (arg16 : Memref sig .tc .vmem S128x256 .bf16) (harg16 : arg16.IsWhole)
  (arg17 : Memref sig .tc .vmem S128x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S1x256 .f32) (harg23 : arg23.IsWhole)
  (arg24 : Memref sig .tc .vmem S1x256 .f32) (harg24 : arg24.IsWhole)
  (arg25 : Memref sig .tc .vmem S1x256 .f32) (harg25 : arg25.IsWhole)
  (arg26 : Memref sig .tc .vmem S128x256 .f32) (harg26 : arg26.IsWhole)
  (arg27 : Memref sig .tc .vmem S128x256 .f32) (harg27 : arg27.IsWhole)
  (arg28 : Memref sig .tc .vmem S128x256 .f32) (harg28 : arg28.IsWhole)
  (arg29 : Memref sig .tc .vmem S128x256 .f32) (harg29 : arg29.IsWhole)
  (arg30 : Memref sig .tc .vmem S8448x256 .f32) (harg30 : arg30.IsWhole)
  (arg31 : Memref sig .tc .vmem S8448x256 .f32) (harg31 : arg31.IsWhole)
  (arg32 : Memref sig .tc .vmem S8x256 .f32) (harg32 : arg32.IsWhole)
  (arg33 : Memref sig .tc .vmem S8x256 .f32) (harg33 : arg33.IsWhole)
  (arg34 : Memref sig .tc .vmem S2x128x256 .bf16) (harg34 : arg34.IsWhole)
  (x0 : Vec Ideal S1x128x256 .bf16) (x1 : Vec Ideal S1x128x256 .bf16) (x2 : Vec Ideal S1x8448x128 .bf16) (x3 : Vec Ideal S1x8448x128 .bf16) (x4 : Vec Ideal S1x128x8448 .bf16) (x5 : Vec Ideal S1x128x8448 .bf16) (x6 : Vec Ideal S1x128x256 .bf16) (x7 : Vec Ideal S2x128x1 .f32) (x8 : Vec Ideal S4x64 .f32) (x9 : Vec Ideal S8x128 .f32)
  (i : grid0.Coords) (hc0 : cond0_0 i) (hc1 : ¬cond0_1 i)

/-- The context tile: the value at step 109 of the body, over the windows' contents. -/
theorem A_v109 : (kernelRun0_A.sl.v109 (F := Ideal) c arg3 harg3 arg14 x0) = qz 0 x0 := by
  unfold kernelRun0_A.sl.v109 kernelRun0_A.sl.HS0_1
  rw [View.readCov_cons_toLoadRect, View.readAt_eq_ld, harg3.read_unread]; exact pay368 x0

/-- The context tile: the value at step 156 of the body, over the windows' contents. -/
theorem A_v156 : (kernelRun0_A.sl.v156 (F := Ideal) c arg3 harg3 arg15 x0) = qz 1 x0 := by
  unfold kernelRun0_A.sl.v156 kernelRun0_A.sl.HS1_1
  rw [View.readCov_cons_toLoadRect, View.readAt_eq_ld, harg3.read_unread]; exact pay369 x0

/-- The context tile: the value at step 203 of the body, over the windows' contents. -/
theorem A_v203 : (kernelRun0_A.sl.v203 (F := Ideal) c arg4 harg4 arg16 x1) = qz 0 x1 := by
  unfold kernelRun0_A.sl.v203 kernelRun0_A.sl.HS2_1 kernelRun0_A.sl.r_2
  rw [View.readCov_cons_toLoadRect, View.readAt_eq_ld, harg4.read_unread]; exact pay368 x1

/-- The context tile: the value at step 250 of the body, over the windows' contents. -/
theorem A_v250 : (kernelRun0_A.sl.v250 (F := Ideal) c arg4 harg4 arg17 x1) = qz 1 x1 := by
  unfold kernelRun0_A.sl.v250 kernelRun0_A.sl.HS3_1
  rw [View.readCov_cons_toLoadRect, View.readAt_eq_ld, harg4.read_unread]; exact pay2 x1

/-- The context tile: the value at step 131 of the body, over the windows' contents. -/
theorem A_v131 : (kernelRun0_A.sl.v131 (F := Ideal) c arg3 harg3 arg5 harg5 arg14 arg30 x0 x2) = ctxS (qz 0 x0) (kctx x2) := by
  unfold kernelRun0_A.sl.v131 kernelRun0_A.sl.HS16_1
  rw [View.readCov_cons_toLoadRect]
  rw [A_v109, rd_kctx]
  exact pay_AS0 _ _

/-- The context tile: the value at step 122 of the body, over the windows' contents. -/
theorem A_v122 : (kernelRun0_A.sl.v122 (F := Ideal) c arg3 harg3 arg5 harg5 arg14 arg32 x0 x2) = ctxM (ctxS (qz 0 x0) (kctx x2)) := by
  unfold kernelRun0_A.sl.v122 kernelRun0_A.sl.HS18_1
  rw [View.readCov_cons_toLoadRect]
  unfold kernelRun0_A.sl.r_3
  rw [A_v109, rd_kctx]
  exact pay_AM0 _ _

/-- The context tile: the value at step 121 of the body, over the windows' contents. -/
theorem A_v121 : (kernelRun0_A.sl.v121 (F := Ideal) c arg18) = m0 := by
  unfold kernelRun0_A.sl.v121 kernelRun0_A.sl.HS4_1
  rw [View.readCov_cons_toLoadRect]; rfl

/-- The context tile: the value at step 141 of the body, over the windows' contents. -/
theorem A_v141 : (kernelRun0_A.sl.v141 (F := Ideal) c arg22) = l0 := by
  unfold kernelRun0_A.sl.v141 kernelRun0_A.sl.HS8_1
  rw [View.readCov_cons_toLoadRect]; rfl

/-- The context tile: the value at step 420 of the body, over the windows' contents. -/
theorem A_v420 : (kernelRun0_A.sl.v420 (F := Ideal) c arg3 harg3 arg5 harg5 arg14 arg18 arg22 arg30 arg32 x0 x2) = sumL (alpha m0 (ctxM (ctxS (qz 0 x0) (kctx x2)))) l0 (ctxL (ctxP (newM m0 (ctxM (ctxS (qz 0 x0) (kctx x2)))) (ctxS (qz 0 x0) (kctx x2)))) := by
  unfold kernelRun0_A.sl.v420 kernelRun0_A.sl.HS8_2
  rw [View.readCov_cons_toLoadRect]
  rw [A_v121, A_v122, A_v131, A_v141]
  exact pay_AL0 _ _ _ _

/-- The context tile: the value at step 149 of the body, over the windows' contents. -/
theorem A_v149 : (kernelRun0_A.sl.v149 (F := Ideal) c arg26) = a0 := by
  unfold kernelRun0_A.sl.v149 kernelRun0_A.sl.HS12_1
  rw [View.readCov_cons_toLoadRect]; rfl

/-- The context tile: the value at step 421 of the body, over the windows' contents. -/
theorem A_v421 : (kernelRun0_A.sl.v421 (F := Ideal) c arg3 harg3 arg5 harg5 arg7 harg7 arg14 arg18 arg26 arg30 arg32 x0 x2 x4) = sumA (alpha m0 (ctxM (ctxS (qz 0 x0) (kctx x2)))) a0 (ctxA (vctx x4) (ctxP (newM m0 (ctxM (ctxS (qz 0 x0) (kctx x2)))) (ctxS (qz 0 x0) (kctx x2)))) := by
  unfold kernelRun0_A.sl.v421 kernelRun0_A.sl.HS12_2
  rw [View.readCov_cons_toLoadRect]
  unfold kernelRun0_A.sl.r_4
  rw [A_v121, A_v122, A_v131, A_v149]
  rw [rd_vctx]
  exact pay_AA0 _ _ _ _ _

/-- The context tile: the value at step 178 of the body, over the windows' contents. -/
theorem A_v178 : (kernelRun0_A.sl.v178 (F := Ideal) c arg3 harg3 arg5 harg5 arg15 arg31 x0 x2) = ctxS (qz 1 x0) (kctx x2) := by
  unfold kernelRun0_A.sl.v178 kernelRun0_A.sl.HS17_1
  rw [View.readCov_cons_toLoadRect]
  rw [A_v156, rd_kctx]
  exact pay_AS1 _ _

/-- The context tile: the value at step 169 of the body, over the windows' contents. -/
theorem A_v169 : (kernelRun0_A.sl.v169 (F := Ideal) c arg3 harg3 arg5 harg5 arg15 arg33 x0 x2) = ctxM (ctxS (qz 1 x0) (kctx x2)) := by
  unfold kernelRun0_A.sl.v169 kernelRun0_A.sl.HS19_1
  rw [View.readCov_cons_toLoadRect]
  rw [A_v156, rd_kctx]
  exact pay_AM1 _ _

/-- The context tile: the value at step 168 of the body, over the windows' contents. -/
theorem A_v168 : (kernelRun0_A.sl.v168 (F := Ideal) c arg19) = m0 := by
  unfold kernelRun0_A.sl.v168 kernelRun0_A.sl.HS5_1
  rw [View.readCov_cons_toLoadRect]; rfl

/-- The context tile: the value at step 188 of the body, over the windows' contents. -/
theorem A_v188 : (kernelRun0_A.sl.v188 (F := Ideal) c arg23) = l0 := by
  unfold kernelRun0_A.sl.v188 kernelRun0_A.sl.HS9_1
  rw [View.readCov_cons_toLoadRect]; rfl

/-- The context tile: the value at step 426 of the body, over the windows' contents. -/
theorem A_v426 : (kernelRun0_A.sl.v426 (F := Ideal) c arg3 harg3 arg5 harg5 arg15 arg19 arg23 arg31 arg33 x0 x2) = sumL (alpha m0 (ctxM (ctxS (qz 1 x0) (kctx x2)))) l0 (ctxL (ctxP (newM m0 (ctxM (ctxS (qz 1 x0) (kctx x2)))) (ctxS (qz 1 x0) (kctx x2)))) := by
  unfold kernelRun0_A.sl.v426 kernelRun0_A.sl.HS9_2
  rw [View.readCov_cons_toLoadRect]
  unfold kernelRun0_A.sl.r_5 kernelRun0_A.sl.r_6
  rw [A_v168, A_v169, A_v178, A_v188]
  exact pay_AL1 _ _ _ _

/-- The context tile: the value at step 196 of the body, over the windows' contents. -/
theorem A_v196 : (kernelRun0_A.sl.v196 (F := Ideal) c arg27) = a0 := by
  unfold kernelRun0_A.sl.v196 kernelRun0_A.sl.HS13_1
  rw [View.readCov_cons_toLoadRect]; rfl

/-- The context tile: the value at step 427 of the body, over the windows' contents. -/
theorem A_v427 : (kernelRun0_A.sl.v427 (F := Ideal) c arg3 harg3 arg5 harg5 arg7 harg7 arg15 arg19 arg27 arg31 arg33 x0 x2 x4) = sumA (alpha m0 (ctxM (ctxS (qz 1 x0) (kctx x2)))) a0 (ctxA (vctx x4) (ctxP (newM m0 (ctxM (ctxS (qz 1 x0) (kctx x2)))) (ctxS (qz 1 x0) (kctx x2)))) := by
  unfold kernelRun0_A.sl.v427 kernelRun0_A.sl.HS13_2
  rw [View.readCov_cons_toLoadRect]
  unfold kernelRun0_A.sl.r_5 kernelRun0_A.sl.r_7 kernelRun0_A.sl.r_8
  rw [A_v168, A_v169, A_v178, A_v196]
  rw [rd_vctx]
  exact pay_AA1 _ _ _ _ _

/-- The context tile: the value at step 225 of the body, over the windows' contents. -/
theorem A_v225 : (kernelRun0_A.sl.v225 (F := Ideal) c arg3 harg3 arg4 harg4 arg5 harg5 arg6 harg6 arg14 arg16 arg30 x0 x1 x2 x3) = ctxS (qz 0 x1) (kctx x3) := by
  unfold kernelRun0_A.sl.v225 kernelRun0_A.sl.HS16_2
  rw [View.readCov_cons_toLoadRect]
  rw [A_v203, rd_kctx]
  exact pay_AS2 _ _

/-- The context tile: the value at step 216 of the body, over the windows' contents. -/
theorem A_v216 : (kernelRun0_A.sl.v216 (F := Ideal) c arg3 harg3 arg4 harg4 arg5 harg5 arg6 harg6 arg14 arg16 arg32 x0 x1 x2 x3) = ctxM (ctxS (qz 0 x1) (kctx x3)) := by
  unfold kernelRun0_A.sl.v216 kernelRun0_A.sl.HS18_2
  rw [View.readCov_cons_toLoadRect]
  rw [A_v203, rd_kctx]
  exact pay_AM2 _ _

/-- The context tile: the value at step 215 of the body, over the windows' contents. -/
theorem A_v215 : (kernelRun0_A.sl.v215 (F := Ideal) c arg20) = m0 := by
  unfold kernelRun0_A.sl.v215 kernelRun0_A.sl.HS6_1
  rw [View.readCov_cons_toLoadRect]; rfl

/-- The context tile: the value at step 235 of the body, over the windows' contents. -/
theorem A_v235 : (kernelRun0_A.sl.v235 (F := Ideal) c arg24) = l0 := by
  unfold kernelRun0_A.sl.v235 kernelRun0_A.sl.HS10_1
  rw [View.readCov_cons_toLoadRect]; rfl

/-- The context tile: the value at step 432 of the body, over the windows' contents. -/
theorem A_v432 : (kernelRun0_A.sl.v432 (F := Ideal) c arg3 harg3 arg4 harg4 arg5 harg5 arg6 harg6 arg14 arg16 arg20 arg24 arg30 arg32 x0 x1 x2 x3) = sumL (alpha m0 (ctxM (ctxS (qz 0 x1) (kctx x3)))) l0 (ctxL (ctxP (newM m0 (ctxM (ctxS (qz 0 x1) (kctx x3)))) (ctxS (qz 0 x1) (kctx x3)))) := by
  unfold kernelRun0_A.sl.v432 kernelRun0_A.sl.HS10_2
  rw [View.readCov_cons_toLoadRect]
  rw [A_v215, A_v216, A_v225, A_v235]
  exact pay_AL2 _ _ _ _

/-- The context tile: the value at step 243 of the body, over the windows' contents. -/
theorem A_v243 : (kernelRun0_A.sl.v243 (F := Ideal) c arg28) = a0 := by
  unfold kernelRun0_A.sl.v243 kernelRun0_A.sl.HS14_1
  rw [View.readCov_cons_toLoadRect]; rfl

/-- The context tile: the value at step 433 of the body, over the windows' contents. -/
theorem A_v433 : (kernelRun0_A.sl.v433 (F := Ideal) c arg3 harg3 arg4 harg4 arg5 harg5 arg6 harg6 arg8 harg8 arg14 arg16 arg20 arg28 arg30 arg32 x0 x1 x2 x3 x5) = sumA (alpha m0 (ctxM (ctxS (qz 0 x1) (kctx x3)))) a0 (ctxA (vctx x5) (ctxP (newM m0 (ctxM (ctxS (qz 0 x1) (kctx x3)))) (ctxS (qz 0 x1) (kctx x3)))) := by
  unfold kernelRun0_A.sl.v433 kernelRun0_A.sl.HS14_2
  rw [View.readCov_cons_toLoadRect]
  rw [A_v215, A_v216, A_v225, A_v243]
  rw [rd_vctx]
  exact pay_AA2 _ _ _ _ _

/-- The context tile: the value at step 272 of the body, over the windows' contents. -/
theorem A_v272 : (kernelRun0_A.sl.v272 (F := Ideal) c arg3 harg3 arg4 harg4 arg5 harg5 arg6 harg6 arg15 arg17 arg31 x0 x1 x2 x3) = ctxS (qz 1 x1) (kctx x3) := by
  unfold kernelRun0_A.sl.v272 kernelRun0_A.sl.HS17_2
  rw [View.readCov_cons_toLoadRect]
  rw [A_v250, rd_kctx]
  exact pay_AS3 _ _

/-- The context tile: the value at step 263 of the body, over the windows' contents. -/
theorem A_v263 : (kernelRun0_A.sl.v263 (F := Ideal) c arg3 harg3 arg4 harg4 arg5 harg5 arg6 harg6 arg15 arg17 arg33 x0 x1 x2 x3) = ctxM (ctxS (qz 1 x1) (kctx x3)) := by
  unfold kernelRun0_A.sl.v263 kernelRun0_A.sl.HS19_2
  rw [View.readCov_cons_toLoadRect]
  rw [A_v250, rd_kctx]
  exact pay_AM3 _ _

/-- The context tile: the value at step 262 of the body, over the windows' contents. -/
theorem A_v262 : (kernelRun0_A.sl.v262 (F := Ideal) c arg21) = m0 := by
  unfold kernelRun0_A.sl.v262 kernelRun0_A.sl.HS7_1
  rw [View.readCov_cons_toLoadRect]; rfl

/-- The context tile: the value at step 282 of the body, over the windows' contents. -/
theorem A_v282 : (kernelRun0_A.sl.v282 (F := Ideal) c arg25) = l0 := by
  unfold kernelRun0_A.sl.v282 kernelRun0_A.sl.HS11_1
  rw [View.readCov_cons_toLoadRect]; rfl

/-- The context tile: the value at step 438 of the body, over the windows' contents. -/
theorem A_v438 : (kernelRun0_A.sl.v438 (F := Ideal) c arg3 harg3 arg4 harg4 arg5 harg5 arg6 harg6 arg15 arg17 arg21 arg25 arg31 arg33 x0 x1 x2 x3) = sumL (alpha m0 (ctxM (ctxS (qz 1 x1) (kctx x3)))) l0 (ctxL (ctxP (newM m0 (ctxM (ctxS (qz 1 x1) (kctx x3)))) (ctxS (qz 1 x1) (kctx x3)))) := by
  unfold kernelRun0_A.sl.v438 kernelRun0_A.sl.HS11_2
  rw [View.readCov_cons_toLoadRect]
  unfold kernelRun0_A.sl.r_11 kernelRun0_A.sl.r_12
  rw [A_v262, A_v263, A_v282, A_v272]
  exact pay_AL3 _ _ _ _

/-- The context tile: the value at step 290 of the body, over the windows' contents. -/
theorem A_v290 : (kernelRun0_A.sl.v290 (F := Ideal) c arg29) = a0 := by
  unfold kernelRun0_A.sl.v290 kernelRun0_A.sl.HS15_1
  rw [View.readCov_cons_toLoadRect]; rfl

/-- The context tile: the value at step 439 of the body, over the windows' contents. -/
theorem A_v439 : (kernelRun0_A.sl.v439 (F := Ideal) c arg3 harg3 arg4 harg4 arg5 harg5 arg6 harg6 arg8 harg8 arg15 arg17 arg21 arg29 arg31 arg33 x0 x1 x2 x3 x5) = sumA (alpha m0 (ctxM (ctxS (qz 1 x1) (kctx x3)))) a0 (ctxA (vctx x5) (ctxP (newM m0 (ctxM (ctxS (qz 1 x1) (kctx x3)))) (ctxS (qz 1 x1) (kctx x3)))) := by
  unfold kernelRun0_A.sl.v439 kernelRun0_A.sl.HS15_2
  rw [View.readCov_cons_toLoadRect]
  unfold kernelRun0_A.sl.r_10 kernelRun0_A.sl.r_9
  rw [A_v262, A_v263, A_v272, A_v290]
  rw [rd_vctx]
  exact pay_AA3 _ _ _ _ _

/-- The context tile: the value at step 297 of the body, over the windows' contents. -/
theorem A_v297 : (kernelRun0_A.sl.v297 (F := Ideal) c arg3 harg3 arg9 harg9 arg34 x0 x6) = shapeCast S1x128x256 (qz 0 x6) shapeCasts_S128x256_S1x128x256 := by
  unfold kernelRun0_A.sl.v297 kernelRun0_A.sl.HS20_2
  refine Eq.trans (View.readCov_cons_toLoadRect _ _ _ _) ?_
  rw [View.readAt_eq_ld, harg9.read_unread]; exact pay4 x6

/-- The context tile: component 1 of what the body leaves is the list of its stores. -/
theorem A_comp1 : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1 = (⟨Rect.unit (s := S8448x256) ![7680, 0] S768x256.size inb_S8448x256_S768x256_7680_0, k0_pay90 (kernelRun0_A.sl.v297 c arg3 harg3 arg9 harg9 arg34 x0 x6) (View.readAt (Elt Ideal) arg5.view (Rect.unit (s := S1x8448x128) ![0, 7680, 0] S1x768x128.size inb_S1x8448x128_S1x768x128_0_7680_0).toLoadRect (harg5.unread x2))⟩ :: ⟨Rect.unit (s := S8448x256) ![6912, 0] S768x256.size inb_S8448x256_S768x256_6912_0, k0_pay87 (kernelRun0_A.sl.v297 c arg3 harg3 arg9 harg9 arg34 x0 x6) (View.readAt (Elt Ideal) arg5.view (Rect.unit (s := S1x8448x128) ![0, 6912, 0] S1x768x128.size inb_S1x8448x128_S1x768x128_0_6912_0).toLoadRect (harg5.unread x2))⟩ :: ⟨Rect.unit (s := S8448x256) ![6144, 0] S768x256.size inb_S8448x256_S768x256_6144_0, k0_pay85 (kernelRun0_A.sl.v297 c arg3 harg3 arg9 harg9 arg34 x0 x6) (View.readAt (Elt Ideal) arg5.view (Rect.unit (s := S1x8448x128) ![0, 6144, 0] S1x768x128.size inb_S1x8448x128_S1x768x128_0_6144_0).toLoadRect (harg5.unread x2))⟩ :: ⟨Rect.unit (s := S8448x256) ![5376, 0] S768x256.size inb_S8448x256_S768x256_5376_0, k0_pay83 (kernelRun0_A.sl.r_18 c arg3 harg3 arg9 harg9 arg34 x0 x6) (View.readAt (Elt Ideal) arg5.view (Rect.unit (s := S1x8448x128) ![0, 5376, 0] S1x768x128.size inb_S1x8448x128_S1x768x128_0_5376_0).toLoadRect (harg5.unread x2))⟩ :: ⟨Rect.unit (s := S8448x256) ![4608, 0] S768x256.size inb_S8448x256_S768x256_4608_0, k0_pay79 (kernelRun0_A.sl.v297 c arg3 harg3 arg9 harg9 arg34 x0 x6) (View.readAt (Elt Ideal) arg5.view (Rect.unit (s := S1x8448x128) ![0, 4608, 0] S1x768x128.size inb_S1x8448x128_S1x768x128_0_4608_0).toLoadRect (harg5.unread x2))⟩ :: ⟨Rect.unit (s := S8448x256) ![3840, 0] S768x256.size inb_S8448x256_S768x256_3840_0, k0_pay77 (kernelRun0_A.sl.v297 c arg3 harg3 arg9 harg9 arg34 x0 x6) (View.readAt (Elt Ideal) arg5.view (Rect.unit (s := S1x8448x128) ![0, 3840, 0] S1x768x128.size inb_S1x8448x128_S1x768x128_0_3840_0).toLoadRect (harg5.unread x2))⟩ :: ⟨Rect.unit (s := S8448x256) ![3072, 0] S768x256.size inb_S8448x256_S768x256_3072_0, k0_pay75 (kernelRun0_A.sl.r_16 c arg3 harg3 arg5 harg5 arg9 harg9 arg34 x0 x2 x6)⟩ :: ⟨Rect.unit (s := S8448x256) ![2304, 0] S768x256.size inb_S8448x256_S768x256_2304_0, k0_pay72 (kernelRun0_A.sl.v297 c arg3 harg3 arg9 harg9 arg34 x0 x6) (View.readAt (Elt Ideal) arg5.view (Rect.unit (s := S1x8448x128) ![0, 2304, 0] S1x768x128.size inb_S1x8448x128_S1x768x128_0_2304_0).toLoadRect (harg5.unread x2))⟩ :: ⟨Rect.unit (s := S8448x256) ![1536, 0] S768x256.size inb_S8448x256_S768x256_1536_0, k0_pay70 (kernelRun0_A.sl.v297 c arg3 harg3 arg9 harg9 arg34 x0 x6) (View.readAt (Elt Ideal) arg5.view (Rect.unit (s := S1x8448x128) ![0, 1536, 0] S1x768x128.size inb_S1x8448x128_S1x768x128_0_1536_0).toLoadRect (harg5.unread x2))⟩ :: ⟨Rect.unit (s := S8448x256) ![768, 0] S768x256.size inb_S8448x256_S768x256_768_0, k0_pay67 (kernelRun0_A.sl.v297 c arg3 harg3 arg9 harg9 arg34 x0 x6) (View.readAt (Elt Ideal) arg5.view (Rect.unit (s := S1x8448x128) ![0, 768, 0] S1x768x128.size inb_S1x8448x128_S1x768x128_0_768_0).toLoadRect (harg5.unread x2))⟩ :: ⟨Rect.unit (s := S8448x256) ![0, 0] S768x256.size inb_S8448x256_S768x256_0_0, k0_pay64 (kernelRun0_A.sl.v297 c arg3 harg3 arg9 harg9 arg34 x0 x6) (View.readAt (Elt Ideal) arg5.view (Rect.unit (s := S1x8448x128) ![0, 0, 0] S1x768x128.size inb_S1x8448x128_S1x768x128_0_0_0).toLoadRect (harg5.unread x2))⟩ :: kernelRun0_A.sl.HS16_2 c arg3 harg3 arg4 harg4 arg5 harg5 arg6 harg6 arg14 arg16 x0 x1 x2 x3 : List (View.Piece (Elt Ideal) S8448x256 .f32)) := rfl

/-- The context tile: component 2 of what the body leaves is the list of its stores. -/
theorem A_comp2 : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.2.1 = (⟨Rect.unit (s := S8x256) ![0, 0] S8x256.size inb_S8x256_S8x256_0_0, k0_pay91 (kernelRun0_A.sl.r_19 c arg3 harg3 arg5 harg5 arg9 harg9 arg34 x0 x2 x6) (kernelRun0_A.sl.v297 c arg3 harg3 arg9 harg9 arg34 x0 x6) (View.readAt (Elt Ideal) arg5.view (Rect.unit (s := S1x8448x128) ![0, 7680, 0] S1x768x128.size inb_S1x8448x128_S1x768x128_0_7680_0).toLoadRect (harg5.unread x2))⟩ :: kernelRun0_A.sl.HS18_2 c arg3 harg3 arg4 harg4 arg5 harg5 arg6 harg6 arg14 arg16 x0 x1 x2 x3 : List (View.Piece (Elt Ideal) S8x256 .f32)) := rfl

/-- The context tile leaves block 0 of the next tile's scores in scratch. -/
theorem A_next0 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 0 = blkS (qz 0 x6) (kblk x2 0) := by
  rw [A_comp1, rows_canon0 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [A_v297, rd_kblk0]
  exact pay_AN_0 (qz _ _) (kblk x2)

/-- The context tile leaves block 1 of the next tile's scores in scratch. -/
theorem A_next1 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 1 = blkS (qz 0 x6) (kblk x2 1) := by
  rw [A_comp1, rows_canon1 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [A_v297, rd_kblk1]
  exact pay_AN_1 (qz _ _) (kblk x2)

/-- The context tile leaves block 2 of the next tile's scores in scratch. -/
theorem A_next2 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 2 = blkS (qz 0 x6) (kblk x2 2) := by
  rw [A_comp1, rows_canon2 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [A_v297, rd_kblk2]
  exact pay_AN_2 (qz _ _) (kblk x2)

/-- The context tile leaves block 3 of the next tile's scores in scratch. -/
theorem A_next3 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 3 = blkS (qz 0 x6) (kblk x2 3) := by
  rw [A_comp1, rows_canon3 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [A_v297, rd_kblk3]
  exact pay_AN_3 (qz _ _) (kblk x2)

/-- The context tile leaves block 4 of the next tile's scores in scratch. -/
theorem A_next4 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 4 = blkS (qz 0 x6) (kblk x2 4) := by
  rw [A_comp1, rows_canon4 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_A.sl.r_16
  rw [A_v297, rd_kblk4]
  exact pay_AN_4 (qz _ _) (kblk x2)

/-- The context tile leaves block 5 of the next tile's scores in scratch. -/
theorem A_next5 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 5 = blkS (qz 0 x6) (kblk x2 5) := by
  rw [A_comp1, rows_canon5 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [A_v297, rd_kblk5]
  exact pay_AN_5 (qz _ _) (kblk x2)

/-- The context tile leaves block 6 of the next tile's scores in scratch. -/
theorem A_next6 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 6 = blkS (qz 0 x6) (kblk x2 6) := by
  rw [A_comp1, rows_canon6 arg30.view]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [A_v297, rd_kblk6]
  exact pay_AN_6 (qz _ _) (kblk x2)

/-- The context tile leaves block 7 of the next tile's scores in scratch. -/
theorem A_next7 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 7 = blkS (qz 0 x6) (kblk x2 7) := by
  rw [A_comp1, rows_canon7 arg30.view]
  rw [View.readCov_skip _ _ _ _ _ (by decide)]
  rw [View.readCov_skip _ _ _ _ _ (by decide)]
  rw [View.readCov_skip _ _ _ _ _ (by decide)]
  rw [View.readCov_cons_toLoadRect]
  unfold kernelRun0_A.sl.r_18
  rw [A_v297, rd_kblk7]
  exact pay_AN_7 (qz _ _) (kblk x2)

/-- The context tile leaves block 8 of the next tile's scores in scratch. -/
theorem A_next8 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 8 = blkS (qz 0 x6) (kblk x2 8) := by
  rw [A_comp1, rows_canon8 arg30.view]
  rw [View.readCov_skip _ _ _ _ _ (by decide)]
  rw [View.readCov_skip _ _ _ _ _ (by decide)]
  rw [View.readCov_cons_toLoadRect]
  rw [A_v297, rd_kblk8]
  exact pay_AN_8 (qz _ _) (kblk x2)

/-- The context tile leaves block 9 of the next tile's scores in scratch. -/
theorem A_next9 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 9 = blkS (qz 0 x6) (kblk x2 9) := by
  rw [A_comp1, rows_canon9 arg30.view]
  rw [View.readCov_skip _ _ _ _ _ (by decide)]
  rw [View.readCov_cons_toLoadRect]
  rw [A_v297, rd_kblk9]
  exact pay_AN_9 (qz _ _) (kblk x2)

/-- The context tile leaves block 10 of the next tile's scores in scratch. -/
theorem A_next10 : rows (View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.1) 10 = blkS (qz 0 x6) (kblk x2 10) := by
  rw [A_comp1, rows_canon10 arg30.view]
  rw [View.readCov_cons_toLoadRect]
  rw [A_v297, rd_kblk10]
  exact pay_AN_10 (qz _ _) (kblk x2)

/-- The context tile leaves the column maxima of the next tile's scores in scratch. -/
theorem A_nextM : View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).2.2.1 = chainM (fun n => blkS (qz 0 x6) (kblk x2 n)) := by
  rw [A_comp2]
  refine (View.canon_cons_unit_lit' _ _ _ (by decide)).trans ?_
  unfold kernelRun0_A.sl.r_19 kernelRun0_A.sl.r_17 kernelRun0_A.sl.r_15 kernelRun0_A.sl.r_13 kernelRun0_A.sl.r_14 kernelRun0_A.sl.r_16 kernelRun0_A.sl.r_18
  rw [A_v297, rd_kblk0, rd_kblk1, rd_kblk2, rd_kblk3, rd_kblk4, rd_kblk5, rd_kblk6, rd_kblk7, rd_kblk8, rd_kblk9, rd_kblk10]
  exact pay_ANM (qz _ _) (kblk x2)

/-- The context tile: component 0 of what the body leaves is the list of its stores. -/
theorem A_comp0 : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).1 = ([⟨Rect.unit (s := S1x256x256) ![0, 0, 0] ![1, 256, 256] inb_S1x256x256_S1x256x256_0_0_0, k0_pay5 (kernelRun0_A.sl.r c arg12 harg12 x9) (kernelRun0_A.sl.r_23 c arg3 harg3 arg5 harg5 arg7 harg7 arg10 harg10 arg11 harg11 arg12 harg12 arg14 arg15 arg18 arg19 arg22 arg23 arg26 arg27 arg30 arg31 arg32 arg33 x0 x2 x4 x7 x8 x9) (kernelRun0_A.sl.r_24 c arg3 harg3 arg4 harg4 arg5 harg5 arg6 harg6 arg8 harg8 arg11 harg11 arg12 harg12 arg14 arg15 arg16 arg17 arg20 arg21 arg24 arg25 arg28 arg29 arg30 arg31 arg32 arg33 x0 x1 x2 x3 x5 x8 x9) (kernelRun0_A.sl.r_25 c arg10 harg10 x7)⟩] : List (View.Piece (Elt Ideal) S1x256x256 .bf16)) := rfl

/-- The context tile: the block of the result it stores. -/
theorem A_out : View.canon (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9).1 = outB (headB (one1 x9) (k0_pay367 x8 (one1 x9)) (quot (kernelRun0_A.sl.v420 (F := Ideal) c arg3 harg3 arg5 harg5 arg14 arg18 arg22 arg30 arg32 x0 x2) (kernelRun0_A.sl.v421 (F := Ideal) c arg3 harg3 arg5 harg5 arg7 harg7 arg14 arg18 arg26 arg30 arg32 x0 x2 x4)) (quot (kernelRun0_A.sl.v426 (F := Ideal) c arg3 harg3 arg5 harg5 arg15 arg19 arg23 arg31 arg33 x0 x2) (kernelRun0_A.sl.v427 (F := Ideal) c arg3 harg3 arg5 harg5 arg7 harg7 arg15 arg19 arg27 arg31 arg33 x0 x2 x4)) (gblk x7 0)) (headB (one1 x9) (k0_pay367 x8 (one1 x9)) (quot (kernelRun0_A.sl.v432 (F := Ideal) c arg3 harg3 arg4 harg4 arg5 harg5 arg6 harg6 arg14 arg16 arg20 arg24 arg30 arg32 x0 x1 x2 x3) (kernelRun0_A.sl.v433 (F := Ideal) c arg3 harg3 arg4 harg4 arg5 harg5 arg6 harg6 arg8 harg8 arg14 arg16 arg20 arg28 arg30 arg32 x0 x1 x2 x3 x5)) (quot (kernelRun0_A.sl.v438 (F := Ideal) c arg3 harg3 arg4 harg4 arg5 harg5 arg6 harg6 arg15 arg17 arg21 arg25 arg31 arg33 x0 x1 x2 x3) (kernelRun0_A.sl.v439 (F := Ideal) c arg3 harg3 arg4 harg4 arg5 harg5 arg6 harg6 arg8 harg8 arg15 arg17 arg21 arg29 arg31 arg33 x0 x1 x2 x3 x5)) (gblk x7 1)) := by
  rw [A_comp0]
  refine (View.canon_cons_unit_lit' _ _ _ (by decide)).trans ?_
  unfold kernelRun0_A.sl.r_23 kernelRun0_A.sl.r kernelRun0_A.sl.r_20 kernelRun0_A.sl.r_21 kernelRun0_A.sl.r_24 kernelRun0_A.sl.r_1 kernelRun0_A.sl.r_22 kernelRun0_A.sl.r_25
  generalize (kernelRun0_A.sl.v420 (F := Ideal) c arg3 harg3 arg5 harg5 arg14 arg18 arg22 arg30 arg32 x0 x2) = l0v
  generalize (kernelRun0_A.sl.v421 (F := Ideal) c arg3 harg3 arg5 harg5 arg7 harg7 arg14 arg18 arg26 arg30 arg32 x0 x2 x4) = a0v
  generalize (kernelRun0_A.sl.v426 (F := Ideal) c arg3 harg3 arg5 harg5 arg15 arg19 arg23 arg31 arg33 x0 x2) = l1v
  generalize (kernelRun0_A.sl.v427 (F := Ideal) c arg3 harg3 arg5 harg5 arg7 harg7 arg15 arg19 arg27 arg31 arg33 x0 x2 x4) = a1v
  generalize (kernelRun0_A.sl.v432 (F := Ideal) c arg3 harg3 arg4 harg4 arg5 harg5 arg6 harg6 arg14 arg16 arg20 arg24 arg30 arg32 x0 x1 x2 x3) = l2v
  generalize (kernelRun0_A.sl.v433 (F := Ideal) c arg3 harg3 arg4 harg4 arg5 harg5 arg6 harg6 arg8 harg8 arg14 arg16 arg20 arg28 arg30 arg32 x0 x1 x2 x3 x5) = a2v
  generalize (kernelRun0_A.sl.v438 (F := Ideal) c arg3 harg3 arg4 harg4 arg5 harg5 arg6 harg6 arg15 arg17 arg21 arg25 arg31 arg33 x0 x1 x2 x3) = l3v
  generalize (kernelRun0_A.sl.v439 (F := Ideal) c arg3 harg3 arg4 harg4 arg5 harg5 arg6 harg6 arg8 harg8 arg15 arg17 arg21 arg29 arg31 arg33 x0 x1 x2 x3 x5) = a3v
  rw [rd_g0, rd_g1, rd_lam, rd_li]
  exact pay_Aout _ _ _ _ _ _ _ _ _ _ _ _

end Cert.Attn.Ker

end
-- ==== Proof.PayB.lean ====
/- The values the latent tile stores, as the blocks of the softmax. -/
module

public import proofs.«01_k».proof.Proof.Out

@[expose] public section

set_option maxRecDepth 16384

noncomputable section

namespace Cert.Attn.Ker

open Idealize.ShloMosaic Idealize.SL.Sem Cert.KernelIdeal Cert.KernelIdeal.Gen Cert.Attn

/-- Block 0 of a latent tile's scores of unit 1, as the body computes it. -/
theorem pay_S1_0 (q : FVec Ideal S128x256 .bf16) (k : Fin 11 → FVec Ideal S1x768x128 .bf16) :
    (k0_pay115 q (k 0)) = blkS q (k 0) := by
  simp only [k0_pay114, k0_pay115, shapeCast_self] <;> rfl

/-- Block 1 of a latent tile's scores of unit 1, as the body computes it. -/
theorem pay_S1_1 (q : FVec Ideal S128x256 .bf16) (k : Fin 11 → FVec Ideal S1x768x128 .bf16) :
    (k0_pay119 q (k 1)) = blkS q (k 1) := by
  simp only [k0_pay118, k0_pay119, shapeCast_self] <;> rfl

/-- Block 2 of a latent tile's scores of unit 1, as the body computes it. -/
theorem pay_S1_2 (q : FVec Ideal S128x256 .bf16) (k : Fin 11 → FVec Ideal S1x768x128 .bf16) :
    (k0_pay124 q (k 2)) = blkS q (k 2) := by
  simp only [k0_pay123, k0_pay124, shapeCast_self] <;> rfl

/-- Block 3 of a latent tile's scores of unit 1, as the body computes it. -/
theorem pay_S1_3 (q : FVec Ideal S128x256 .bf16) (k : Fin 11 → FVec Ideal S1x768x128 .bf16) :
    (k0_pay130 (k0_pay129 q (k 3))) = blkS q (k 3) := by
  simp only [k0_pay129, k0_pay130, shapeCast_self] <;> rfl

/-- Block 4 of a latent tile's scores of unit 1, as the body computes it. -/
theorem pay_S1_4 (q : FVec Ideal S128x256 .bf16) (k : Fin 11 → FVec Ideal S1x768x128 .bf16) :
    (k0_pay134 q (k 4)) = blkS q (k 4) := by
  simp only [k0_pay133, k0_pay134, shapeCast_self] <;> rfl

/-- Block 5 of a latent tile's scores of unit 1, as the body computes it. -/
theorem pay_S1_5 (q : FVec Ideal S128x256 .bf16) (k : Fin 11 → FVec Ideal S1x768x128 .bf16) :
    (k0_pay139 q (k 5)) = blkS q (k 5) := by
  simp only [k0_pay138, k0_pay139, shapeCast_self] <;> rfl

/-- Block 6 of a latent tile's scores of unit 1, as the body computes it. -/
theorem pay_S1_6 (q : FVec Ideal S128x256 .bf16) (k : Fin 11 → FVec Ideal S1x768x128 .bf16) :
    (k0_pay145 q (k 6)) = blkS q (k 6) := by
  simp only [k0_pay144, k0_pay145, shapeCast_self] <;> rfl

/-- Block 7 of a latent tile's scores of unit 1, as the body computes it. -/
theorem pay_S1_7 (q : FVec Ideal S128x256 .bf16) (k : Fin 11 → FVec Ideal S1x768x128 .bf16) :
    (k0_pay149 q (k 7)) = blkS q (k 7) := by
  simp only [k0_pay148, k0_pay149, shapeCast_self] <;> rfl

/-- Block 8 of a latent tile's scores of unit 1, as the body computes it. -/
theorem pay_S1_8 (q : FVec Ideal S128x256 .bf16) (k : Fin 11 → FVec Ideal S1x768x128 .bf16) :
    (k0_pay156 q (k 8)) = blkS q (k 8) := by
  simp only [k0_pay155, k0_pay156, shapeCast_self] <;> rfl

/-- Block 9 of a latent tile's scores of unit 1, as the body computes it. -/
theorem pay_S1_9 (q : FVec Ideal S128x256 .bf16) (k : Fin 11 → FVec Ideal S1x768x128 .bf16) :
    (k0_pay162 q (k 9)) = blkS q (k 9) := by
  simp only [k0_pay161, k0_pay162, shapeCast_self] <;> rfl

/-- Block 10 of a latent tile's scores of unit 1, as the body computes it. -/
theorem pay_S1_10 (q : FVec Ideal S128x256 .bf16) (k : Fin 11 → FVec Ideal S1x768x128 .bf16) :
    (k0_pay166 q (k 10)) = blkS q (k 10) := by
  simp only [k0_pay165, k0_pay166, shapeCast_self] <;> rfl

/-- Block 0 of a latent tile's scores of unit 2, as the body computes it. -/
theorem pay_S2_0 (q : FVec Ideal S128x256 .bf16) (k : Fin 11 → FVec Ideal S1x768x128 .bf16) :
    (k0_pay178 (k0_pay177 q (k 0))) = blkS q (k 0) := by
  simp only [k0_pay177, k0_pay178, shapeCast_self] <;> rfl

/-- Block 1 of a latent tile's scores of unit 2, as the body computes it. -/
theorem pay_S2_1 (q : FVec Ideal S128x256 .bf16) (k : Fin 11 → FVec Ideal S1x768x128 .bf16) :
    (k0_pay182 q (k 1)) = blkS q (k 1) := by
  simp only [k0_pay181, k0_pay182, shapeCast_self] <;> rfl

/-- Block 2 of a latent tile's scores of unit 2, as the body computes it. -/
theorem pay_S2_2 (q : FVec Ideal S128x256 .bf16) (k : Fin 11 → FVec Ideal S1x768x128 .bf16) :
    (k0_pay187 q (k 2)) = blkS q (k 2) := by
  simp only [k0_pay186, k0_pay187, shapeCast_self] <;> rfl

/-- Block 3 of a latent tile's scores of unit 2, as the body computes it. -/
theorem pay_S2_3 (q : FVec Ideal S128x256 .bf16) (k : Fin 11 → FVec Ideal S1x768x128 .bf16) :
    (k0_pay193 q (k 3)) = blkS q (k 3) := by
  simp only [k0_pay192, k0_pay193, shapeCast_self] <;> rfl

/-- Block 4 of a latent tile's scores of unit 2, as the body computes it. -/
theorem pay_S2_4 (q : FVec Ideal S128x256 .bf16) (k : Fin 11 → FVec Ideal S1x768x128 .bf16) :
    (k0_pay197 q (k 4)) = blkS q (k 4) := by
  simp only [k0_pay196, k0_pay197, shapeCast_self] <;> rfl

/-- Block 5 of a latent tile's scores of unit 2, as the body computes it. -/
theorem pay_S2_5 (q : FVec Ideal S128x256 .bf16) (k : Fin 11 → FVec Ideal S1x768x128 .bf16) :
    (k0_pay204 q (k 5)) = blkS q (k 5) := by
  simp only [k0_pay203, k0_pay204, shapeCast_self] <;> rfl

/-- Block 6 of a latent tile's scores of unit 2, as the body computes it. -/
theorem pay_S2_6 (q : FVec Ideal S128x256 .bf16) (k : Fin 11 → FVec Ideal S1x768x128 .bf16) :
    (k0_pay210 q (k 6)) = blkS q (k 6) := by
  simp only [k0_pay209, k0_pay210, shapeCast_self] <;> rfl

/-- Block 7 of a latent tile's scores of unit 2, as the body computes it. -/
theorem pay_S2_7 (q : FVec Ideal S128x256 .bf16) (k : Fin 11 → FVec Ideal S1x768x128 .bf16) :
    (k0_pay214 q (k 7)) = blkS q (k 7) := by
  simp only [k0_pay213, k0_pay214, shapeCast_self] <;> rfl

/-- Block 8 of a latent tile's scores of unit 2, as the body computes it. -/
theorem pay_S2_8 (q : FVec Ideal S128x256 .bf16) (k : Fin 11 → FVec Ideal S1x768x128 .bf16) :
    (k0_pay220 q (k 8)) = blkS q (k 8) := by
  simp only [k0_pay219, k0_pay220, shapeCast_self] <;> rfl

/-- Block 9 of a latent tile's scores of unit 2, as the body computes it. -/
theorem pay_S2_9 (q : FVec Ideal S128x256 .bf16) (k : Fin 11 → FVec Ideal S1x768x128 .bf16) :
    (k0_pay225 q (k 9)) = blkS q (k 9) := by
  simp only [k0_pay224, k0_pay225, shapeCast_self] <;> rfl

/-- Block 10 of a latent tile's scores of unit 2, as the body computes it. -/
theorem pay_S2_10 (q : FVec Ideal S128x256 .bf16) (k : Fin 11 → FVec Ideal S1x768x128 .bf16) :
    (k0_pay229 q (k 10)) = blkS q (k 10) := by
  simp only [k0_pay228, k0_pay229, shapeCast_self] <;> rfl

/-- Block 0 of a latent tile's scores of unit 3, as the body computes it. -/
theorem pay_S3_0 (q : FVec Ideal S128x256 .bf16) (k : Fin 11 → FVec Ideal S1x768x128 .bf16) :
    (k0_pay241 (k0_pay240 q (k 0))) = blkS q (k 0) := by
  simp only [k0_pay240, k0_pay241, shapeCast_self] <;> rfl

/-- Block 1 of a latent tile's scores of unit 3, as the body computes it. -/
theorem pay_S3_1 (q : FVec Ideal S128x256 .bf16) (k : Fin 11 → FVec Ideal S1x768x128 .bf16) :
    (k0_pay245 q (k 1)) = blkS q (k 1) := by
  simp only [k0_pay244, k0_pay245, shapeCast_self] <;> rfl

/-- Block 2 of a latent tile's scores of unit 3, as the body computes it. -/
theorem pay_S3_2 (q : FVec Ideal S128x256 .bf16) (k : Fin 11 → FVec Ideal S1x768x128 .bf16) :
    (k0_pay251 q (k 2)) = blkS q (k 2) := by
  simp only [k0_pay250, k0_pay251, shapeCast_self] <;> rfl

/-- Block 3 of a latent tile's scores of unit 3, as the body computes it. -/
theorem pay_S3_3 (q : FVec Ideal S128x256 .bf16) (k : Fin 11 → FVec Ideal S1x768x128 .bf16) :
    (k0_pay256 q (k 3)) = blkS q (k 3) := by
  simp only [k0_pay255, k0_pay256, shapeCast_self] <;> rfl

/-- Block 4 of a latent tile's scores of unit 3, as the body computes it. -/
theorem pay_S3_4 (q : FVec Ideal S128x256 .bf16) (k : Fin 11 → FVec Ideal S1x768x128 .bf16) :
    (k0_pay260 q (k 4)) = blkS q (k 4) := by
  simp only [k0_pay259, k0_pay260, shapeCast_self] <;> rfl

/-- Block 5 of a latent tile's scores of unit 3, as the body computes it. -/
theorem pay_S3_5 (q : FVec Ideal S128x256 .bf16) (k : Fin 11 → FVec Ideal S1x768x128 .bf16) :
    (k0_pay266 q (k 5)) = blkS q (k 5) := by
  simp only [k0_pay265, k0_pay266, shapeCast_self] <;> rfl

/-- Block 6 of a latent tile's scores of unit 3, as the body computes it. -/
theorem pay_S3_6 (q : FVec Ideal S128x256 .bf16) (k : Fin 11 → FVec Ideal S1x768x128 .bf16) :
    (k0_pay271 q (k 6)) = blkS q (k 6) := by
  simp only [k0_pay270, k0_pay271, shapeCast_self] <;> rfl

/-- Block 7 of a latent tile's scores of unit 3, as the body computes it. -/
theorem pay_S3_7 (q : FVec Ideal S128x256 .bf16) (k : Fin 11 → FVec Ideal S1x768x128 .bf16) :
    (k0_pay275 q (k 7)) = blkS q (k 7) := by
  simp only [k0_pay274, k0_pay275, shapeCast_self] <;> rfl

/-- Block 8 of a latent tile's scores of unit 3, as the body computes it. -/
theorem pay_S3_8 (q : FVec Ideal S128x256 .bf16) (k : Fin 11 → FVec Ideal S1x768x128 .bf16) :
    (k0_pay281 q (k 8)) = blkS q (k 8) := by
  simp only [k0_pay280, k0_pay281, shapeCast_self] <;> rfl

/-- Block 9 of a latent tile's scores of unit 3, as the body computes it. -/
theorem pay_S3_9 (q : FVec Ideal S128x256 .bf16) (k : Fin 11 → FVec Ideal S1x768x128 .bf16) :
    (k0_pay286 q (k 9)) = blkS q (k 9) := by
  simp only [k0_pay285, k0_pay286, shapeCast_self] <;> rfl

/-- Block 10 of a latent tile's scores of unit 3, as the body computes it. -/
theorem pay_S3_10 (q : FVec Ideal S128x256 .bf16) (k : Fin 11 → FVec Ideal S1x768x128 .bf16) :
    (k0_pay290 q (k 10)) = blkS q (k 10) := by
  simp only [k0_pay289, k0_pay290, shapeCast_self] <;> rfl

/-- The column maxima of a latent tile's scores of unit 1, over all blocks. -/
theorem pay_M1 (q : FVec Ideal S128x256 .bf16) (k : Fin 11 → FVec Ideal S1x768x128 .bf16) :
    (k0_pay171 (k0_pay167 (k0_pay157 (k0_pay150 (k0_pay140 (k0_pay135 (k0_pay125 (k0_pay120 q (k 0) q (k 1)) q (k 2)) (k0_pay129 q (k 3)) q (k 4)) q (k 5)) (k0_pay144 q (k 6)) q (k 7)) q (k 8)) (k0_pay163 q (k 9)) q (k 10))) = chainM (fun n => blkS q (k n)) := by
  simp only [k0_pay114, k0_pay118, k0_pay120, k0_pay123, k0_pay125, k0_pay129, k0_pay133, k0_pay135, k0_pay138, k0_pay140, k0_pay144, k0_pay148, k0_pay150, k0_pay155, k0_pay157, k0_pay161, k0_pay163, k0_pay165, k0_pay167, k0_pay171, shapeCast_self] <;> rfl

/-- The column maxima of a latent tile's scores of unit 2, over all blocks. -/
theorem pay_M2 (q : FVec Ideal S128x256 .bf16) (k : Fin 11 → FVec Ideal S1x768x128 .bf16) :
    (k0_pay234 (k0_pay230 (k0_pay226 (k0_pay215 (k0_pay205 (k0_pay198 (k0_pay188 (k0_pay183 (k0_pay177 q (k 0)) q (k 1)) q (k 2)) (k0_pay192 q (k 3)) q (k 4)) q (k 5)) (k0_pay211 q (k 6)) q (k 7)) q (k 8) q (k 9)) q (k 10))) = chainM (fun n => blkS q (k n)) := by
  simp only [k0_pay177, k0_pay181, k0_pay183, k0_pay186, k0_pay188, k0_pay192, k0_pay196, k0_pay198, k0_pay203, k0_pay205, k0_pay209, k0_pay211, k0_pay213, k0_pay215, k0_pay219, k0_pay224, k0_pay226, k0_pay228, k0_pay230, k0_pay234, shapeCast_self] <;> rfl

/-- The column maxima of a latent tile's scores of unit 3, over all blocks. -/
theorem pay_M3 (q : FVec Ideal S128x256 .bf16) (k : Fin 11 → FVec Ideal S1x768x128 .bf16) :
    (k0_pay294 (k0_pay287 (k0_pay276 (k0_pay272 (k0_pay261 (k0_pay257 (k0_pay246 (k0_pay240 q (k 0)) q (k 1)) q (k 2) q (k 3)) q (k 4)) q (k 5) q (k 6)) q (k 7)) q (k 8) q (k 9)) q (k 10)) = chainM (fun n => blkS q (k n)) := by
  simp only [k0_pay240, k0_pay244, k0_pay246, k0_pay250, k0_pay255, k0_pay257, k0_pay259, k0_pay261, k0_pay265, k0_pay270, k0_pay272, k0_pay274, k0_pay276, k0_pay280, k0_pay285, k0_pay287, k0_pay289, k0_pay294, shapeCast_self] <;> rfl

/-- A latent tile's softmax denominators of unit 0, over all blocks. -/
theorem pay_L0 (m l : FVec Ideal S1x256 .f32) (cm : FVec Ideal S8x256 .f32) (s : Fin 11 → FVec Ideal S768x256 .f32) :
    (k0_pay172 (k0_pay113 m cm) (k0_pay169 (k0_pay111 m cm) (k0_pay159 (k0_pay111 m cm) (k0_pay152 (k0_pay111 m cm) (k0_pay142 (k0_pay111 m cm) (k0_pay137 (k0_pay111 m cm) (k0_pay127 (k0_pay111 m cm) (k0_pay122 (k0_pay111 m cm) (s 0) (s 1)) (s 2)) (s 3) (s 4)) (s 5)) (s 6) (s 7)) (s 8)) (s 9) (s 10)) l) = sumL (alpha m cm) l (chainL (newM m cm) s) := by
  simp only [k0_pay111, k0_pay113, k0_pay116, k0_pay121, k0_pay122, k0_pay126, k0_pay127, k0_pay131, k0_pay136, k0_pay137, k0_pay141, k0_pay142, k0_pay146, k0_pay151, k0_pay152, k0_pay158, k0_pay159, k0_pay164, k0_pay168, k0_pay169, k0_pay172, shapeCast_self, sumL, sumA] <;> rfl

/-- A latent tile's weighted values of unit 0, over all blocks. -/
theorem pay_A0 (m : FVec Ideal S1x256 .f32) (a : FVec Ideal S128x256 .f32) (cm : FVec Ideal S8x256 .f32) (s : Fin 11 → FVec Ideal S768x256 .f32) (v : Fin 11 → FVec Ideal S1x128x768 .bf16) :
    (k0_pay173 (k0_pay113 m cm) (k0_pay170 (k0_pay111 m cm) (k0_pay160 (k0_pay111 m cm) (k0_pay147 (k0_pay111 m cm) (k0_pay143 (k0_pay111 m cm) (k0_pay132 (k0_pay111 m cm) (k0_pay128 (k0_pay111 m cm) (k0_pay117 (k0_pay111 m cm) (s 0) (v 0)) (k0_pay121 (k0_pay111 m cm) (s 1)) (v 1) (s 2) (v 2)) (s 3) (v 3)) (k0_pay136 (k0_pay111 m cm) (s 4)) (v 4) (s 5) (v 5)) (s 6) (v 6)) (k0_pay153 (v 7)) (k0_pay154 (k0_pay111 m cm) (s 7)) (s 8) (v 8)) (s 9) (v 9) (s 10) (v 10)) a) = sumA (alpha m cm) a (chainA (newM m cm) s v) := by
  simp only [k0_pay111, k0_pay113, k0_pay116, k0_pay117, k0_pay121, k0_pay126, k0_pay128, k0_pay131, k0_pay132, k0_pay136, k0_pay141, k0_pay143, k0_pay146, k0_pay147, k0_pay151, k0_pay153, k0_pay154, k0_pay158, k0_pay160, k0_pay164, k0_pay168, k0_pay170, k0_pay173, shapeCast_self, sumL, sumA] <;> rfl

/-- A latent tile's softmax denominators of unit 1, over all blocks. -/
theorem pay_L1 (m l : FVec Ideal S1x256 .f32) (cm : FVec Ideal S8x256 .f32) (s : Fin 11 → FVec Ideal S768x256 .f32) :
    (k0_pay235 (k0_pay176 m cm) (k0_pay232 (k0_pay174 m cm) (k0_pay222 (k0_pay174 m cm) (k0_pay217 (k0_pay174 m cm) (k0_pay207 (k0_pay174 m cm) (k0_pay200 (k0_pay174 m cm) (k0_pay190 (k0_pay174 m cm) (k0_pay185 (k0_pay174 m cm) (s 0) (s 1)) (s 2)) (s 3) (s 4)) (s 5)) (s 6) (s 7)) (s 8)) (s 9) (s 10)) l) = sumL (alpha m cm) l (chainL (newM m cm) s) := by
  simp only [k0_pay174, k0_pay176, k0_pay179, k0_pay184, k0_pay185, k0_pay189, k0_pay190, k0_pay194, k0_pay199, k0_pay200, k0_pay206, k0_pay207, k0_pay212, k0_pay216, k0_pay217, k0_pay221, k0_pay222, k0_pay227, k0_pay231, k0_pay232, k0_pay235, shapeCast_self, sumL, sumA] <;> rfl

/-- A latent tile's weighted values of unit 1, over all blocks. -/
theorem pay_A1 (m : FVec Ideal S1x256 .f32) (a : FVec Ideal S128x256 .f32) (cm : FVec Ideal S8x256 .f32) (s : Fin 11 → FVec Ideal S768x256 .f32) (v : Fin 11 → FVec Ideal S1x128x768 .bf16) :
    (k0_pay236 (k0_pay176 m cm) (k0_pay233 (k0_pay174 m cm) (k0_pay223 (k0_pay174 m cm) (k0_pay218 (k0_pay174 m cm) (k0_pay208 (k0_pay174 m cm) (k0_pay195 (k0_pay174 m cm) (k0_pay191 (k0_pay174 m cm) (k0_pay180 (k0_pay174 m cm) (s 0) (v 0)) (k0_pay184 (k0_pay174 m cm) (s 1)) (v 1) (s 2) (v 2)) (s 3) (v 3)) (k0_pay201 (v 4)) (k0_pay202 (k0_pay174 m cm) (s 4)) (constant (F := Ideal) S128x256 .f32 0#32) (s 5) (v 5)) (s 6) (v 6) (s 7) (v 7)) (s 8) (v 8)) (s 9) (v 9) (s 10) (v 10)) a) = sumA (alpha m cm) a (chainA (newM m cm) s v) := by
  simp only [k0_pay174, k0_pay176, k0_pay179, k0_pay180, k0_pay184, k0_pay189, k0_pay191, k0_pay194, k0_pay195, k0_pay199, k0_pay201, k0_pay202, k0_pay206, k0_pay208, k0_pay212, k0_pay216, k0_pay218, k0_pay221, k0_pay223, k0_pay227, k0_pay231, k0_pay233, k0_pay236, shapeCast_self, sumL, sumA] <;> rfl

/-- A latent tile's softmax denominators of unit 2, over all blocks. -/
theorem pay_L2 (m l : FVec Ideal S1x256 .f32) (cm : FVec Ideal S8x256 .f32) (s : Fin 11 → FVec Ideal S768x256 .f32) :
    (k0_pay295 (k0_pay239 m cm) (k0_pay292 (k0_pay237 m cm) (k0_pay283 (k0_pay237 m cm) (k0_pay278 (k0_pay237 m cm) (k0_pay268 (k0_pay237 m cm) (k0_pay263 (k0_pay237 m cm) (k0_pay253 (k0_pay237 m cm) (k0_pay248 (k0_pay237 m cm) (s 0) (s 1)) (s 2)) (s 3) (s 4)) (s 5)) (s 6) (s 7)) (s 8)) (k0_pay288 (k0_pay237 m cm) (s 9)) (s 10)) l) = sumL (alpha m cm) l (chainL (newM m cm) s) := by
  simp only [k0_pay237, k0_pay239, k0_pay242, k0_pay247, k0_pay248, k0_pay252, k0_pay253, k0_pay258, k0_pay262, k0_pay263, k0_pay267, k0_pay268, k0_pay273, k0_pay277, k0_pay278, k0_pay282, k0_pay283, k0_pay288, k0_pay291, k0_pay292, k0_pay295, shapeCast_self, sumL, sumA] <;> rfl

/-- A latent tile's weighted values of unit 2, over all blocks. -/
theorem pay_A2 (m : FVec Ideal S1x256 .f32) (a : FVec Ideal S128x256 .f32) (cm : FVec Ideal S8x256 .f32) (s : Fin 11 → FVec Ideal S768x256 .f32) (v : Fin 11 → FVec Ideal S1x128x768 .bf16) :
    (k0_pay296 (k0_pay239 m cm) (k0_pay293 (k0_pay237 m cm) (k0_pay284 (k0_pay237 m cm) (k0_pay279 (k0_pay237 m cm) (k0_pay269 (k0_pay237 m cm) (k0_pay264 (k0_pay237 m cm) (k0_pay254 (k0_pay237 m cm) (k0_pay243 (k0_pay237 m cm) (s 0) (v 0)) (k0_pay249 (k0_pay237 m cm) (s 1) (v 1)) (s 2) (v 2)) (s 3) (v 3) (s 4) (v 4)) (s 5) (v 5)) (s 6) (v 6) (s 7) (v 7)) (s 8) (v 8)) (k0_pay288 (k0_pay237 m cm) (s 9)) (v 9) (s 10) (v 10)) a) = sumA (alpha m cm) a (chainA (newM m cm) s v) := by
  simp only [k0_pay237, k0_pay239, k0_pay242, k0_pay243, k0_pay247, k0_pay249, k0_pay252, k0_pay254, k0_pay258, k0_pay262, k0_pay264, k0_pay267, k0_pay269, k0_pay273, k0_pay277, k0_pay279, k0_pay282, k0_pay284, k0_pay288, k0_pay291, k0_pay293, k0_pay296, shapeCast_self, sumL, sumA] <;> rfl

/-- A latent tile's softmax denominators of unit 3, over all blocks. -/
theorem pay_L3 (m l : FVec Ideal S1x256 .f32) (cm : FVec Ideal S8x256 .f32) (s : Fin 11 → FVec Ideal S768x256 .f32) :
    (k0_pay358 (k0_pay299 m cm) (k0_pay350 (k0_pay297 m cm) (k0_pay345 (k0_pay297 m cm) (k0_pay340 (k0_pay297 m cm) (k0_pay330 (k0_pay297 m cm) (k0_pay324 (k0_pay297 m cm) (k0_pay314 (k0_pay297 m cm) (k0_pay308 (k0_pay297 m cm) (s 0) (s 1)) (s 2)) (s 3) (s 4)) (s 5)) (s 6) (s 7)) (s 8)) (s 9)) (k0_pay356 (k0_pay297 m cm) (s 10)) l) = sumL (alpha m cm) l (chainL (newM m cm) s) := by
  simp only [k0_pay297, k0_pay299, k0_pay302, k0_pay307, k0_pay308, k0_pay313, k0_pay314, k0_pay318, k0_pay323, k0_pay324, k0_pay329, k0_pay330, k0_pay334, k0_pay339, k0_pay340, k0_pay344, k0_pay345, k0_pay349, k0_pay350, k0_pay355, k0_pay356, k0_pay358, shapeCast_self, sumL, sumA] <;> rfl

/-- A latent tile's weighted values of unit 3, over all blocks. -/
theorem pay_A3 (m : FVec Ideal S1x256 .f32) (a : FVec Ideal S128x256 .f32) (cm : FVec Ideal S8x256 .f32) (s : Fin 11 → FVec Ideal S768x256 .f32) (v : Fin 11 → FVec Ideal S1x128x768 .bf16) :
    (k0_pay359 (k0_pay299 m cm) (k0_pay351 (k0_pay297 m cm) (k0_pay346 (k0_pay297 m cm) (k0_pay335 (k0_pay297 m cm) (k0_pay331 (k0_pay297 m cm) (k0_pay319 (k0_pay297 m cm) (k0_pay315 (k0_pay297 m cm) (k0_pay303 (k0_pay297 m cm) (s 0) (v 0)) (k0_pay309 (k0_pay297 m cm) (s 1) (v 1)) (s 2) (v 2)) (s 3) (v 3)) (k0_pay323 (k0_pay297 m cm) (s 4)) (k0_pay325 (v 4)) (s 5) (v 5)) (s 6) (v 6)) (k0_pay339 (k0_pay297 m cm) (s 7)) (v 7) (s 8) (v 8)) (s 9) (v 9)) (k0_pay355 (k0_pay297 m cm) (s 10)) (v 10) a) = sumA (alpha m cm) a (chainA (newM m cm) s v) := by
  simp only [k0_pay297, k0_pay299, k0_pay302, k0_pay303, k0_pay307, k0_pay309, k0_pay313, k0_pay315, k0_pay318, k0_pay319, k0_pay323, k0_pay325, k0_pay329, k0_pay331, k0_pay334, k0_pay335, k0_pay339, k0_pay344, k0_pay346, k0_pay349, k0_pay351, k0_pay355, k0_pay359, shapeCast_self, sumL, sumA] <;> rfl

end Cert.Attn.Ker

end
-- ==== Proof.BodyB.lean ====
/- What the latent tile reads back of what it stored. -/
module

public import proofs.«01_k».proof.Proof.PayB
public import proofs.«01_k».proof.Proof.Gen.KernelIdeal.Frame.RunB

@[expose] public section

set_option maxRecDepth 16384

noncomputable section

namespace Cert.Attn.Ker

open Idealize.ShloMosaic Idealize.SL.Sem Cert.KernelIdeal Cert.KernelIdeal.Gen Cert.Attn

variable (c : Dev nD)
  (arg3 : Memref sig .tc .vmem S1x128x256 .bf16) (harg3 : arg3.IsWhole)
  (arg4 : Memref sig .tc .vmem S1x128x256 .bf16) (harg4 : arg4.IsWhole)
  (arg5 : Memref sig .tc .vmem S1x8448x128 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg8 : Memref sig .tc .vmem S1x128x8448 .bf16) (harg8 : arg8.IsWhole)
  (arg9 : Memref sig .tc .vmem S1x128x256 .bf16) (harg9 : arg9.IsWhole)
  (arg10 : Memref sig .tc .vmem S2x128x1 .f32) (harg10 : arg10.IsWhole)
  (arg11 : Memref sig .tc .vmem S4x64 .f32) (harg11 : arg11.IsWhole)
  (arg12 : Memref sig .tc .vmem S8x128 .f32) (harg12 : arg12.IsWhole)
  (arg13 : Memref sig .tc .vmem S1x256x256 .bf16) (harg13 : arg13.IsWhole)
  (arg14 : Memref sig .tc .vmem S128x256 .bf16) (harg14 : arg14.IsWhole)
  (arg15 : Memref sig .tc .vmem S128x256 .bf16) (harg15 : arg15.IsWhole)
  (arg16 : Memref sig .tc .vmem S128x256 .bf16) (harg16 : arg16.IsWhole)
  (arg17 : Memref sig .tc .vmem S128x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S1x256 .f32) (harg23 : arg23.IsWhole)
  (arg24 : Memref sig .tc .vmem S1x256 .f32) (harg24 : arg24.IsWhole)
  (arg25 : Memref sig .tc .vmem S1x256 .f32) (harg25 : arg25.IsWhole)
  (arg26 : Memref sig .tc .vmem S128x256 .f32) (harg26 : arg26.IsWhole)
  (arg27 : Memref sig .tc .vmem S128x256 .f32) (harg27 : arg27.IsWhole)
  (arg28 : Memref sig .tc .vmem S128x256 .f32) (harg28 : arg28.IsWhole)
  (arg29 : Memref sig .tc .vmem S128x256 .f32) (harg29 : arg29.IsWhole)
  (arg30 : Memref sig .tc .vmem S8448x256 .f32) (harg30 : arg30.IsWhole)
  (arg31 : Memref sig .tc .vmem S8448x256 .f32) (harg31 : arg31.IsWhole)
  (arg32 : Memref sig .tc .vmem S8x256 .f32) (harg32 : arg32.IsWhole)
  (arg33 : Memref sig .tc .vmem S8x256 .f32) (harg33 : arg33.IsWhole)
  (arg34 : Memref sig .tc .vmem S2x128x256 .bf16) (harg34 : arg34.IsWhole)
  (x0 : Vec Ideal S1x128x256 .bf16) (x1 : Vec Ideal S1x128x256 .bf16) (x2 : Vec Ideal S1x8448x128 .bf16) (x3 : Vec Ideal S1x8448x128 .bf16) (x4 : Vec Ideal S1x128x8448 .bf16) (x5 : Vec Ideal S1x128x8448 .bf16) (x6 : Vec Ideal S1x128x256 .bf16) (x7 : Vec Ideal S2x128x1 .f32) (x8 : Vec Ideal S4x64 .f32) (x9 : Vec Ideal S8x128 .f32)
  (xs16 : Vec Ideal S8448x256 .f32) (xs18 : Vec Ideal S8x256 .f32)

/-- A latent tile: the value at step 119 of the body, over the windows' contents. -/
theorem B_v119 : (kernelRun0_B.sl.v119 (F := Ideal) c arg3 harg3 arg15 x0) = qz 1 x0 := by
  unfold kernelRun0_B.sl.v119 kernelRun0_B.sl.HS1_1
  rw [View.readCov_cons_toLoadRect, View.readAt_eq_ld, harg3.read_unread]; exact pay369 x0

/-- A latent tile: the value at step 386 of the body, over the windows' contents. -/
theorem B_v386 : (kernelRun0_B.sl.v386 (F := Ideal) c arg4 harg4 arg16 x1) = qz 0 x1 := by
  unfold kernelRun0_B.sl.v386 kernelRun0_B.sl.HS2_1 kernelRun0_B.sl.r_2
  rw [View.readCov_cons_toLoadRect, View.readAt_eq_ld, harg4.read_unread]; exact pay368 x1

/-- A latent tile: the value at step 653 of the body, over the windows' contents. -/
theorem B_v653 : (kernelRun0_B.sl.v653 (F := Ideal) c arg4 harg4 arg17 x1) = qz 1 x1 := by
  unfold kernelRun0_B.sl.v653 kernelRun0_B.sl.HS3_1
  rw [View.readCov_cons_toLoadRect, View.readAt_eq_ld, harg4.read_unread]; exact pay2 x1

/-- A latent tile: the value at step 109 of the body, over the windows' contents. -/
theorem B_v109 : (kernelRun0_B.sl.v109 (F := Ideal) c arg18) = m0 := by
  unfold kernelRun0_B.sl.v109 kernelRun0_B.sl.HS4_1
  rw [View.readCov_cons_toLoadRect]; rfl

/-- A latent tile: the value at step 376 of the body, over the windows' contents. -/
theorem B_v376 : (kernelRun0_B.sl.v376 (F := Ideal) c arg19) = m0 := by
  unfold kernelRun0_B.sl.v376 kernelRun0_B.sl.HS5_1
  rw [View.readCov_cons_toLoadRect]; rfl

/-- A latent tile: the value at step 643 of the body, over the windows' contents. -/
theorem B_v643 : (kernelRun0_B.sl.v643 (F := Ideal) c arg20) = m0 := by
  unfold kernelRun0_B.sl.v643 kernelRun0_B.sl.HS6_1
  rw [View.readCov_cons_toLoadRect]; rfl

/-- A latent tile: the value at step 910 of the body, over the windows' contents. -/
theorem B_v910 : (kernelRun0_B.sl.v910 (F := Ideal) c arg21) = m0 := by
  unfold kernelRun0_B.sl.v910 kernelRun0_B.sl.HS7_1
  rw [View.readCov_cons_toLoadRect]; rfl

/-- A latent tile: the value at step 395 of the body, over the windows' contents. -/
theorem B_v395 : (kernelRun0_B.sl.v395 (F := Ideal) c arg3 harg3 arg5 harg5 arg15 arg31 x0 x2) = blkS (qz 1 x0) (kblk x2 0) := by
  unfold kernelRun0_B.sl.v395 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v119, View.readAt_eq_ld, harg5.read_unread, ld_kblk0]
  exact pay_S1_0 (qz _ _) (kblk x2)

/-- A latent tile: the value at step 415 of the body, over the windows' contents. -/
theorem B_v415 : (kernelRun0_B.sl.v415 (F := Ideal) c arg3 harg3 arg5 harg5 arg15 arg31 x0 x2) = blkS (qz 1 x0) (kblk x2 1) := by
  unfold kernelRun0_B.sl.v415 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v119, View.readAt_eq_ld, harg5.read_unread, ld_kblk1]
  exact pay_S1_1 (qz _ _) (kblk x2)

/-- A latent tile: the value at step 437 of the body, over the windows' contents. -/
theorem B_v437 : (kernelRun0_B.sl.v437 (F := Ideal) c arg3 harg3 arg5 harg5 arg15 arg31 x0 x2) = blkS (qz 1 x0) (kblk x2 2) := by
  unfold kernelRun0_B.sl.v437 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v119, View.readAt_eq_ld, harg5.read_unread, ld_kblk2]
  exact pay_S1_2 (qz _ _) (kblk x2)

/-- A latent tile: the value at step 459 of the body, over the windows' contents. -/
theorem B_v459 : (kernelRun0_B.sl.v459 (F := Ideal) c arg3 harg3 arg5 harg5 arg15 arg31 x0 x2) = blkS (qz 1 x0) (kblk x2 3) := by
  unfold kernelRun0_B.sl.v459 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_12
  rw [B_v119, View.readAt_eq_ld, harg5.read_unread, ld_kblk3]
  exact pay_S1_3 (qz _ _) (kblk x2)

/-- A latent tile: the value at step 481 of the body, over the windows' contents. -/
theorem B_v481 : (kernelRun0_B.sl.v481 (F := Ideal) c arg3 harg3 arg5 harg5 arg15 arg31 x0 x2) = blkS (qz 1 x0) (kblk x2 4) := by
  unfold kernelRun0_B.sl.v481 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v119, View.readAt_eq_ld, harg5.read_unread, ld_kblk4]
  exact pay_S1_4 (qz _ _) (kblk x2)

/-- A latent tile: the value at step 503 of the body, over the windows' contents. -/
theorem B_v503 : (kernelRun0_B.sl.v503 (F := Ideal) c arg3 harg3 arg5 harg5 arg15 arg31 x0 x2) = blkS (qz 1 x0) (kblk x2 5) := by
  unfold kernelRun0_B.sl.v503 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v119, View.readAt_eq_ld, harg5.read_unread, ld_kblk5]
  exact pay_S1_5 (qz _ _) (kblk x2)

/-- A latent tile: the value at step 525 of the body, over the windows' contents. -/
theorem B_v525 : (kernelRun0_B.sl.v525 (F := Ideal) c arg3 harg3 arg5 harg5 arg15 arg31 x0 x2) = blkS (qz 1 x0) (kblk x2 6) := by
  unfold kernelRun0_B.sl.v525 kernelRun0_B.sl.HS17_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_21
  rw [B_v119, View.readAt_eq_ld, harg5.read_unread, ld_kblk6]
  exact pay_S1_6 (qz _ _) (kblk x2)

/-- A latent tile: the value at step 547 of the body, over the windows' contents. -/
theorem B_v547 : (kernelRun0_B.sl.v547 (F := Ideal) c arg3 harg3 arg5 harg5 arg15 arg31 x0 x2) = blkS (qz 1 x0) (kblk x2 7) := by
  unfold kernelRun0_B.sl.v547 kernelRun0_B.sl.HS17_11
  rw [View.readCov_skip _ _ _ _ _ (by decide)]
  rw [View.readCov_skip _ _ _ _ _ (by decide)]
  rw [View.readCov_skip _ _ _ _ _ (by decide)]
  rw [View.readCov_cons_toLoadRect]
  rw [B_v119, View.readAt_eq_ld, harg5.read_unread, ld_kblk7]
  exact pay_S1_7 (qz _ _) (kblk x2)

/-- A latent tile: the value at step 569 of the body, over the windows' contents. -/
theorem B_v569 : (kernelRun0_B.sl.v569 (F := Ideal) c arg3 harg3 arg5 harg5 arg15 arg31 x0 x2) = blkS (qz 1 x0) (kblk x2 8) := by
  unfold kernelRun0_B.sl.v569 kernelRun0_B.sl.HS17_11
  rw [View.readCov_skip _ _ _ _ _ (by decide)]
  rw [View.readCov_skip _ _ _ _ _ (by decide)]
  rw [View.readCov_cons_toLoadRect]
  rw [B_v119, View.readAt_eq_ld, harg5.read_unread, ld_kblk8]
  exact pay_S1_8 (qz _ _) (kblk x2)

/-- A latent tile: the value at step 591 of the body, over the windows' contents. -/
theorem B_v591 : (kernelRun0_B.sl.v591 (F := Ideal) c arg3 harg3 arg5 harg5 arg15 arg31 x0 x2) = blkS (qz 1 x0) (kblk x2 9) := by
  unfold kernelRun0_B.sl.v591 kernelRun0_B.sl.HS17_11
  rw [View.readCov_skip _ _ _ _ _ (by decide)]
  rw [View.readCov_cons_toLoadRect]
  rw [B_v119, View.readAt_eq_ld, harg5.read_unread, ld_kblk9]
  exact pay_S1_9 (qz _ _) (kblk x2)

/-- A latent tile: the value at step 613 of the body, over the windows' contents. -/
theorem B_v613 : (kernelRun0_B.sl.v613 (F := Ideal) c arg3 harg3 arg5 harg5 arg15 arg31 x0 x2) = blkS (qz 1 x0) (kblk x2 10) := by
  unfold kernelRun0_B.sl.v613 kernelRun0_B.sl.HS17_11
  rw [View.readCov_cons_toLoadRect]
  rw [B_v119, View.readAt_eq_ld, harg5.read_unread, ld_kblk10]
  exact pay_S1_10 (qz _ _) (kblk x2)

/-- A latent tile: the value at step 662 of the body, over the windows' contents. -/
theorem B_v662 : (kernelRun0_B.sl.v662 (F := Ideal) c arg4 harg4 arg6 harg6 arg16 arg30 x1 x3) = blkS (qz 0 x1) (kblk x3 0) := by
  unfold kernelRun0_B.sl.v662 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_36
  rw [B_v386, View.readAt_eq_ld, harg6.read_unread, ld_kblk0]
  exact pay_S2_0 (qz _ _) (kblk x3)

/-- A latent tile: the value at step 682 of the body, over the windows' contents. -/
theorem B_v682 : (kernelRun0_B.sl.v682 (F := Ideal) c arg4 harg4 arg6 harg6 arg16 arg30 x1 x3) = blkS (qz 0 x1) (kblk x3 1) := by
  unfold kernelRun0_B.sl.v682 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk1]
  exact pay_S2_1 (qz _ _) (kblk x3)

/-- A latent tile: the value at step 704 of the body, over the windows' contents. -/
theorem B_v704 : (kernelRun0_B.sl.v704 (F := Ideal) c arg4 harg4 arg6 harg6 arg16 arg30 x1 x3) = blkS (qz 0 x1) (kblk x3 2) := by
  unfold kernelRun0_B.sl.v704 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk2]
  exact pay_S2_2 (qz _ _) (kblk x3)

/-- A latent tile: the value at step 726 of the body, over the windows' contents. -/
theorem B_v726 : (kernelRun0_B.sl.v726 (F := Ideal) c arg4 harg4 arg6 harg6 arg16 arg30 x1 x3) = blkS (qz 0 x1) (kblk x3 3) := by
  unfold kernelRun0_B.sl.v726 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk3]
  exact pay_S2_3 (qz _ _) (kblk x3)

/-- A latent tile: the value at step 748 of the body, over the windows' contents. -/
theorem B_v748 : (kernelRun0_B.sl.v748 (F := Ideal) c arg4 harg4 arg6 harg6 arg16 arg30 x1 x3) = blkS (qz 0 x1) (kblk x3 4) := by
  unfold kernelRun0_B.sl.v748 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk4]
  exact pay_S2_4 (qz _ _) (kblk x3)

/-- A latent tile: the value at step 770 of the body, over the windows' contents. -/
theorem B_v770 : (kernelRun0_B.sl.v770 (F := Ideal) c arg4 harg4 arg6 harg6 arg16 arg30 x1 x3) = blkS (qz 0 x1) (kblk x3 5) := by
  unfold kernelRun0_B.sl.v770 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk5]
  exact pay_S2_5 (qz _ _) (kblk x3)

/-- A latent tile: the value at step 792 of the body, over the windows' contents. -/
theorem B_v792 : (kernelRun0_B.sl.v792 (F := Ideal) c arg4 harg4 arg6 harg6 arg16 arg30 x1 x3) = blkS (qz 0 x1) (kblk x3 6) := by
  unfold kernelRun0_B.sl.v792 kernelRun0_B.sl.HS16_11
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk6]
  exact pay_S2_6 (qz _ _) (kblk x3)

/-- A latent tile: the value at step 814 of the body, over the windows' contents. -/
theorem B_v814 : (kernelRun0_B.sl.v814 (F := Ideal) c arg4 harg4 arg6 harg6 arg16 arg30 x1 x3) = blkS (qz 0 x1) (kblk x3 7) := by
  unfold kernelRun0_B.sl.v814 kernelRun0_B.sl.HS16_11
  rw [View.readCov_skip _ _ _ _ _ (by decide)]
  rw [View.readCov_skip _ _ _ _ _ (by decide)]
  rw [View.readCov_skip _ _ _ _ _ (by decide)]
  rw [View.readCov_cons_toLoadRect]
  rw [B_v386, View.readAt_eq_ld, harg6.read_unread, ld_kblk7]
  exact pay_S2_7 (qz _ _) (kblk x3)

/-- A latent tile: the value at step 836 of the body, over the windows' contents. -/
theorem B_v836 : (kernelRun0_B.sl.v836 (F := Ideal) c arg4 harg4 arg6 harg6 arg16 arg30 x1 x3) = blkS (qz 0 x1) (kblk x3 8) := by
  unfold kernelRun0_B.sl.v836 kernelRun0_B.sl.HS16_11
  rw [View.readCov_skip _ _ _ _ _ (by decide)]
  rw [View.readCov_skip _ _ _ _ _ (by decide)]
  rw [View.readCov_cons_toLoadRect]
  rw [B_v386, View.readAt_eq_ld, harg6.read_unread, ld_kblk8]
  exact pay_S2_8 (qz _ _) (kblk x3)

/-- A latent tile: the value at step 858 of the body, over the windows' contents. -/
theorem B_v858 : (kernelRun0_B.sl.v858 (F := Ideal) c arg4 harg4 arg6 harg6 arg16 arg30 x1 x3) = blkS (qz 0 x1) (kblk x3 9) := by
  unfold kernelRun0_B.sl.v858 kernelRun0_B.sl.HS16_11
  rw [View.readCov_skip _ _ _ _ _ (by decide)]
  rw [View.readCov_cons_toLoadRect]
  rw [B_v386, View.readAt_eq_ld, harg6.read_unread, ld_kblk9]
  exact pay_S2_9 (qz _ _) (kblk x3)

/-- A latent tile: the value at step 880 of the body, over the windows' contents. -/
theorem B_v880 : (kernelRun0_B.sl.v880 (F := Ideal) c arg4 harg4 arg6 harg6 arg16 arg30 x1 x3) = blkS (qz 0 x1) (kblk x3 10) := by
  unfold kernelRun0_B.sl.v880 kernelRun0_B.sl.HS16_11
  rw [View.readCov_cons_toLoadRect]
  rw [B_v386, View.readAt_eq_ld, harg6.read_unread, ld_kblk10]
  exact pay_S2_10 (qz _ _) (kblk x3)

/-- A latent tile: the value at step 930 of the body, over the windows' contents. -/
theorem B_v930 : (kernelRun0_B.sl.v930 (F := Ideal) c arg3 harg3 arg4 harg4 arg5 harg5 arg6 harg6 arg15 arg17 arg31 x0 x1 x2 x3) = blkS (qz 1 x1) (kblk x3 0) := by
  unfold kernelRun0_B.sl.v930 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_66
  rw [B_v653, View.readAt_eq_ld, harg6.read_unread, ld_kblk0]
  exact pay_S3_0 (qz _ _) (kblk x3)

/-- A latent tile: the value at step 951 of the body, over the windows' contents. -/
theorem B_v951 : (kernelRun0_B.sl.v951 (F := Ideal) c arg3 harg3 arg4 harg4 arg5 harg5 arg6 harg6 arg15 arg17 arg31 x0 x1 x2 x3) = blkS (qz 1 x1) (kblk x3 1) := by
  unfold kernelRun0_B.sl.v951 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk1]
  exact pay_S3_1 (qz _ _) (kblk x3)

/-- A latent tile: the value at step 974 of the body, over the windows' contents. -/
theorem B_v974 : (kernelRun0_B.sl.v974 (F := Ideal) c arg3 harg3 arg4 harg4 arg5 harg5 arg6 harg6 arg15 arg17 arg31 x0 x1 x2 x3) = blkS (qz 1 x1) (kblk x3 2) := by
  unfold kernelRun0_B.sl.v974 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk2]
  exact pay_S3_2 (qz _ _) (kblk x3)

/-- A latent tile: the value at step 997 of the body, over the windows' contents. -/
theorem B_v997 : (kernelRun0_B.sl.v997 (F := Ideal) c arg3 harg3 arg4 harg4 arg5 harg5 arg6 harg6 arg15 arg17 arg31 x0 x1 x2 x3) = blkS (qz 1 x1) (kblk x3 3) := by
  unfold kernelRun0_B.sl.v997 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk3]
  exact pay_S3_3 (qz _ _) (kblk x3)

/-- A latent tile: the value at step 1020 of the body, over the windows' contents. -/
theorem B_v1020 : (kernelRun0_B.sl.v1020 (F := Ideal) c arg3 harg3 arg4 harg4 arg5 harg5 arg6 harg6 arg15 arg17 arg31 x0 x1 x2 x3) = blkS (qz 1 x1) (kblk x3 4) := by
  unfold kernelRun0_B.sl.v1020 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk4]
  exact pay_S3_4 (qz _ _) (kblk x3)

/-- A latent tile: the value at step 1043 of the body, over the windows' contents. -/
theorem B_v1043 : (kernelRun0_B.sl.v1043 (F := Ideal) c arg3 harg3 arg4 harg4 arg5 harg5 arg6 harg6 arg15 arg17 arg31 x0 x1 x2 x3) = blkS (qz 1 x1) (kblk x3 5) := by
  unfold kernelRun0_B.sl.v1043 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk5]
  exact pay_S3_5 (qz _ _) (kblk x3)

/-- A latent tile: the value at step 1066 of the body, over the windows' contents. -/
theorem B_v1066 : (kernelRun0_B.sl.v1066 (F := Ideal) c arg3 harg3 arg4 harg4 arg5 harg5 arg6 harg6 arg15 arg17 arg31 x0 x1 x2 x3) = blkS (qz 1 x1) (kblk x3 6) := by
  unfold kernelRun0_B.sl.v1066 kernelRun0_B.sl.HS17_22
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk6]
  exact pay_S3_6 (qz _ _) (kblk x3)

/-- A latent tile: the value at step 1089 of the body, over the windows' contents. -/
theorem B_v1089 : (kernelRun0_B.sl.v1089 (F := Ideal) c arg3 harg3 arg4 harg4 arg5 harg5 arg6 harg6 arg15 arg17 arg31 x0 x1 x2 x3) = blkS (qz 1 x1) (kblk x3 7) := by
  unfold kernelRun0_B.sl.v1089 kernelRun0_B.sl.HS17_22
  rw [View.readCov_skip _ _ _ _ _ (by decide)]
  rw [View.readCov_skip _ _ _ _ _ (by decide)]
  rw [View.readCov_skip _ _ _ _ _ (by decide)]
  rw [View.readCov_cons_toLoadRect]
  rw [B_v653, View.readAt_eq_ld, harg6.read_unread, ld_kblk7]
  exact pay_S3_7 (qz _ _) (kblk x3)

/-- A latent tile: the value at step 1112 of the body, over the windows' contents. -/
theorem B_v1112 : (kernelRun0_B.sl.v1112 (F := Ideal) c arg3 harg3 arg4 harg4 arg5 harg5 arg6 harg6 arg15 arg17 arg31 x0 x1 x2 x3) = blkS (qz 1 x1) (kblk x3 8) := by
  unfold kernelRun0_B.sl.v1112 kernelRun0_B.sl.HS17_22
  rw [View.readCov_skip _ _ _ _ _ (by decide)]
  rw [View.readCov_skip _ _ _ _ _ (by decide)]
  rw [View.readCov_cons_toLoadRect]
  rw [B_v653, View.readAt_eq_ld, harg6.read_unread, ld_kblk8]
  exact pay_S3_8 (qz _ _) (kblk x3)

/-- A latent tile: the value at step 1135 of the body, over the windows' contents. -/
theorem B_v1135 : (kernelRun0_B.sl.v1135 (F := Ideal) c arg3 harg3 arg4 harg4 arg5 harg5 arg6 harg6 arg15 arg17 arg31 x0 x1 x2 x3) = blkS (qz 1 x1) (kblk x3 9) := by
  unfold kernelRun0_B.sl.v1135 kernelRun0_B.sl.HS17_22
  rw [View.readCov_skip _ _ _ _ _ (by decide)]
  rw [View.readCov_cons_toLoadRect]
  rw [B_v653, View.readAt_eq_ld, harg6.read_unread, ld_kblk9]
  exact pay_S3_9 (qz _ _) (kblk x3)

/-- A latent tile: the value at step 1158 of the body, over the windows' contents. -/
theorem B_v1158 : (kernelRun0_B.sl.v1158 (F := Ideal) c arg3 harg3 arg4 harg4 arg5 harg5 arg6 harg6 arg15 arg17 arg31 x0 x1 x2 x3) = blkS (qz 1 x1) (kblk x3 10) := by
  unfold kernelRun0_B.sl.v1158 kernelRun0_B.sl.HS17_22
  rw [View.readCov_cons_toLoadRect]
  rw [B_v653, View.readAt_eq_ld, harg6.read_unread, ld_kblk10]
  exact pay_S3_10 (qz _ _) (kblk x3)

/-- A latent tile: the value at step 377 of the body, over the windows' contents. -/
theorem B_v377 : (kernelRun0_B.sl.v377 (F := Ideal) c arg3 harg3 arg5 harg5 arg15 arg33 x0 x2) = chainM (fun n => blkS (qz 1 x0) (kblk x2 n)) := by
  unfold kernelRun0_B.sl.v377 kernelRun0_B.sl.HS19_1
  rw [View.readCov_cons_toLoadRect]
  unfold kernelRun0_B.sl.r_31 kernelRun0_B.sl.r_27 kernelRun0_B.sl.r_23 kernelRun0_B.sl.r_17 kernelRun0_B.sl.r_14 kernelRun0_B.sl.r_12 kernelRun0_B.sl.r_20 kernelRun0_B.sl.r_30 kernelRun0_B.sl.r_9 kernelRun0_B.sl.r_6
  rw [B_v119]
  rw [rd_kblk0, rd_kblk1, rd_kblk2, rd_kblk3, rd_kblk4, rd_kblk5, rd_kblk6, rd_kblk7, rd_kblk8, rd_kblk9, rd_kblk10]
  exact pay_M1 (qz _ _) (kblk x2)

/-- A latent tile: the value at step 644 of the body, over the windows' contents. -/
theorem B_v644 : (kernelRun0_B.sl.v644 (F := Ideal) c arg4 harg4 arg6 harg6 arg16 arg32 x1 x3) = chainM (fun n => blkS (qz 0 x1) (kblk x3 n)) := by
  unfold kernelRun0_B.sl.v644 kernelRun0_B.sl.HS18_1
  rw [View.readCov_cons_toLoadRect]
  unfold kernelRun0_B.sl.r_61 kernelRun0_B.sl.r_60 kernelRun0_B.sl.r_55 kernelRun0_B.sl.r_51 kernelRun0_B.sl.r_47 kernelRun0_B.sl.r_42 kernelRun0_B.sl.r_38 kernelRun0_B.sl.r_36 kernelRun0_B.sl.r_45 kernelRun0_B.sl.r_54
  rw [B_v386]
  rw [rd_kblk0, rd_kblk1, rd_kblk2, rd_kblk3, rd_kblk4, rd_kblk5, rd_kblk6, rd_kblk7, rd_kblk8, rd_kblk9, rd_kblk10]
  exact pay_M2 (qz _ _) (kblk x3)

/-- A latent tile: the value at step 911 of the body, over the windows' contents. -/
theorem B_v911 : (kernelRun0_B.sl.v911 (F := Ideal) c arg3 harg3 arg4 harg4 arg5 harg5 arg6 harg6 arg15 arg17 arg33 x0 x1 x2 x3) = chainM (fun n => blkS (qz 1 x1) (kblk x3 n)) := by
  unfold kernelRun0_B.sl.v911 kernelRun0_B.sl.HS19_2
  rw [View.readCov_cons_toLoadRect]
  unfold kernelRun0_B.sl.r_85 kernelRun0_B.sl.r_80 kernelRun0_B.sl.r_79 kernelRun0_B.sl.r_74 kernelRun0_B.sl.r_73 kernelRun0_B.sl.r_68 kernelRun0_B.sl.r_66
  rw [B_v653]
  rw [rd_kblk0, rd_kblk1, rd_kblk2, rd_kblk3, rd_kblk4, rd_kblk5, rd_kblk6, rd_kblk7, rd_kblk8, rd_kblk9, rd_kblk10]
  exact pay_M3 (qz _ _) (kblk x3)

/-- A latent tile: the value at step 361 of the body, over the windows' contents. -/
theorem B_v361 : (kernelRun0_B.sl.v361 (F := Ideal) c arg22) = l0 := by
  unfold kernelRun0_B.sl.v361 kernelRun0_B.sl.HS8_1
  rw [View.readCov_cons_toLoadRect]; rfl

/-- A latent tile: the value at step 1188 of the body, over the windows' contents. -/
theorem B_v1188 : (kernelRun0_B.sl.v1188 (F := Ideal) c arg18 arg22 arg30 harg30 arg32 harg32 xs16 xs18) = sumL (alpha m0 xs18) l0 (chainL (newM m0 xs18) (rows xs16)) := by
  unfold kernelRun0_B.sl.v1188 kernelRun0_B.sl.HS8_2
  rw [View.readCov_cons_toLoadRect]
  unfold kernelRun0_B.sl.r_32 kernelRun0_B.sl.r_28 kernelRun0_B.sl.r_24 kernelRun0_B.sl.r_18 kernelRun0_B.sl.r_16 kernelRun0_B.sl.r_10 kernelRun0_B.sl.r_4 kernelRun0_B.sl.r_8 kernelRun0_B.sl.r_3
  rw [B_v361, B_v109]
  rw [rd_rows0, rd_rows1, rd_rows2, rd_rows3, rd_rows4, rd_rows5, rd_rows6, rd_rows7, rd_rows8, rd_rows9, rd_rows10, rd_cm]
  exact pay_L0 m0 l0 xs18 (rows xs16)

/-- A latent tile: the value at step 369 of the body, over the windows' contents. -/
theorem B_v369 : (kernelRun0_B.sl.v369 (F := Ideal) c arg26) = a0 := by
  unfold kernelRun0_B.sl.v369 kernelRun0_B.sl.HS12_1
  rw [View.readCov_cons_toLoadRect]; rfl

/-- A latent tile: the value at step 1189 of the body, over the windows' contents. -/
theorem B_v1189 : (kernelRun0_B.sl.v1189 (F := Ideal) c arg7 harg7 arg18 arg26 arg30 harg30 arg32 harg32 x4 xs16 xs18) = sumA (alpha m0 xs18) a0 (chainA (newM m0 xs18) (rows xs16) (vblk x4)) := by
  unfold kernelRun0_B.sl.v1189 kernelRun0_B.sl.HS12_2
  rw [View.readCov_cons_toLoadRect]
  unfold kernelRun0_B.sl.r_33 kernelRun0_B.sl.r_29 kernelRun0_B.sl.r_22 kernelRun0_B.sl.r_19 kernelRun0_B.sl.r_13 kernelRun0_B.sl.r_11 kernelRun0_B.sl.r_15 kernelRun0_B.sl.r_25 kernelRun0_B.sl.r_26 kernelRun0_B.sl.r_4 kernelRun0_B.sl.r_5 kernelRun0_B.sl.r_7 kernelRun0_B.sl.r_3
  rw [B_v369, B_v109]
  rw [rd_vblk0, rd_vblk1, rd_vblk2, rd_vblk3, rd_vblk4, rd_vblk5, rd_vblk6, rd_vblk7, rd_vblk8, rd_vblk9, rd_vblk10, rd_rows0, rd_rows1, rd_rows2, rd_rows3, rd_rows4, rd_rows5, rd_rows6, rd_rows7, rd_rows8, rd_rows9, rd_rows10, rd_cm]
  exact pay_A0 m0 a0 xs18 (rows xs16) (vblk x4)

/-- A latent tile: the value at step 628 of the body, over the windows' contents. -/
theorem B_v628 : (kernelRun0_B.sl.v628 (F := Ideal) c arg23) = l0 := by
  unfold kernelRun0_B.sl.v628 kernelRun0_B.sl.HS9_1
  rw [View.readCov_cons_toLoadRect]; rfl

/-- A latent tile: the value at step 1194 of the body, over the windows' contents. -/
theorem B_v1194 : (kernelRun0_B.sl.v1194 (F := Ideal) c arg3 harg3 arg5 harg5 arg15 arg19 arg23 arg31 arg33 x0 x2) = sumL (alpha m0 (chainM (fun n => blkS (qz 1 x0) (kblk x2 n)))) l0 (chainL (newM m0 (chainM (fun n => blkS (qz 1 x0) (kblk x2 n)))) (fun n => blkS (qz 1 x0) (kblk x2 n))) := by
  unfold kernelRun0_B.sl.v1194 kernelRun0_B.sl.HS9_2
  rw [View.readCov_cons_toLoadRect]
  unfold kernelRun0_B.sl.r_35 kernelRun0_B.sl.r_62 kernelRun0_B.sl.r_58 kernelRun0_B.sl.r_56 kernelRun0_B.sl.r_52 kernelRun0_B.sl.r_48 kernelRun0_B.sl.r_43 kernelRun0_B.sl.r_40 kernelRun0_B.sl.r_34
  rw [B_v628, B_v376, B_v377, B_v395, B_v415, B_v437, B_v459, B_v481, B_v503, B_v525, B_v547, B_v569, B_v591, B_v613]
  exact pay_L1 m0 l0 (chainM (fun n => blkS (qz 1 x0) (kblk x2 n))) (fun n => blkS (qz 1 x0) (kblk x2 n))

/-- A latent tile: the value at step 636 of the body, over the windows' contents. -/
theorem B_v636 : (kernelRun0_B.sl.v636 (F := Ideal) c arg27) = a0 := by
  unfold kernelRun0_B.sl.v636 kernelRun0_B.sl.HS13_1
  rw [View.readCov_cons_toLoadRect]; rfl

/-- A latent tile: the value at step 1195 of the body, over the windows' contents. -/
theorem B_v1195 : (kernelRun0_B.sl.v1195 (F := Ideal) c arg3 harg3 arg5 harg5 arg7 harg7 arg15 arg19 arg27 arg31 arg33 x0 x2 x4) = sumA (alpha m0 (chainM (fun n => blkS (qz 1 x0) (kblk x2 n)))) a0 (chainA (newM m0 (chainM (fun n => blkS (qz 1 x0) (kblk x2 n)))) (fun n => blkS (qz 1 x0) (kblk x2 n)) (vblk x4)) := by
  unfold kernelRun0_B.sl.v1195 kernelRun0_B.sl.HS13_2
  rw [View.readCov_cons_toLoadRect]
  unfold kernelRun0_B.sl.r_35 kernelRun0_B.sl.r_63 kernelRun0_B.sl.r_59 kernelRun0_B.sl.r_57 kernelRun0_B.sl.r_53 kernelRun0_B.sl.cst_343 kernelRun0_B.sl.r_46 kernelRun0_B.sl.r_44 kernelRun0_B.sl.r_37 kernelRun0_B.sl.r_39 kernelRun0_B.sl.r_41 kernelRun0_B.sl.r_49 kernelRun0_B.sl.r_50 kernelRun0_B.sl.r_34
  rw [B_v636, B_v376, B_v377, B_v395, B_v415, B_v437, B_v459, B_v481, B_v503, B_v525, B_v547, B_v569, B_v591, B_v613]
  rw [rd_vblk0, rd_vblk1, rd_vblk2, rd_vblk3, rd_vblk4, rd_vblk5, rd_vblk6, rd_vblk7, rd_vblk8, rd_vblk9, rd_vblk10]
  exact pay_A1 m0 a0 (chainM (fun n => blkS (qz 1 x0) (kblk x2 n))) (fun n => blkS (qz 1 x0) (kblk x2 n)) (vblk x4)

/-- A latent tile: the value at step 895 of the body, over the windows' contents. -/
theorem B_v895 : (kernelRun0_B.sl.v895 (F := Ideal) c arg24) = l0 := by
  unfold kernelRun0_B.sl.v895 kernelRun0_B.sl.HS10_1
  rw [View.readCov_cons_toLoadRect]; rfl

/-- A latent tile: the value at step 1200 of the body, over the windows' contents. -/
theorem B_v1200 : (kernelRun0_B.sl.v1200 (F := Ideal) c arg4 harg4 arg6 harg6 arg16 arg20 arg24 arg30 arg32 x1 x3) = sumL (alpha m0 (chainM (fun n => blkS (qz 0 x1) (kblk x3 n)))) l0 (chainL (newM m0 (chainM (fun n => blkS (qz 0 x1) (kblk x3 n)))) (fun n => blkS (qz 0 x1) (kblk x3 n))) := by
  unfold kernelRun0_B.sl.v1200 kernelRun0_B.sl.HS10_2
  rw [View.readCov_cons_toLoadRect]
  unfold kernelRun0_B.sl.r_65 kernelRun0_B.sl.r_87 kernelRun0_B.sl.r_83 kernelRun0_B.sl.r_81 kernelRun0_B.sl.r_77 kernelRun0_B.sl.r_75 kernelRun0_B.sl.r_71 kernelRun0_B.sl.r_69 kernelRun0_B.sl.r_86 kernelRun0_B.sl.r_64
  rw [B_v895, B_v643, B_v644, B_v662, B_v682, B_v704, B_v726, B_v748, B_v770, B_v792, B_v814, B_v836, B_v858, B_v880]
  exact pay_L2 m0 l0 (chainM (fun n => blkS (qz 0 x1) (kblk x3 n))) (fun n => blkS (qz 0 x1) (kblk x3 n))

/-- A latent tile: the value at step 903 of the body, over the windows' contents. -/
theorem B_v903 : (kernelRun0_B.sl.v903 (F := Ideal) c arg28) = a0 := by
  unfold kernelRun0_B.sl.v903 kernelRun0_B.sl.HS14_1
  rw [View.readCov_cons_toLoadRect]; rfl

/-- A latent tile: the value at step 1201 of the body, over the windows' contents. -/
theorem B_v1201 : (kernelRun0_B.sl.v1201 (F := Ideal) c arg4 harg4 arg6 harg6 arg8 harg8 arg16 arg20 arg28 arg30 arg32 x1 x3 x5) = sumA (alpha m0 (chainM (fun n => blkS (qz 0 x1) (kblk x3 n)))) a0 (chainA (newM m0 (chainM (fun n => blkS (qz 0 x1) (kblk x3 n)))) (fun n => blkS (qz 0 x1) (kblk x3 n)) (vblk x5)) := by
  unfold kernelRun0_B.sl.v1201 kernelRun0_B.sl.HS14_2
  rw [View.readCov_cons_toLoadRect]
  unfold kernelRun0_B.sl.r_65 kernelRun0_B.sl.r_88 kernelRun0_B.sl.r_84 kernelRun0_B.sl.r_82 kernelRun0_B.sl.r_78 kernelRun0_B.sl.r_76 kernelRun0_B.sl.r_72 kernelRun0_B.sl.r_67 kernelRun0_B.sl.r_70 kernelRun0_B.sl.r_86 kernelRun0_B.sl.r_64
  rw [B_v903, B_v643, B_v644, B_v662, B_v682, B_v704, B_v726, B_v748, B_v770, B_v792, B_v814, B_v836, B_v858, B_v880]
  rw [rd_vblk0, rd_vblk1, rd_vblk2, rd_vblk3, rd_vblk4, rd_vblk5, rd_vblk6, rd_vblk7, rd_vblk8, rd_vblk9, rd_vblk10]
  exact pay_A2 m0 a0 (chainM (fun n => blkS (qz 0 x1) (kblk x3 n))) (fun n => blkS (qz 0 x1) (kblk x3 n)) (vblk x5)

/-- A latent tile: the value at step 1173 of the body, over the windows' contents. -/
theorem B_v1173 : (kernelRun0_B.sl.v1173 (F := Ideal) c arg25) = l0 := by
  unfold kernelRun0_B.sl.v1173 kernelRun0_B.sl.HS11_1
  rw [View.readCov_cons_toLoadRect]; rfl

/-- A latent tile: the value at step 1206 of the body, over the windows' contents. -/
theorem B_v1206 : (kernelRun0_B.sl.v1206 (F := Ideal) c arg3 harg3 arg4 harg4 arg5 harg5 arg6 harg6 arg15 arg17 arg21 arg25 arg31 arg33 x0 x1 x2 x3) = sumL (alpha m0 (chainM (fun n => blkS (qz 1 x1) (kblk x3 n)))) l0 (chainL (newM m0 (chainM (fun n => blkS (qz 1 x1) (kblk x3 n)))) (fun n => blkS (qz 1 x1) (kblk x3 n))) := by
  unfold kernelRun0_B.sl.v1206 kernelRun0_B.sl.HS11_2
  rw [View.readCov_cons_toLoadRect]
  unfold kernelRun0_B.sl.r_117 kernelRun0_B.sl.r_114 kernelRun0_B.sl.r_112 kernelRun0_B.sl.r_106 kernelRun0_B.sl.r_103 kernelRun0_B.sl.r_121 kernelRun0_B.sl.r_90 kernelRun0_B.sl.r_97 kernelRun0_B.sl.r_94 kernelRun0_B.sl.r_89
  rw [B_v1173, B_v910, B_v911, B_v930, B_v951, B_v974, B_v997, B_v1020, B_v1043, B_v1066, B_v1089, B_v1112, B_v1135, B_v1158]
  exact pay_L3 m0 l0 (chainM (fun n => blkS (qz 1 x1) (kblk x3 n))) (fun n => blkS (qz 1 x1) (kblk x3 n))

/-- A latent tile: the value at step 1181 of the body, over the windows' contents. -/
theorem B_v1181 : (kernelRun0_B.sl.v1181 (F := Ideal) c arg29) = a0 := by
  unfold kernelRun0_B.sl.v1181 kernelRun0_B.sl.HS15_1
  rw [View.readCov_cons_toLoadRect]; rfl

/-- A latent tile: the value at step 1207 of the body, over the windows' contents. -/
theorem B_v1207 : (kernelRun0_B.sl.v1207 (F := Ideal) c arg3 harg3 arg4 harg4 arg5 harg5 arg6 harg6 arg8 harg8 arg15 arg17 arg21 arg29 arg31 arg33 x0 x1 x2 x3 x5) = sumA (alpha m0 (chainM (fun n => blkS (qz 1 x1) (kblk x3 n)))) a0 (chainA (newM m0 (chainM (fun n => blkS (qz 1 x1) (kblk x3 n)))) (fun n => blkS (qz 1 x1) (kblk x3 n)) (vblk x5)) := by
  unfold kernelRun0_B.sl.v1207 kernelRun0_B.sl.HS15_2
  rw [View.readCov_cons_toLoadRect]
  unfold kernelRun0_B.sl.r_118 kernelRun0_B.sl.r_115 kernelRun0_B.sl.r_109 kernelRun0_B.sl.r_107 kernelRun0_B.sl.r_100 kernelRun0_B.sl.r_102 kernelRun0_B.sl.r_104 kernelRun0_B.sl.r_111 kernelRun0_B.sl.r_120 kernelRun0_B.sl.r_90 kernelRun0_B.sl.r_98 kernelRun0_B.sl.r_92 kernelRun0_B.sl.r_95 kernelRun0_B.sl.r_89
  rw [B_v1181, B_v910, B_v911, B_v930, B_v951, B_v974, B_v997, B_v1020, B_v1043, B_v1066, B_v1089, B_v1112, B_v1135, B_v1158]
  rw [rd_vblk0, rd_vblk1, rd_vblk2, rd_vblk3, rd_vblk4, rd_vblk5, rd_vblk6, rd_vblk7, rd_vblk8, rd_vblk9, rd_vblk10]
  exact pay_A3 m0 a0 (chainM (fun n => blkS (qz 1 x1) (kblk x3 n))) (fun n => blkS (qz 1 x1) (kblk x3 n)) (vblk x5)

end Cert.Attn.Ker

end
-- ==== Proof.PayB2.lean ====
/- The values the latent tile stores for the next tile, and its result. -/
module

public import proofs.«01_k».proof.Proof.Out

@[expose] public section

set_option maxRecDepth 16384

noncomputable section

namespace Cert.Attn.Ker

open Idealize.ShloMosaic Idealize.SL.Sem Cert.KernelIdeal Cert.KernelIdeal.Gen Cert.Attn

/-- Block 0 of the next tile's scores, as a latent tile's body computes it. -/
theorem pay_BN_0 (q : FVec Ideal S128x256 .bf16) (k : Fin 11 → FVec Ideal S1x768x128 .bf16) :
    (k0_pay301 (shapeCast S1x128x256 q shapeCasts_S128x256_S1x128x256) (k 0)) = blkS q (k 0) := by
  simp only [k0_pay300, k0_pay301, shapeCast_self, shapeCast_shapeCast] <;> rfl

/-- Block 1 of the next tile's scores, as a latent tile's body computes it. -/
theorem pay_BN_1 (q : FVec Ideal S128x256 .bf16) (k : Fin 11 → FVec Ideal S1x768x128 .bf16) :
    (k0_pay305 (shapeCast S1x128x256 q shapeCasts_S128x256_S1x128x256) (k 1)) = blkS q (k 1) := by
  simp only [k0_pay304, k0_pay305, shapeCast_self, shapeCast_shapeCast] <;> rfl

/-- Block 2 of the next tile's scores, as a latent tile's body computes it. -/
theorem pay_BN_2 (q : FVec Ideal S128x256 .bf16) (k : Fin 11 → FVec Ideal S1x768x128 .bf16) :
    (k0_pay311 (shapeCast S1x128x256 q shapeCasts_S128x256_S1x128x256) (k 2)) = blkS q (k 2) := by
  simp only [k0_pay310, k0_pay311, shapeCast_self, shapeCast_shapeCast] <;> rfl

/-- Block 3 of the next tile's scores, as a latent tile's body computes it. -/
theorem pay_BN_3 (q : FVec Ideal S128x256 .bf16) (k : Fin 11 → FVec Ideal S1x768x128 .bf16) :
    (k0_pay317 (shapeCast S1x128x256 q shapeCasts_S128x256_S1x128x256) (k 3)) = blkS q (k 3) := by
  simp only [k0_pay316, k0_pay317, shapeCast_self, shapeCast_shapeCast] <;> rfl

/-- Block 4 of the next tile's scores, as a latent tile's body computes it. -/
theorem pay_BN_4 (q : FVec Ideal S128x256 .bf16) (k : Fin 11 → FVec Ideal S1x768x128 .bf16) :
    (k0_pay321 (shapeCast S1x128x256 q shapeCasts_S128x256_S1x128x256) (k 4)) = blkS q (k 4) := by
  simp only [k0_pay320, k0_pay321, shapeCast_self, shapeCast_shapeCast] <;> rfl

/-- Block 5 of the next tile's scores, as a latent tile's body computes it. -/
theorem pay_BN_5 (q : FVec Ideal S128x256 .bf16) (k : Fin 11 → FVec Ideal S1x768x128 .bf16) :
    (k0_pay327 (shapeCast S1x128x256 q shapeCasts_S128x256_S1x128x256) (k 5)) = blkS q (k 5) := by
  simp only [k0_pay326, k0_pay327, shapeCast_self, shapeCast_shapeCast] <;> rfl

/-- Block 6 of the next tile's scores, as a latent tile's body computes it. -/
theorem pay_BN_6 (q : FVec Ideal S128x256 .bf16) (k : Fin 11 → FVec Ideal S1x768x128 .bf16) :
    (k0_pay333 (k0_pay332 (shapeCast S1x128x256 q shapeCasts_S128x256_S1x128x256) (k 6))) = blkS q (k 6) := by
  simp only [k0_pay332, k0_pay333, shapeCast_self, shapeCast_shapeCast] <;> rfl

/-- Block 7 of the next tile's scores, as a latent tile's body computes it. -/
theorem pay_BN_7 (q : FVec Ideal S128x256 .bf16) (k : Fin 11 → FVec Ideal S1x768x128 .bf16) :
    (k0_pay337 (shapeCast S1x128x256 q shapeCasts_S128x256_S1x128x256) (k 7)) = blkS q (k 7) := by
  simp only [k0_pay336, k0_pay337, shapeCast_self, shapeCast_shapeCast] <;> rfl

/-- Block 8 of the next tile's scores, as a latent tile's body computes it. -/
theorem pay_BN_8 (q : FVec Ideal S128x256 .bf16) (k : Fin 11 → FVec Ideal S1x768x128 .bf16) :
    (k0_pay342 (shapeCast S1x128x256 q shapeCasts_S128x256_S1x128x256) (k 8)) = blkS q (k 8) := by
  simp only [k0_pay341, k0_pay342, shapeCast_self, shapeCast_shapeCast] <;> rfl

/-- Block 9 of the next tile's scores, as a latent tile's body computes it. -/
theorem pay_BN_9 (q : FVec Ideal S128x256 .bf16) (k : Fin 11 → FVec Ideal S1x768x128 .bf16) :
    (k0_pay348 (k0_pay347 (shapeCast S1x128x256 q shapeCasts_S128x256_S1x128x256) (k 9))) = blkS q (k 9) := by
  simp only [k0_pay347, k0_pay348, shapeCast_self, shapeCast_shapeCast] <;> rfl

/-- Block 10 of the next tile's scores, as a latent tile's body computes it. -/
theorem pay_BN_10 (q : FVec Ideal S128x256 .bf16) (k : Fin 11 → FVec Ideal S1x768x128 .bf16) :
    (k0_pay353 (shapeCast S1x128x256 q shapeCasts_S128x256_S1x128x256) (k 10)) = blkS q (k 10) := by
  simp only [k0_pay352, k0_pay353, shapeCast_self, shapeCast_shapeCast] <;> rfl

/-- The column maxima of the next tile's scores, as a latent tile's body computes them. -/
theorem pay_BNM (q : FVec Ideal S128x256 .bf16) (k : Fin 11 → FVec Ideal S1x768x128 .bf16) :
    (k0_pay357 (k0_pay354 (k0_pay343 (k0_pay338 (k0_pay328 (k0_pay322 (k0_pay312 (k0_pay306 (k0_pay300 (shapeCast S1x128x256 q shapeCasts_S128x256_S1x128x256) (k 0)) (shapeCast S1x128x256 q shapeCasts_S128x256_S1x128x256) (k 1)) (shapeCast S1x128x256 q shapeCasts_S128x256_S1x128x256) (k 2)) (k0_pay316 (shapeCast S1x128x256 q shapeCasts_S128x256_S1x128x256) (k 3)) (shapeCast S1x128x256 q shapeCasts_S128x256_S1x128x256) (k 4)) (shapeCast S1x128x256 q shapeCasts_S128x256_S1x128x256) (k 5)) (k0_pay332 (shapeCast S1x128x256 q shapeCasts_S128x256_S1x128x256) (k 6)) (shapeCast S1x128x256 q shapeCasts_S128x256_S1x128x256) (k 7)) (shapeCast S1x128x256 q shapeCasts_S128x256_S1x128x256) (k 8)) (k0_pay347 (shapeCast S1x128x256 q shapeCasts_S128x256_S1x128x256) (k 9)) (shapeCast S1x128x256 q shapeCasts_S128x256_S1x128x256) (k 10))) = chainM (fun n => blkS q (k n)) := by
  simp only [k0_pay300, k0_pay304, k0_pay306, k0_pay310, k0_pay312, k0_pay316, k0_pay320, k0_pay322, k0_pay326, k0_pay328, k0_pay332, k0_pay336, k0_pay338, k0_pay341, k0_pay343, k0_pay347, k0_pay352, k0_pay354, k0_pay357, shapeCast_self, shapeCast_shapeCast] <;> rfl

/-- A latent tile's block of the result from the four denominators and weighted values. -/
theorem pay_Bout (li : FVec Ideal S1x1 .f32) (lv : FVec Ideal S4x64 .f32) (l0v l1v l2v l3v : FVec Ideal S1x256 .f32) (a0v a1v a2v a3v : FVec Ideal S128x256 .f32) (g0 g1 : FVec Ideal S1x128x1 .f32) :
    (k0_pay6 (k0_pay364 (k0_pay366 li) (k0_pay361 (k0_pay366 li) (k0_pay367 lv li) (k0_pay360 l0v a0v) l1v a1v (FloatOps.ofBits (F := Ideal) FTy.f32 1065353216#32) g0) (k0_pay362 (k0_pay367 lv li) l2v a2v l3v a3v) (k0_pay363 (k0_pay367 lv li) l2v a2v l3v a3v) g1)) = outB (headB li (k0_pay367 lv li) (quot l0v a0v) (quot l1v a1v) g0) (headB li (k0_pay367 lv li) (quot l2v a2v) (quot l3v a3v) g1) := by
  rw [pay366]
  generalize k0_pay367 (F := Ideal) lv li = lm
  rfl

end Cert.Attn.Ker

end
-- ==== Proof.BodyB2.lean ====
/- What the latent tile leaves: the next tile's first scores, and its block of the result. -/
module

public import proofs.«01_k».proof.Proof.BodyB
public import proofs.«01_k».proof.Proof.PayB2

@[expose] public section

set_option maxRecDepth 16384

noncomputable section

namespace Cert.Attn.Ker

open Idealize.ShloMosaic Idealize.SL.Sem Cert.KernelIdeal Cert.KernelIdeal.Gen Cert.Attn

variable (c : Dev nD)
  (arg3 : Memref sig .tc .vmem S1x128x256 .bf16) (harg3 : arg3.IsWhole)
  (arg4 : Memref sig .tc .vmem S1x128x256 .bf16) (harg4 : arg4.IsWhole)
  (arg5 : Memref sig .tc .vmem S1x8448x128 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg8 : Memref sig .tc .vmem S1x128x8448 .bf16) (harg8 : arg8.IsWhole)
  (arg9 : Memref sig .tc .vmem S1x128x256 .bf16) (harg9 : arg9.IsWhole)
  (arg10 : Memref sig .tc .vmem S2x128x1 .f32) (harg10 : arg10.IsWhole)
  (arg11 : Memref sig .tc .vmem S4x64 .f32) (harg11 : arg11.IsWhole)
  (arg12 : Memref sig .tc .vmem S8x128 .f32) (harg12 : arg12.IsWhole)
  (arg13 : Memref sig .tc .vmem S1x256x256 .bf16) (harg13 : arg13.IsWhole)
  (arg14 : Memref sig .tc .vmem S128x256 .bf16) (harg14 : arg14.IsWhole)
  (arg15 : Memref sig .tc .vmem S128x256 .bf16) (harg15 : arg15.IsWhole)
  (arg16 : Memref sig .tc .vmem S128x256 .bf16) (harg16 : arg16.IsWhole)
  (arg17 : Memref sig .tc .vmem S128x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S1x256 .f32) (harg23 : arg23.IsWhole)
  (arg24 : Memref sig .tc .vmem S1x256 .f32) (harg24 : arg24.IsWhole)
  (arg25 : Memref sig .tc .vmem S1x256 .f32) (harg25 : arg25.IsWhole)
  (arg26 : Memref sig .tc .vmem S128x256 .f32) (harg26 : arg26.IsWhole)
  (arg27 : Memref sig .tc .vmem S128x256 .f32) (harg27 : arg27.IsWhole)
  (arg28 : Memref sig .tc .vmem S128x256 .f32) (harg28 : arg28.IsWhole)
  (arg29 : Memref sig .tc .vmem S128x256 .f32) (harg29 : arg29.IsWhole)
  (arg30 : Memref sig .tc .vmem S8448x256 .f32) (harg30 : arg30.IsWhole)
  (arg31 : Memref sig .tc .vmem S8448x256 .f32) (harg31 : arg31.IsWhole)
  (arg32 : Memref sig .tc .vmem S8x256 .f32) (harg32 : arg32.IsWhole)
  (arg33 : Memref sig .tc .vmem S8x256 .f32) (harg33 : arg33.IsWhole)
  (arg34 : Memref sig .tc .vmem S2x128x256 .bf16) (harg34 : arg34.IsWhole)
  (x0 : Vec Ideal S1x128x256 .bf16) (x1 : Vec Ideal S1x128x256 .bf16) (x2 : Vec Ideal S1x8448x128 .bf16) (x3 : Vec Ideal S1x8448x128 .bf16) (x4 : Vec Ideal S1x128x8448 .bf16) (x5 : Vec Ideal S1x128x8448 .bf16) (x6 : Vec Ideal S1x128x256 .bf16) (x7 : Vec Ideal S2x128x1 .f32) (x8 : Vec Ideal S4x64 .f32) (x9 : Vec Ideal S8x128 .f32)
  (xs16 : Vec Ideal S8448x256 .f32) (xs18 : Vec Ideal S8x256 .f32)
  (i : grid0.Coords) (hc0 : ¬cond0_0 i) (hc1 : cond0_1 i)

/-- A latent tile: the value at step 920 of the body, over the windows' contents. -/
theorem B_v920 : (kernelRun0_B.sl.v920 (F := Ideal) c arg3 harg3 arg9 harg9 arg34 x0 x6) = shapeCast S1x128x256 (qz 0 x6) shapeCasts_S128x256_S1x128x256 := by
  unfold kernelRun0_B.sl.v920 kernelRun0_B.sl.HS20_2
  refine Eq.trans (View.readCov_cons_toLoadRect _ _ _ _) ?_
  rw [View.readAt_eq_ld, harg9.read_unread]; exact pay4 x6

/-- A latent tile: component 1 of what the body leaves is the list of its stores. -/
theorem B_comp1 : (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1 = (⟨Rect.unit (s := S8448x256) ![7680, 0] S768x256.size inb_S8448x256_S768x256_7680_0, k0_pay353 (kernelRun0_B.sl.v920 c arg3 harg3 arg9 harg9 arg34 x0 x6) (View.readAt (Elt Ideal) arg5.view (Rect.unit (s := S1x8448x128) ![0, 7680, 0] S1x768x128.size inb_S1x8448x128_S1x768x128_0_7680_0).toLoadRect (harg5.unread x2))⟩ :: ⟨Rect.unit (s := S8448x256) ![6912, 0] S768x256.size inb_S8448x256_S768x256_6912_0, k0_pay348 (kernelRun0_B.sl.r_116 c arg3 harg3 arg5 harg5 arg9 harg9 arg34 x0 x2 x6)⟩ :: ⟨Rect.unit (s := S8448x256) ![6144, 0] S768x256.size inb_S8448x256_S768x256_6144_0, k0_pay342 (kernelRun0_B.sl.v920 c arg3 harg3 arg9 harg9 arg34 x0 x6) (View.readAt (Elt Ideal) arg5.view (Rect.unit (s := S1x8448x128) ![0, 6144, 0] S1x768x128.size inb_S1x8448x128_S1x768x128_0_6144_0).toLoadRect (harg5.unread x2))⟩ :: ⟨Rect.unit (s := S8448x256) ![5376, 0] S768x256.size inb_S8448x256_S768x256_5376_0, k0_pay337 (kernelRun0_B.sl.v920 c arg3 harg3 arg9 harg9 arg34 x0 x6) (View.readAt (Elt Ideal) arg5.view (Rect.unit (s := S1x8448x128) ![0, 5376, 0] S1x768x128.size inb_S1x8448x128_S1x768x128_0_5376_0).toLoadRect (harg5.unread x2))⟩ :: ⟨Rect.unit (s := S8448x256) ![4608, 0] S768x256.size inb_S8448x256_S768x256_4608_0, k0_pay333 (kernelRun0_B.sl.r_108 c arg3 harg3 arg5 harg5 arg9 harg9 arg34 x0 x2 x6)⟩ :: kernelRun0_B.sl.HS16_17 c arg3 harg3 arg4 harg4 arg5 harg5 arg6 harg6 arg9 harg9 arg16 arg34 x0 x1 x2 x3 x6 : List (View.Piece (Elt Ideal) S8448x256 .f32)) := rfl

/-- A latent tile: component 2 of what the body leaves is the list of its stores. -/
theorem B_comp2 : (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.2.1 = (⟨Rect.unit (s := S8x256) ![0, 0] S8x256.size inb_S8x256_S8x256_0_0, k0_pay357 (kernelRun0_B.sl.r_119 c arg3 harg3 arg5 harg5 arg9 harg9 arg34 x0 x2 x6)⟩ :: kernelRun0_B.sl.HS18_1 c arg4 harg4 arg6 harg6 arg16 x1 x3 : List (View.Piece (Elt Ideal) S8x256 .f32)) := rfl

/-- A latent tile leaves block 0 of the next tile's scores in scratch. -/
theorem B_next0 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 0 = blkS (qz 0 x6) (kblk x2 0) := by
  rw [B_comp1, rows_canon0 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v920, rd_kblk0]
  exact pay_BN_0 (qz _ _) (kblk x2)

/-- A latent tile leaves block 1 of the next tile's scores in scratch. -/
theorem B_next1 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 1 = blkS (qz 0 x6) (kblk x2 1) := by
  rw [B_comp1, rows_canon1 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v920, rd_kblk1]
  exact pay_BN_1 (qz _ _) (kblk x2)

/-- A latent tile leaves block 2 of the next tile's scores in scratch. -/
theorem B_next2 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 2 = blkS (qz 0 x6) (kblk x2 2) := by
  rw [B_comp1, rows_canon2 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v920, rd_kblk2]
  exact pay_BN_2 (qz _ _) (kblk x2)

/-- A latent tile leaves block 3 of the next tile's scores in scratch. -/
theorem B_next3 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 3 = blkS (qz 0 x6) (kblk x2 3) := by
  rw [B_comp1, rows_canon3 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v920, rd_kblk3]
  exact pay_BN_3 (qz _ _) (kblk x2)

/-- A latent tile leaves block 4 of the next tile's scores in scratch. -/
theorem B_next4 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 4 = blkS (qz 0 x6) (kblk x2 4) := by
  rw [B_comp1, rows_canon4 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v920, rd_kblk4]
  exact pay_BN_4 (qz _ _) (kblk x2)

/-- A latent tile leaves block 5 of the next tile's scores in scratch. -/
theorem B_next5 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 5 = blkS (qz 0 x6) (kblk x2 5) := by
  rw [B_comp1, rows_canon5 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  rw [B_v920, rd_kblk5]
  exact pay_BN_5 (qz _ _) (kblk x2)

/-- A latent tile leaves block 6 of the next tile's scores in scratch. -/
theorem B_next6 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 6 = blkS (qz 0 x6) (kblk x2 6) := by
  rw [B_comp1, rows_canon6 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_108
  rw [B_v920, rd_kblk6]
  exact pay_BN_6 (qz _ _) (kblk x2)

/-- A latent tile leaves block 7 of the next tile's scores in scratch. -/
theorem B_next7 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 7 = blkS (qz 0 x6) (kblk x2 7) := by
  rw [B_comp1, rows_canon7 arg30.view]
  unfold kernelRun0_B.sl.HS16_17
  rw [View.readCov_skip _ _ _ _ _ (by decide)]
  rw [View.readCov_skip _ _ _ _ _ (by decide)]
  rw [View.readCov_skip _ _ _ _ _ (by decide)]
  rw [View.readCov_cons_toLoadRect]
  rw [B_v920, rd_kblk7]
  exact pay_BN_7 (qz _ _) (kblk x2)

/-- A latent tile leaves block 8 of the next tile's scores in scratch. -/
theorem B_next8 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 8 = blkS (qz 0 x6) (kblk x2 8) := by
  rw [B_comp1, rows_canon8 arg30.view]
  unfold kernelRun0_B.sl.HS16_17
  rw [View.readCov_skip _ _ _ _ _ (by decide)]
  rw [View.readCov_skip _ _ _ _ _ (by decide)]
  rw [View.readCov_cons_toLoadRect]
  rw [B_v920, rd_kblk8]
  exact pay_BN_8 (qz _ _) (kblk x2)

/-- A latent tile leaves block 9 of the next tile's scores in scratch. -/
theorem B_next9 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 9 = blkS (qz 0 x6) (kblk x2 9) := by
  rw [B_comp1, rows_canon9 arg30.view]
  unfold kernelRun0_B.sl.HS16_17
  rw [View.readCov_skip _ _ _ _ _ (by decide)]
  rw [View.readCov_cons_toLoadRect]
  unfold kernelRun0_B.sl.r_116
  rw [B_v920, rd_kblk9]
  exact pay_BN_9 (qz _ _) (kblk x2)

/-- A latent tile leaves block 10 of the next tile's scores in scratch. -/
theorem B_next10 : rows (View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.1) 10 = blkS (qz 0 x6) (kblk x2 10) := by
  rw [B_comp1, rows_canon10 arg30.view]
  unfold kernelRun0_B.sl.HS16_17
  rw [View.readCov_cons_toLoadRect]
  rw [B_v920, rd_kblk10]
  exact pay_BN_10 (qz _ _) (kblk x2)

/-- A latent tile leaves the column maxima of the next tile's scores in scratch. -/
theorem B_nextM : View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).2.2.1 = chainM (fun n => blkS (qz 0 x6) (kblk x2 n)) := by
  rw [B_comp2]
  refine (View.canon_cons_unit_lit' _ _ _ (by decide)).trans ?_
  unfold kernelRun0_B.sl.r_119 kernelRun0_B.sl.r_113 kernelRun0_B.sl.r_110 kernelRun0_B.sl.r_105 kernelRun0_B.sl.r_101 kernelRun0_B.sl.r_108 kernelRun0_B.sl.r_116 kernelRun0_B.sl.r_96 kernelRun0_B.sl.r_93 kernelRun0_B.sl.r_91 kernelRun0_B.sl.r_99
  rw [B_v920, rd_kblk0, rd_kblk1, rd_kblk2, rd_kblk3, rd_kblk4, rd_kblk5, rd_kblk6, rd_kblk7, rd_kblk8, rd_kblk9, rd_kblk10]
  exact pay_BNM (qz _ _) (kblk x2)

/-- A latent tile: component 0 of what the body leaves is the list of its stores. -/
theorem B_comp0 : (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).1 = ([⟨Rect.unit (s := S1x256x256) ![0, 0, 0] ![1, 256, 256] inb_S1x256x256_S1x256x256_0_0_0, k0_pay6 (kernelRun0_B.sl.r_126 c arg3 harg3 arg4 harg4 arg5 harg5 arg6 harg6 arg7 harg7 arg8 harg8 arg10 harg10 arg11 harg11 arg12 harg12 arg15 arg16 arg17 arg18 arg19 arg20 arg21 arg22 arg23 arg24 arg25 arg26 arg27 arg28 arg29 arg30 harg30 arg31 arg32 harg32 arg33 x0 x1 x2 x3 x4 x5 x7 x8 x9 xs16 xs18)⟩] : List (View.Piece (Elt Ideal) S1x256x256 .bf16)) := rfl

/-- A latent tile: the block of the result it stores. -/
theorem B_out : View.canon (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18).1 = outB (headB (one1 x9) (k0_pay367 x8 (one1 x9)) (quot (kernelRun0_B.sl.v1188 (F := Ideal) c arg18 arg22 arg30 harg30 arg32 harg32 xs16 xs18) (kernelRun0_B.sl.v1189 (F := Ideal) c arg7 harg7 arg18 arg26 arg30 harg30 arg32 harg32 x4 xs16 xs18)) (quot (kernelRun0_B.sl.v1194 (F := Ideal) c arg3 harg3 arg5 harg5 arg15 arg19 arg23 arg31 arg33 x0 x2) (kernelRun0_B.sl.v1195 (F := Ideal) c arg3 harg3 arg5 harg5 arg7 harg7 arg15 arg19 arg27 arg31 arg33 x0 x2 x4)) (gblk x7 0)) (headB (one1 x9) (k0_pay367 x8 (one1 x9)) (quot (kernelRun0_B.sl.v1200 (F := Ideal) c arg4 harg4 arg6 harg6 arg16 arg20 arg24 arg30 arg32 x1 x3) (kernelRun0_B.sl.v1201 (F := Ideal) c arg4 harg4 arg6 harg6 arg8 harg8 arg16 arg20 arg28 arg30 arg32 x1 x3 x5)) (quot (kernelRun0_B.sl.v1206 (F := Ideal) c arg3 harg3 arg4 harg4 arg5 harg5 arg6 harg6 arg15 arg17 arg21 arg25 arg31 arg33 x0 x1 x2 x3) (kernelRun0_B.sl.v1207 (F := Ideal) c arg3 harg3 arg4 harg4 arg5 harg5 arg6 harg6 arg8 harg8 arg15 arg17 arg21 arg29 arg31 arg33 x0 x1 x2 x3 x5)) (gblk x7 1)) := by
  rw [B_comp0]
  refine (View.canon_cons_unit_lit' _ _ _ (by decide)).trans ?_
  unfold kernelRun0_B.sl.r_126 kernelRun0_B.sl.r_123 kernelRun0_B.sl.cst_859 kernelRun0_B.sl.r kernelRun0_B.sl.r_122 kernelRun0_B.sl.r_124 kernelRun0_B.sl.r_125 kernelRun0_B.sl.r_1
  generalize (kernelRun0_B.sl.v1188 (F := Ideal) c arg18 arg22 arg30 harg30 arg32 harg32 xs16 xs18) = l0v
  generalize (kernelRun0_B.sl.v1189 (F := Ideal) c arg7 harg7 arg18 arg26 arg30 harg30 arg32 harg32 x4 xs16 xs18) = a0v
  generalize (kernelRun0_B.sl.v1194 (F := Ideal) c arg3 harg3 arg5 harg5 arg15 arg19 arg23 arg31 arg33 x0 x2) = l1v
  generalize (kernelRun0_B.sl.v1195 (F := Ideal) c arg3 harg3 arg5 harg5 arg7 harg7 arg15 arg19 arg27 arg31 arg33 x0 x2 x4) = a1v
  generalize (kernelRun0_B.sl.v1200 (F := Ideal) c arg4 harg4 arg6 harg6 arg16 arg20 arg24 arg30 arg32 x1 x3) = l2v
  generalize (kernelRun0_B.sl.v1201 (F := Ideal) c arg4 harg4 arg6 harg6 arg8 harg8 arg16 arg20 arg28 arg30 arg32 x1 x3 x5) = a2v
  generalize (kernelRun0_B.sl.v1206 (F := Ideal) c arg3 harg3 arg4 harg4 arg5 harg5 arg6 harg6 arg15 arg17 arg21 arg25 arg31 arg33 x0 x1 x2 x3) = l3v
  generalize (kernelRun0_B.sl.v1207 (F := Ideal) c arg3 harg3 arg4 harg4 arg5 harg5 arg6 harg6 arg8 harg8 arg15 arg17 arg21 arg29 arg31 arg33 x0 x1 x2 x3 x5) = a3v
  rw [rd_g0, rd_g1, rd_lam, rd_li]
  exact pay_Bout _ _ _ _ _ _ _ _ _ _ _ _

end Cert.Attn.Ker

end
-- ==== Proof.Point.lean ====
/- What a point leaves, as functions of its blocks: a tile of the result, and the next tile's first scores. -/
module

public import proofs.«01_k».proof.Proof.BodyA
public import proofs.«01_k».proof.Proof.BodyB2
public import proofs.«01_k».proof.Proof.Gen.KernelIdeal.Frame

@[expose] public section

set_option maxRecDepth 16384

noncomputable section

namespace Cert.Attn.Ker

open Idealize.ShloMosaic Idealize.SL.Sem Cert.KernelIdeal Cert.KernelIdeal.Gen Cert.Attn

/-- The scores of component `e` of the head whose queries and keys are the windows, block by block. -/
def sB (e : Fin 2) (x : FVec Ideal S1x128x256 .bf16) (k : FVec Ideal S1x8448x128 .bf16) : Fin 11 → FVec Ideal S768x256 .f32 :=
  fun n => blkS (qz e x) (kblk k n)
/-- The tile of a latent point. -/
def tileB (x0 x1 : FVec Ideal S1x128x256 .bf16) (x2 x3 : FVec Ideal S1x8448x128 .bf16) (x4 x5 : FVec Ideal S1x128x8448 .bf16)
    (x7 : FVec Ideal S2x128x1 .f32) (x8 : FVec Ideal S4x64 .f32) (x9 : FVec Ideal S8x128 .f32)
    (xs16 : FVec Ideal S8448x256 .f32) (xs18 : FVec Ideal S8x256 .f32) : FVec Ideal S1x256x256 .bf16 :=
  outB (headB (one1 x9) (k0_pay367 x8 (one1 x9)) (unit xs18 (rows xs16) (vblk x4)) (unit (chainM (sB 1 x0 x2)) (sB 1 x0 x2) (vblk x4)) (gblk x7 0))
    (headB (one1 x9) (k0_pay367 x8 (one1 x9)) (unit (chainM (sB 0 x1 x3)) (sB 0 x1 x3) (vblk x5)) (unit (chainM (sB 1 x1 x3)) (sB 1 x1 x3) (vblk x5)) (gblk x7 1))
/-- One component's attention over the context. -/
def cU (e : Fin 2) (x : FVec Ideal S1x128x256 .bf16) (k : FVec Ideal S1x8448x128 .bf16) (v : FVec Ideal S1x128x8448 .bf16) : FVec Ideal S128x256 .f32 :=
  ctxUnit (ctxM (ctxS (qz e x) (kctx k))) (ctxS (qz e x) (kctx k)) (vctx v)
/-- The tile of a context point. -/
def tileA (x0 x1 : FVec Ideal S1x128x256 .bf16) (x2 x3 : FVec Ideal S1x8448x128 .bf16) (x4 x5 : FVec Ideal S1x128x8448 .bf16)
    (x7 : FVec Ideal S2x128x1 .f32) (x8 : FVec Ideal S4x64 .f32) (x9 : FVec Ideal S8x128 .f32) : FVec Ideal S1x256x256 .bf16 :=
  outB (headB (one1 x9) (k0_pay367 x8 (one1 x9)) (cU 0 x0 x2 x4) (cU 1 x0 x2 x4) (gblk x7 0))
    (headB (one1 x9) (k0_pay367 x8 (one1 x9)) (cU 0 x1 x3 x5) (cU 1 x1 x3 x5) (gblk x7 1))

section
variable (c : Dev nD)
  (arg3 : Memref sig .tc .vmem S1x128x256 .bf16) (harg3 : arg3.IsWhole)
  (arg4 : Memref sig .tc .vmem S1x128x256 .bf16) (harg4 : arg4.IsWhole)
  (arg5 : Memref sig .tc .vmem S1x8448x128 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg8 : Memref sig .tc .vmem S1x128x8448 .bf16) (harg8 : arg8.IsWhole)
  (arg9 : Memref sig .tc .vmem S1x128x256 .bf16) (harg9 : arg9.IsWhole)
  (arg10 : Memref sig .tc .vmem S2x128x1 .f32) (harg10 : arg10.IsWhole)
  (arg11 : Memref sig .tc .vmem S4x64 .f32) (harg11 : arg11.IsWhole)
  (arg12 : Memref sig .tc .vmem S8x128 .f32) (harg12 : arg12.IsWhole)
  (arg13 : Memref sig .tc .vmem S1x256x256 .bf16) (harg13 : arg13.IsWhole)
  (arg14 : Memref sig .tc .vmem S128x256 .bf16) (harg14 : arg14.IsWhole)
  (arg15 : Memref sig .tc .vmem S128x256 .bf16) (harg15 : arg15.IsWhole)
  (arg16 : Memref sig .tc .vmem S128x256 .bf16) (harg16 : arg16.IsWhole)
  (arg17 : Memref sig .tc .vmem S128x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S1x256 .f32) (harg23 : arg23.IsWhole)
  (arg24 : Memref sig .tc .vmem S1x256 .f32) (harg24 : arg24.IsWhole)
  (arg25 : Memref sig .tc .vmem S1x256 .f32) (harg25 : arg25.IsWhole)
  (arg26 : Memref sig .tc .vmem S128x256 .f32) (harg26 : arg26.IsWhole)
  (arg27 : Memref sig .tc .vmem S128x256 .f32) (harg27 : arg27.IsWhole)
  (arg28 : Memref sig .tc .vmem S128x256 .f32) (harg28 : arg28.IsWhole)
  (arg29 : Memref sig .tc .vmem S128x256 .f32) (harg29 : arg29.IsWhole)
  (arg30 : Memref sig .tc .vmem S8448x256 .f32) (harg30 : arg30.IsWhole)
  (arg31 : Memref sig .tc .vmem S8448x256 .f32) (harg31 : arg31.IsWhole)
  (arg32 : Memref sig .tc .vmem S8x256 .f32) (harg32 : arg32.IsWhole)
  (arg33 : Memref sig .tc .vmem S8x256 .f32) (harg33 : arg33.IsWhole)
  (arg34 : Memref sig .tc .vmem S2x128x256 .bf16) (harg34 : arg34.IsWhole)
  (x0 : Vec Ideal S1x128x256 .bf16) (x1 : Vec Ideal S1x128x256 .bf16) (x2 : Vec Ideal S1x8448x128 .bf16) (x3 : Vec Ideal S1x8448x128 .bf16) (x4 : Vec Ideal S1x128x8448 .bf16) (x5 : Vec Ideal S1x128x8448 .bf16) (x6 : Vec Ideal S1x128x256 .bf16) (x7 : Vec Ideal S2x128x1 .f32) (x8 : Vec Ideal S4x64 .f32) (x9 : Vec Ideal S8x128 .f32)
  (i : grid0.Coords) (hc0 : cond0_0 i) (hc1 : ¬cond0_1 i)

/-- The result block after a context tile, from the windows' contents. -/
theorem pointA : out0_A_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 = tileA x0 x1 x2 x3 x4 x5 x7 x8 x9 := by
  unfold out0_A_10
  rw [View.read_writes_junk_eq_canon, A_out, A_v420, A_v421, A_v426, A_v427, A_v432, A_v433, A_v438, A_v439]
  rfl

/-- After a context tile, block 0 of the score scratch is the next tile's. -/
theorem nextA_0 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 0 = sB 0 x6 x2 0 := by
  unfold sout0_A_16
  rw [View.read_writes_junk_eq_canon]
  exact A_next0 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 1 of the score scratch is the next tile's. -/
theorem nextA_1 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 1 = sB 0 x6 x2 1 := by
  unfold sout0_A_16
  rw [View.read_writes_junk_eq_canon]
  exact A_next1 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 2 of the score scratch is the next tile's. -/
theorem nextA_2 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 2 = sB 0 x6 x2 2 := by
  unfold sout0_A_16
  rw [View.read_writes_junk_eq_canon]
  exact A_next2 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 3 of the score scratch is the next tile's. -/
theorem nextA_3 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 3 = sB 0 x6 x2 3 := by
  unfold sout0_A_16
  rw [View.read_writes_junk_eq_canon]
  exact A_next3 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 4 of the score scratch is the next tile's. -/
theorem nextA_4 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 4 = sB 0 x6 x2 4 := by
  unfold sout0_A_16
  rw [View.read_writes_junk_eq_canon]
  exact A_next4 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 5 of the score scratch is the next tile's. -/
theorem nextA_5 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 5 = sB 0 x6 x2 5 := by
  unfold sout0_A_16
  rw [View.read_writes_junk_eq_canon]
  exact A_next5 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 6 of the score scratch is the next tile's. -/
theorem nextA_6 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 6 = sB 0 x6 x2 6 := by
  unfold sout0_A_16
  rw [View.read_writes_junk_eq_canon]
  exact A_next6 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 7 of the score scratch is the next tile's. -/
theorem nextA_7 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 7 = sB 0 x6 x2 7 := by
  unfold sout0_A_16
  rw [View.read_writes_junk_eq_canon]
  exact A_next7 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 8 of the score scratch is the next tile's. -/
theorem nextA_8 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 8 = sB 0 x6 x2 8 := by
  unfold sout0_A_16
  rw [View.read_writes_junk_eq_canon]
  exact A_next8 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 9 of the score scratch is the next tile's. -/
theorem nextA_9 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 9 = sB 0 x6 x2 9 := by
  unfold sout0_A_16
  rw [View.read_writes_junk_eq_canon]
  exact A_next9 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile, block 10 of the score scratch is the next tile's. -/
theorem nextA_10 : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) 10 = sB 0 x6 x2 10 := by
  unfold sout0_A_16
  rw [View.read_writes_junk_eq_canon]
  exact A_next10 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile the whole score scratch is the next tile's. -/
theorem nextA (n : Fin 11) : rows (sout0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9) n = sB 0 x6 x2 n := by
  match n with
  | ⟨0, _⟩ => exact nextA_0 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨1, _⟩ => exact nextA_1 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨2, _⟩ => exact nextA_2 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨3, _⟩ => exact nextA_3 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨4, _⟩ => exact nextA_4 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨5, _⟩ => exact nextA_5 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨6, _⟩ => exact nextA_6 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨7, _⟩ => exact nextA_7 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨8, _⟩ => exact nextA_8 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨9, _⟩ => exact nextA_9 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1
  | ⟨10, _⟩ => exact nextA_10 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

/-- After a context tile the maxima in scratch are the next tile's. -/
theorem nextMA : sout0_A_18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 = chainM (sB 0 x6 x2) := by
  unfold sout0_A_18
  rw [View.read_writes_junk_eq_canon]
  exact A_nextM c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 i hc0 hc1

end

section
variable (c : Dev nD)
  (arg3 : Memref sig .tc .vmem S1x128x256 .bf16) (harg3 : arg3.IsWhole)
  (arg4 : Memref sig .tc .vmem S1x128x256 .bf16) (harg4 : arg4.IsWhole)
  (arg5 : Memref sig .tc .vmem S1x8448x128 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg8 : Memref sig .tc .vmem S1x128x8448 .bf16) (harg8 : arg8.IsWhole)
  (arg9 : Memref sig .tc .vmem S1x128x256 .bf16) (harg9 : arg9.IsWhole)
  (arg10 : Memref sig .tc .vmem S2x128x1 .f32) (harg10 : arg10.IsWhole)
  (arg11 : Memref sig .tc .vmem S4x64 .f32) (harg11 : arg11.IsWhole)
  (arg12 : Memref sig .tc .vmem S8x128 .f32) (harg12 : arg12.IsWhole)
  (arg13 : Memref sig .tc .vmem S1x256x256 .bf16) (harg13 : arg13.IsWhole)
  (arg14 : Memref sig .tc .vmem S128x256 .bf16) (harg14 : arg14.IsWhole)
  (arg15 : Memref sig .tc .vmem S128x256 .bf16) (harg15 : arg15.IsWhole)
  (arg16 : Memref sig .tc .vmem S128x256 .bf16) (harg16 : arg16.IsWhole)
  (arg17 : Memref sig .tc .vmem S128x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S1x256 .f32) (harg23 : arg23.IsWhole)
  (arg24 : Memref sig .tc .vmem S1x256 .f32) (harg24 : arg24.IsWhole)
  (arg25 : Memref sig .tc .vmem S1x256 .f32) (harg25 : arg25.IsWhole)
  (arg26 : Memref sig .tc .vmem S128x256 .f32) (harg26 : arg26.IsWhole)
  (arg27 : Memref sig .tc .vmem S128x256 .f32) (harg27 : arg27.IsWhole)
  (arg28 : Memref sig .tc .vmem S128x256 .f32) (harg28 : arg28.IsWhole)
  (arg29 : Memref sig .tc .vmem S128x256 .f32) (harg29 : arg29.IsWhole)
  (arg30 : Memref sig .tc .vmem S8448x256 .f32) (harg30 : arg30.IsWhole)
  (arg31 : Memref sig .tc .vmem S8448x256 .f32) (harg31 : arg31.IsWhole)
  (arg32 : Memref sig .tc .vmem S8x256 .f32) (harg32 : arg32.IsWhole)
  (arg33 : Memref sig .tc .vmem S8x256 .f32) (harg33 : arg33.IsWhole)
  (arg34 : Memref sig .tc .vmem S2x128x256 .bf16) (harg34 : arg34.IsWhole)
  (x0 : Vec Ideal S1x128x256 .bf16) (x1 : Vec Ideal S1x128x256 .bf16) (x2 : Vec Ideal S1x8448x128 .bf16) (x3 : Vec Ideal S1x8448x128 .bf16) (x4 : Vec Ideal S1x128x8448 .bf16) (x5 : Vec Ideal S1x128x8448 .bf16) (x6 : Vec Ideal S1x128x256 .bf16) (x7 : Vec Ideal S2x128x1 .f32) (x8 : Vec Ideal S4x64 .f32) (x9 : Vec Ideal S8x128 .f32)
  (xs16 : Vec Ideal S8448x256 .f32) (xs18 : Vec Ideal S8x256 .f32)
  (i : grid0.Coords) (hc0 : ¬cond0_0 i) (hc1 : cond0_1 i)

/-- The result block after a latent tile, from the windows' contents. -/
theorem pointB : out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18 = tileB x0 x1 x2 x3 x4 x5 x7 x8 x9 xs16 xs18 := by
  unfold out0_B_10
  rw [View.read_writes_junk_eq_canon, B_out, B_v1188, B_v1189, B_v1194, B_v1195, B_v1200, B_v1201, B_v1206, B_v1207]
  rfl

/-- After a latent tile, block 0 of the score scratch is the next tile's. -/
theorem nextB_0 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 0 = sB 0 x6 x2 0 := by
  unfold sout0_B_16
  rw [View.read_writes_junk_eq_canon]
  exact B_next0 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 1 of the score scratch is the next tile's. -/
theorem nextB_1 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 1 = sB 0 x6 x2 1 := by
  unfold sout0_B_16
  rw [View.read_writes_junk_eq_canon]
  exact B_next1 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 2 of the score scratch is the next tile's. -/
theorem nextB_2 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 2 = sB 0 x6 x2 2 := by
  unfold sout0_B_16
  rw [View.read_writes_junk_eq_canon]
  exact B_next2 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 3 of the score scratch is the next tile's. -/
theorem nextB_3 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 3 = sB 0 x6 x2 3 := by
  unfold sout0_B_16
  rw [View.read_writes_junk_eq_canon]
  exact B_next3 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 4 of the score scratch is the next tile's. -/
theorem nextB_4 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 4 = sB 0 x6 x2 4 := by
  unfold sout0_B_16
  rw [View.read_writes_junk_eq_canon]
  exact B_next4 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 5 of the score scratch is the next tile's. -/
theorem nextB_5 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 5 = sB 0 x6 x2 5 := by
  unfold sout0_B_16
  rw [View.read_writes_junk_eq_canon]
  exact B_next5 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 6 of the score scratch is the next tile's. -/
theorem nextB_6 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 6 = sB 0 x6 x2 6 := by
  unfold sout0_B_16
  rw [View.read_writes_junk_eq_canon]
  exact B_next6 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 7 of the score scratch is the next tile's. -/
theorem nextB_7 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 7 = sB 0 x6 x2 7 := by
  unfold sout0_B_16
  rw [View.read_writes_junk_eq_canon]
  exact B_next7 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 8 of the score scratch is the next tile's. -/
theorem nextB_8 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 8 = sB 0 x6 x2 8 := by
  unfold sout0_B_16
  rw [View.read_writes_junk_eq_canon]
  exact B_next8 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 9 of the score scratch is the next tile's. -/
theorem nextB_9 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 9 = sB 0 x6 x2 9 := by
  unfold sout0_B_16
  rw [View.read_writes_junk_eq_canon]
  exact B_next9 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile, block 10 of the score scratch is the next tile's. -/
theorem nextB_10 : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) 10 = sB 0 x6 x2 10 := by
  unfold sout0_B_16
  rw [View.read_writes_junk_eq_canon]
  exact B_next10 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile the whole score scratch is the next tile's. -/
theorem nextB (n : Fin 11) : rows (sout0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18) n = sB 0 x6 x2 n := by
  match n with
  | ⟨0, _⟩ => exact nextB_0 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨1, _⟩ => exact nextB_1 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨2, _⟩ => exact nextB_2 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨3, _⟩ => exact nextB_3 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨4, _⟩ => exact nextB_4 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨5, _⟩ => exact nextB_5 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨6, _⟩ => exact nextB_6 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨7, _⟩ => exact nextB_7 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨8, _⟩ => exact nextB_8 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨9, _⟩ => exact nextB_9 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1
  | ⟨10, _⟩ => exact nextB_10 c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

/-- After a latent tile the maxima in scratch are the next tile's. -/
theorem nextMB : sout0_B_18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1 x0 x1 x2 x3 x4 x5 x6 x7 x8 x9 xs16 xs18 = chainM (sB 0 x6 x2) := by
  unfold sout0_B_18
  rw [View.read_writes_junk_eq_canon]
  exact B_nextM c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 xs16 xs18 i hc0 hc1

end

end Cert.Attn.Ker

end
-- ==== Proof.Values.lean ====
/- A tile of the result, entry by entry, in terms of real scores and values. -/
module

public import proofs.«01_k».proof.Proof.Point

@[expose] public section

set_option maxRecDepth 16384

noncomputable section

namespace Cert.Attn.Ker

open Idealize.ShloMosaic Idealize.SL.Sem Cert.KernelIdeal Cert.KernelIdeal.Gen Cert.Attn

/-- Feature `j` of the value at key `r`. -/
def vB (v : FVec Ideal S1x128x8448 .bf16) (j : Fin 128) (r : Fin 8448) : EReal := v (ix3 0 j r)
/-- The weight of the second component, from the windows. -/
def lamB (x8 : FVec Ideal S4x64 .f32) (x9 : FVec Ideal S8x128 .f32) : EReal :=
  Ideal.exp (∑ d : Fin 64, x8 (ix2 0 d) * x8 (ix2 1 d)) - Ideal.exp (∑ d : Fin 64, x8 (ix2 2 d) * x8 (ix2 3 d)) + x9 (ix2 0 0)

/-- The first head's half of a result block, entry by entry. -/
theorem outB_head_lo (x7 : FVec Ideal S2x128x1 .f32) (x8 : FVec Ideal S4x64 .f32) (x9 : FVec Ideal S8x128 .f32) (u w h : FVec Ideal S128x256 .f32)
    (p : Fin 256) (j : Fin 128) :
    outB (headB (one1 x9) (k0_pay367 x8 (one1 x9)) u w (gblk x7 0)) h (ix3 0 p ⟨j.val, by omega⟩)
      = normed (fun j => u (ix2 j p) - lamB x8 x9 * w (ix2 j p)) (x7 (ix3 0 j 0)) (x9 (ix2 0 0)) j := by
  rw [outB_lo, headB_apply, lam_apply]; rfl

/-- The second head's half of a result block, entry by entry. -/
theorem outB_head_hi (x7 : FVec Ideal S2x128x1 .f32) (x8 : FVec Ideal S4x64 .f32) (x9 : FVec Ideal S8x128 .f32) (u w h : FVec Ideal S128x256 .f32)
    (p : Fin 256) (j : Fin 128) :
    outB h (headB (one1 x9) (k0_pay367 x8 (one1 x9)) u w (gblk x7 1)) (ix3 0 p ⟨128 + j.val, by omega⟩)
      = normed (fun j => u (ix2 j p) - lamB x8 x9 * w (ix2 j p)) (x7 (ix3 1 j 0)) (x9 (ix2 0 0)) j := by
  rw [outB_hi, headB_apply, lam_apply]; rfl

/-- A component's attention over every key. -/
theorem unit_sB (x : FVec Ideal S1x128x256 .bf16) (k : FVec Ideal S1x8448x128 .bf16) (v : FVec Ideal S1x128x8448 .bf16)
    (hx : Finite x) (hk : Finite k) (e : Fin 2) (j : Fin 128) (p : Fin 256) :
    unit (chainM (sB e x k)) (sB e x k) (vblk v) (ix2 j p) = att (scB x k e p) (vB v j) :=
  unit_apply _ _ _ (fun a p => chainM_ne_top _ (fun n r p => by rw [sB, blkS_qz x k hx hk]; exact EReal.coe_ne_top _) a p) _ _ j p
    (fun n r => blkS_qz x k hx hk e n r p) (fun n r => rfl)

/-- The same, from scores that an earlier tile left. -/
theorem unit_rows (s : FVec Ideal S8448x256 .f32) (cm : FVec Ideal S8x256 .f32) (v : FVec Ideal S1x128x8448 .bf16)
    (sf : Fin 256 → Fin 8448 → ℝ) (hs : ∀ n r p, rows s n (ix2 r p) = (sf p ⟨768 * n.val + r.val, by omega⟩ : EReal)) (hc : ∀ a p, cm (ix2 a p) ≠ ⊤)
    (j : Fin 128) (p : Fin 256) :
    unit cm (rows s) (vblk v) (ix2 j p) = att (sf p) (vB v j) :=
  unit_apply _ _ _ hc _ _ j p (fun n r => hs n r p) (fun n r => rfl)

/-- A component's attention over the context. -/
theorem cU_apply (x : FVec Ideal S1x128x256 .bf16) (k : FVec Ideal S1x8448x128 .bf16) (v : FVec Ideal S1x128x8448 .bf16)
    (hx : Finite x) (hk : Finite k) (e : Fin 2) (j : Fin 128) (p : Fin 256) :
    cU e x k v (ix2 j p) = att (fun r : Fin 256 => scB x k e p (ctxKey r)) (fun r => vB v j (ctxKey r)) :=
  ctxUnit_apply _ _ _ (fun a p => ctxM_ne_top _ (fun r p => by rw [ctxS_qz x k hx hk]; exact EReal.coe_ne_top _) a p) _ _ j p
    (fun r => ctxS_qz x k hx hk e r p) (fun r => rfl)

section
variable (x0 x1 : FVec Ideal S1x128x256 .bf16) (x2 x3 : FVec Ideal S1x8448x128 .bf16) (x4 x5 : FVec Ideal S1x128x8448 .bf16)
  (x7 : FVec Ideal S2x128x1 .f32) (x8 : FVec Ideal S4x64 .f32) (x9 : FVec Ideal S8x128 .f32)
  (h0 : Finite x0) (h1 : Finite x1) (h2 : Finite x2) (h3 : Finite x3)
include h0 h1 h2 h3

/-- The context tile's block is the specified value on its first head. -/
theorem tileA_lo (p : Fin 256) (j : Fin 128) : tileA x0 x1 x2 x3 x4 x5 x7 x8 x9 (ix3 0 p ⟨j.val, by omega⟩)
    = normed (fun j => att (fun r : Fin 256 => scB x0 x2 0 p (ctxKey r)) (fun r => vB x4 j (ctxKey r))
        - lamB x8 x9 * att (fun r : Fin 256 => scB x0 x2 1 p (ctxKey r)) (fun r => vB x4 j (ctxKey r))) (x7 (ix3 0 j 0)) (x9 (ix2 0 0)) j := by
  rw [tileA, outB_head_lo]; simp only [cU_apply x0 x2 x4 h0 h2]
/-- The context tile's block is the specified value on its second head. -/
theorem tileA_hi (p : Fin 256) (j : Fin 128) : tileA x0 x1 x2 x3 x4 x5 x7 x8 x9 (ix3 0 p ⟨128 + j.val, by omega⟩)
    = normed (fun j => att (fun r : Fin 256 => scB x1 x3 0 p (ctxKey r)) (fun r => vB x5 j (ctxKey r))
        - lamB x8 x9 * att (fun r : Fin 256 => scB x1 x3 1 p (ctxKey r)) (fun r => vB x5 j (ctxKey r))) (x7 (ix3 1 j 0)) (x9 (ix2 0 0)) j := by
  rw [tileA, outB_head_hi]; simp only [cU_apply x1 x3 x5 h1 h3]

variable (xs16 : FVec Ideal S8448x256 .f32) (xs18 : FVec Ideal S8x256 .f32) (sf : Fin 256 → Fin 8448 → ℝ)
  (hs : ∀ n r p, rows xs16 n (ix2 r p) = (sf p ⟨768 * n.val + r.val, by omega⟩ : EReal)) (hc : ∀ a p, xs18 (ix2 a p) ≠ ⊤)
include hs hc

/-- A latent tile's block is the specified value on its first head. -/
theorem tileB_lo (p : Fin 256) (j : Fin 128) : tileB x0 x1 x2 x3 x4 x5 x7 x8 x9 xs16 xs18 (ix3 0 p ⟨j.val, by omega⟩)
    = normed (fun j => att (sf p) (vB x4 j) - lamB x8 x9 * att (scB x0 x2 1 p) (vB x4 j)) (x7 (ix3 0 j 0)) (x9 (ix2 0 0)) j := by
  rw [tileB, outB_head_lo]; simp only [unit_sB x0 x2 x4 h0 h2, unit_rows xs16 xs18 x4 sf hs hc]
/-- A latent tile's block is the specified value on its second head. -/
theorem tileB_hi (p : Fin 256) (j : Fin 128) : tileB x0 x1 x2 x3 x4 x5 x7 x8 x9 xs16 xs18 (ix3 0 p ⟨128 + j.val, by omega⟩)
    = normed (fun j => att (scB x1 x3 0 p) (vB x5 j) - lamB x8 x9 * att (scB x1 x3 1 p) (vB x5 j)) (x7 (ix3 1 j 0)) (x9 (ix2 0 0)) j := by
  rw [tileB, outB_head_hi]; simp only [unit_sB x1 x3 x5 h1 h3]
end

/-- The scores left for the next tile, and their maxima. -/
theorem next_real (x : FVec Ideal S1x128x256 .bf16) (k : FVec Ideal S1x8448x128 .bf16) (hx : Finite x) (hk : Finite k) (n : Fin 11) (r : Fin 768) (p : Fin 256) :
    sB 0 x k n (ix2 r p) = (scB x k 0 p ⟨768 * n.val + r.val, by omega⟩ : EReal) := blkS_qz x k hx hk 0 n r p
/-- The maxima left for the next tile are not `+∞`. -/
theorem nextM_ne_top (x : FVec Ideal S1x128x256 .bf16) (k : FVec Ideal S1x8448x128 .bf16) (hx : Finite x) (hk : Finite k) (a : Fin 8) (p : Fin 256) :
    chainM (sB 0 x k) (ix2 a p) ≠ ⊤ :=
  chainM_ne_top _ (fun n r p => by rw [next_real x k hx hk]; exact EReal.coe_ne_top _) a p

end Cert.Attn.Ker

end
-- ==== Proof.Grid.lean ====
/- The grid: which blocks of the arguments a point reads. -/
module

public import proofs.«01_k».proof.Proof.Spec
public import proofs.«01_k».proof.Proof.Gen.KernelIdeal.Value
public import Idealize.ShloMosaic.Lib.Pipeline.ValueKit.Tiles
public import Idealize.ShloMosaic.Lib.ValueIdx

@[expose] public section

set_option maxRecDepth 16384

noncomputable section

namespace Cert.Attn.Ker

open Idealize.ShloMosaic Idealize.ShloMosaic.TcCoe Idealize.ShloMosaic.ValueIdx Idealize.SL.Sem Cert.KernelIdeal Cert.KernelIdeal.Gen Cert.Attn

/-- Where window 0 stands at each grid point. -/
theorem idx0 : ∀ t : Fin cfg0.N, win0_0.index t (0 : Fin 3) = t.val / 66 ∧ win0_0.index t (1 : Fin 3) = 2 + 2 * (t.val / 33 % 2) ∧ win0_0.index t (2 : Fin 3) = t.val % 33 :=
  (by decide +kernel : ∀ t : Fin grid0.N, _)
/-- Where window 1 stands at each grid point. -/
theorem idx1 : ∀ t : Fin cfg0.N, win0_1.index t (0 : Fin 3) = t.val / 66 ∧ win0_1.index t (1 : Fin 3) = 3 + 2 * (t.val / 33 % 2) ∧ win0_1.index t (2 : Fin 3) = t.val % 33 :=
  (by decide +kernel : ∀ t : Fin grid0.N, _)
/-- Where window 2 stands at each grid point. -/
theorem idx2 : ∀ t : Fin cfg0.N, win0_2.index t (0 : Fin 3) = t.val / 66 ∧ win0_2.index t (1 : Fin 3) = 0 ∧ win0_2.index t (2 : Fin 3) = 1 + 2 * (t.val / 33 % 2) :=
  (by decide +kernel : ∀ t : Fin grid0.N, _)
/-- Where window 3 stands at each grid point. -/
theorem idx3 : ∀ t : Fin cfg0.N, win0_3.index t (0 : Fin 3) = t.val / 66 ∧ win0_3.index t (1 : Fin 3) = 0 ∧ win0_3.index t (2 : Fin 3) = 2 + 2 * (t.val / 33 % 2) :=
  (by decide +kernel : ∀ t : Fin grid0.N, _)
/-- Where window 4 stands at each grid point. -/
theorem idx4 : ∀ t : Fin cfg0.N, win0_4.index t (0 : Fin 3) = t.val / 66 ∧ win0_4.index t (1 : Fin 3) = 2 * (t.val / 33 % 2) ∧ win0_4.index t (2 : Fin 3) = 0 :=
  (by decide +kernel : ∀ t : Fin grid0.N, _)
/-- Where window 5 stands at each grid point. -/
theorem idx5 : ∀ t : Fin cfg0.N, win0_5.index t (0 : Fin 3) = t.val / 66 ∧ win0_5.index t (1 : Fin 3) = 1 + 2 * (t.val / 33 % 2) ∧ win0_5.index t (2 : Fin 3) = 0 :=
  (by decide +kernel : ∀ t : Fin grid0.N, _)
/-- Where window 6 stands at each grid point. -/
theorem idx6 : ∀ t : Fin cfg0.N, win0_6.index t (0 : Fin 3) = t.val / 66 ∧ win0_6.index t (1 : Fin 3) = 2 + 2 * (t.val / 33 % 2) ∧ win0_6.index t (2 : Fin 3) = min (t.val % 33 + 1) 32 :=
  (by decide +kernel : ∀ t : Fin grid0.N, _)
/-- Where window 7 stands at each grid point. -/
theorem idx7 : ∀ t : Fin cfg0.N, win0_7.index t (0 : Fin 3) = t.val / 33 % 2 ∧ win0_7.index t (1 : Fin 3) = 0 ∧ win0_7.index t (2 : Fin 3) = 0 :=
  (by decide +kernel : ∀ t : Fin grid0.N, _)
/-- Where window 8 stands at each grid point. -/
theorem idx8 : ∀ t : Fin cfg0.N, win0_8.index t (0 : Fin 2) = 0 ∧ win0_8.index t (1 : Fin 2) = 0 :=
  (by decide +kernel : ∀ t : Fin grid0.N, _)
/-- Where window 9 stands at each grid point. -/
theorem idx9 : ∀ t : Fin cfg0.N, win0_9.index t (0 : Fin 2) = 0 ∧ win0_9.index t (1 : Fin 2) = 0 :=
  (by decide +kernel : ∀ t : Fin grid0.N, _)
/-- Where window 10 stands at each grid point. -/
theorem idx10 : ∀ t : Fin cfg0.N, win0_10.index t (0 : Fin 3) = t.val / 66 ∧ win0_10.index t (1 : Fin 3) = t.val % 33 ∧ win0_10.index t (2 : Fin 3) = t.val / 33 % 2 :=
  (by decide +kernel : ∀ t : Fin grid0.N, _)

variable (m : (ℓ : Loc nD τ sig) → Buf (Elt Ideal) ℓ)

/-- Window 0's block at point `t`, entry by entry. -/
theorem iblk0_apply (c : Dev nD) (t : Fin cfg0.N) (y : S1x128x256.Idx) (z : S4x768x8448.Idx) (h0 : (z 0).val = (t.val / 66) * 1 + (y 0).val) (h1 : (z 1).val = (2 + 2 * (t.val / 33 % 2)) * 128 + (y 1).val) (h2 : (z 2).val = (t.val % 33) * 256 + (y 2).val) : iblk m c 0 t y = m ((c : Thread nD τ).loc main_arg0) z := by
  obtain ⟨e0, e1, e2⟩ := idx0 t
  show V m c main_arg0 (((cfg0.win 0).blk t).view.emb y) = _
  have hz : ((cfg0.win 0).blk t).view.emb y = z := by
    funext a; apply Fin.ext
    match a with
    | ⟨0, _⟩ => show win0_0.index t (0 : Fin 3) * 1 + 1 * (y 0).val = (z 0).val; rw [h0, e0, one_mul]
    | ⟨1, _⟩ => show win0_0.index t (1 : Fin 3) * 128 + 1 * (y 1).val = (z 1).val; rw [h1, e1, one_mul]
    | ⟨2, _⟩ => show win0_0.index t (2 : Fin 3) * 256 + 1 * (y 2).val = (z 2).val; rw [h2, e2, one_mul]
  rw [hz]; exact congrFun (V_main_arg0 m c) z

/-- Window 1's block at point `t`, entry by entry. -/
theorem iblk1_apply (c : Dev nD) (t : Fin cfg0.N) (y : S1x128x256.Idx) (z : S4x768x8448.Idx) (h0 : (z 0).val = (t.val / 66) * 1 + (y 0).val) (h1 : (z 1).val = (3 + 2 * (t.val / 33 % 2)) * 128 + (y 1).val) (h2 : (z 2).val = (t.val % 33) * 256 + (y 2).val) : iblk m c 1 t y = m ((c : Thread nD τ).loc main_arg0) z := by
  obtain ⟨e0, e1, e2⟩ := idx1 t
  show V m c main_arg0 (((cfg0.win 1).blk t).view.emb y) = _
  have hz : ((cfg0.win 1).blk t).view.emb y = z := by
    funext a; apply Fin.ext
    match a with
    | ⟨0, _⟩ => show win0_1.index t (0 : Fin 3) * 1 + 1 * (y 0).val = (z 0).val; rw [h0, e0, one_mul]
    | ⟨1, _⟩ => show win0_1.index t (1 : Fin 3) * 128 + 1 * (y 1).val = (z 1).val; rw [h1, e1, one_mul]
    | ⟨2, _⟩ => show win0_1.index t (2 : Fin 3) * 256 + 1 * (y 2).val = (z 2).val; rw [h2, e2, one_mul]
  rw [hz]; exact congrFun (V_main_arg0 m c) z

/-- Window 2's block at point `t`, entry by entry. -/
theorem iblk2_apply (c : Dev nD) (t : Fin cfg0.N) (y : S1x8448x128.Idx) (z : S4x8448x640.Idx) (h0 : (z 0).val = (t.val / 66) * 1 + (y 0).val) (h1 : (z 1).val = (0) * 8448 + (y 1).val) (h2 : (z 2).val = (1 + 2 * (t.val / 33 % 2)) * 128 + (y 2).val) : iblk m c 2 t y = m ((c : Thread nD τ).loc main_arg1) z := by
  obtain ⟨e0, e1, e2⟩ := idx2 t
  show V m c main_arg1 (((cfg0.win 2).blk t).view.emb y) = _
  have hz : ((cfg0.win 2).blk t).view.emb y = z := by
    funext a; apply Fin.ext
    match a with
    | ⟨0, _⟩ => show win0_2.index t (0 : Fin 3) * 1 + 1 * (y 0).val = (z 0).val; rw [h0, e0, one_mul]
    | ⟨1, _⟩ => show win0_2.index t (1 : Fin 3) * 8448 + 1 * (y 1).val = (z 1).val; rw [h1, e1, one_mul]
    | ⟨2, _⟩ => show win0_2.index t (2 : Fin 3) * 128 + 1 * (y 2).val = (z 2).val; rw [h2, e2, one_mul]
  rw [hz]; exact congrFun (V_main_arg1 m c) z

/-- Window 3's block at point `t`, entry by entry. -/
theorem iblk3_apply (c : Dev nD) (t : Fin cfg0.N) (y : S1x8448x128.Idx) (z : S4x8448x640.Idx) (h0 : (z 0).val = (t.val / 66) * 1 + (y 0).val) (h1 : (z 1).val = (0) * 8448 + (y 1).val) (h2 : (z 2).val = (2 + 2 * (t.val / 33 % 2)) * 128 + (y 2).val) : iblk m c 3 t y = m ((c : Thread nD τ).loc main_arg1) z := by
  obtain ⟨e0, e1, e2⟩ := idx3 t
  show V m c main_arg1 (((cfg0.win 3).blk t).view.emb y) = _
  have hz : ((cfg0.win 3).blk t).view.emb y = z := by
    funext a; apply Fin.ext
    match a with
    | ⟨0, _⟩ => show win0_3.index t (0 : Fin 3) * 1 + 1 * (y 0).val = (z 0).val; rw [h0, e0, one_mul]
    | ⟨1, _⟩ => show win0_3.index t (1 : Fin 3) * 8448 + 1 * (y 1).val = (z 1).val; rw [h1, e1, one_mul]
    | ⟨2, _⟩ => show win0_3.index t (2 : Fin 3) * 128 + 1 * (y 2).val = (z 2).val; rw [h2, e2, one_mul]
  rw [hz]; exact congrFun (V_main_arg1 m c) z

/-- Window 4's block at point `t`, entry by entry. -/
theorem iblk4_apply (c : Dev nD) (t : Fin cfg0.N) (y : S1x128x8448.Idx) (z : S4x512x8448.Idx) (h0 : (z 0).val = (t.val / 66) * 1 + (y 0).val) (h1 : (z 1).val = (2 * (t.val / 33 % 2)) * 128 + (y 1).val) (h2 : (z 2).val = (0) * 8448 + (y 2).val) : iblk m c 4 t y = m ((c : Thread nD τ).loc main_arg2) z := by
  obtain ⟨e0, e1, e2⟩ := idx4 t
  show V m c main_arg2 (((cfg0.win 4).blk t).view.emb y) = _
  have hz : ((cfg0.win 4).blk t).view.emb y = z := by
    funext a; apply Fin.ext
    match a with
    | ⟨0, _⟩ => show win0_4.index t (0 : Fin 3) * 1 + 1 * (y 0).val = (z 0).val; rw [h0, e0, one_mul]
    | ⟨1, _⟩ => show win0_4.index t (1 : Fin 3) * 128 + 1 * (y 1).val = (z 1).val; rw [h1, e1, one_mul]
    | ⟨2, _⟩ => show win0_4.index t (2 : Fin 3) * 8448 + 1 * (y 2).val = (z 2).val; rw [h2, e2, one_mul]
  rw [hz]; exact congrFun (V_main_arg2 m c) z

/-- Window 5's block at point `t`, entry by entry. -/
theorem iblk5_apply (c : Dev nD) (t : Fin cfg0.N) (y : S1x128x8448.Idx) (z : S4x512x8448.Idx) (h0 : (z 0).val = (t.val / 66) * 1 + (y 0).val) (h1 : (z 1).val = (1 + 2 * (t.val / 33 % 2)) * 128 + (y 1).val) (h2 : (z 2).val = (0) * 8448 + (y 2).val) : iblk m c 5 t y = m ((c : Thread nD τ).loc main_arg2) z := by
  obtain ⟨e0, e1, e2⟩ := idx5 t
  show V m c main_arg2 (((cfg0.win 5).blk t).view.emb y) = _
  have hz : ((cfg0.win 5).blk t).view.emb y = z := by
    funext a; apply Fin.ext
    match a with
    | ⟨0, _⟩ => show win0_5.index t (0 : Fin 3) * 1 + 1 * (y 0).val = (z 0).val; rw [h0, e0, one_mul]
    | ⟨1, _⟩ => show win0_5.index t (1 : Fin 3) * 128 + 1 * (y 1).val = (z 1).val; rw [h1, e1, one_mul]
    | ⟨2, _⟩ => show win0_5.index t (2 : Fin 3) * 8448 + 1 * (y 2).val = (z 2).val; rw [h2, e2, one_mul]
  rw [hz]; exact congrFun (V_main_arg2 m c) z

/-- Window 6's block at point `t`, entry by entry. -/
theorem iblk6_apply (c : Dev nD) (t : Fin cfg0.N) (y : S1x128x256.Idx) (z : S4x768x8448.Idx) (h0 : (z 0).val = (t.val / 66) * 1 + (y 0).val) (h1 : (z 1).val = (2 + 2 * (t.val / 33 % 2)) * 128 + (y 1).val) (h2 : (z 2).val = (min (t.val % 33 + 1) 32) * 256 + (y 2).val) : iblk m c 6 t y = m ((c : Thread nD τ).loc main_arg0) z := by
  obtain ⟨e0, e1, e2⟩ := idx6 t
  show V m c main_arg0 (((cfg0.win 6).blk t).view.emb y) = _
  have hz : ((cfg0.win 6).blk t).view.emb y = z := by
    funext a; apply Fin.ext
    match a with
    | ⟨0, _⟩ => show win0_6.index t (0 : Fin 3) * 1 + 1 * (y 0).val = (z 0).val; rw [h0, e0, one_mul]
    | ⟨1, _⟩ => show win0_6.index t (1 : Fin 3) * 128 + 1 * (y 1).val = (z 1).val; rw [h1, e1, one_mul]
    | ⟨2, _⟩ => show win0_6.index t (2 : Fin 3) * 256 + 1 * (y 2).val = (z 2).val; rw [h2, e2, one_mul]
  rw [hz]; exact congrFun (V_main_arg0 m c) z

/-- Window 7's block at point `t`, entry by entry. -/
theorem iblk7_apply (c : Dev nD) (t : Fin cfg0.N) (y : S2x128x1.Idx) (z : S4x128x1.Idx) (h0 : (z 0).val = (t.val / 33 % 2) * 2 + (y 0).val) (h1 : (z 1).val = (0) * 128 + (y 1).val) (h2 : (z 2).val = (0) * 1 + (y 2).val) : iblk m c 7 t y = V m c main_v1 z := by
  obtain ⟨e0, e1, e2⟩ := idx7 t
  show V m c main_v1 (((cfg0.win 7).blk t).view.emb y) = _
  have hz : ((cfg0.win 7).blk t).view.emb y = z := by
    funext a; apply Fin.ext
    match a with
    | ⟨0, _⟩ => show win0_7.index t (0 : Fin 3) * 2 + 1 * (y 0).val = (z 0).val; rw [h0, e0, one_mul]
    | ⟨1, _⟩ => show win0_7.index t (1 : Fin 3) * 128 + 1 * (y 1).val = (z 1).val; rw [h1, e1, one_mul]
    | ⟨2, _⟩ => show win0_7.index t (2 : Fin 3) * 1 + 1 * (y 2).val = (z 2).val; rw [h2, e2, one_mul]
  rw [hz]

/-- Window 8's block at point `t`, entry by entry. -/
theorem iblk8_apply (c : Dev nD) (t : Fin cfg0.N) (y : S4x64.Idx) (z : S4x64.Idx) (h0 : (z 0).val = (0) * 4 + (y 0).val) (h1 : (z 1).val = (0) * 64 + (y 1).val) : iblk m c 8 t y = V m c main_v6 z := by
  obtain ⟨e0, e1⟩ := idx8 t
  show V m c main_v6 (((cfg0.win 8).blk t).view.emb y) = _
  have hz : ((cfg0.win 8).blk t).view.emb y = z := by
    funext a; apply Fin.ext
    match a with
    | ⟨0, _⟩ => show win0_8.index t (0 : Fin 2) * 4 + 1 * (y 0).val = (z 0).val; rw [h0, e0, one_mul]
    | ⟨1, _⟩ => show win0_8.index t (1 : Fin 2) * 64 + 1 * (y 1).val = (z 1).val; rw [h1, e1, one_mul]
  rw [hz]

/-- Window 9's block at point `t`, entry by entry. -/
theorem iblk9_apply (c : Dev nD) (t : Fin cfg0.N) (y : S8x128.Idx) (z : S8x128.Idx) (h0 : (z 0).val = (0) * 8 + (y 0).val) (h1 : (z 1).val = (0) * 128 + (y 1).val) : iblk m c 9 t y = V m c main_v7 z := by
  obtain ⟨e0, e1⟩ := idx9 t
  show V m c main_v7 (((cfg0.win 9).blk t).view.emb y) = _
  have hz : ((cfg0.win 9).blk t).view.emb y = z := by
    funext a; apply Fin.ext
    match a with
    | ⟨0, _⟩ => show win0_9.index t (0 : Fin 2) * 8 + 1 * (y 0).val = (z 0).val; rw [h0, e0, one_mul]
    | ⟨1, _⟩ => show win0_9.index t (1 : Fin 2) * 128 + 1 * (y 1).val = (z 1).val; rw [h1, e1, one_mul]
  rw [hz]

end Cert.Attn.Ker

end
-- ==== Proof.HostPrep.lean ====
/- The arrays the host prepares before the call: the norm's weights by head, the four weight vectors stacked, the one number spread. -/
module

public import proofs.«01_k».proof.Proof.Grid
public import Idealize.ShloMosaic.Lib.Pipeline.ValueKit

@[expose] public section

set_option maxRecDepth 16384

noncomputable section

namespace Cert.Attn.Ker

open Idealize.ShloMosaic Idealize.ShloMosaic.TcCoe Idealize.SL.Sem Cert.KernelIdeal Cert.KernelIdeal.Gen Cert.Attn

variable (m : (ℓ : Loc nD τ sig) → Buf (Elt Ideal) ℓ)

/-- The norm's weights, head by head. -/
theorem V_g (c : Dev nD) (h : Fin 4) (j : Fin 128) :
    V m c main_v1 (ix3 h j 0) = m ((c : Thread nD τ).loc main_arg3) (ix1 ⟨512 + h.val * 128 + j.val, by omega⟩) := by
  have e : V m c main_v1 = shapeCast S4x128x1 (extractStridedSlice S512 ![512] (m ((c : Thread nD τ).loc main_arg3)) slices_S1024_S512_512) shapeCasts_S512_S4x128x1 := by
    show StableHlo.after hostOps0 _ (Proc.devRef .tc main_v1) = _
    after_results <;> rfl
  rw [e]
  pointwise []
  simp only [Nat.add_assoc]
/-- The four weight vectors, one a row. -/
theorem V_lam (c : Dev nD) (d : Fin 64) :
    V m c main_v6 (ix2 0 d) = m ((c : Thread nD τ).loc main_arg4) (ix1 d) ∧ V m c main_v6 (ix2 1 d) = m ((c : Thread nD τ).loc main_arg5) (ix1 d)
    ∧ V m c main_v6 (ix2 2 d) = m ((c : Thread nD τ).loc main_arg6) (ix1 d) ∧ V m c main_v6 (ix2 3 d) = m ((c : Thread nD τ).loc main_arg7) (ix1 d) := by
  have e : V m c main_v6 = concatenate S4x64 0 [⟨S1x64, broadcastInDim S1x64 ![1] bcast_S64_S1x64_1 (m ((c : Thread nD τ).loc main_arg4))⟩, ⟨S1x64, broadcastInDim S1x64 ![1] bcast_S64_S1x64_1 (m ((c : Thread nD τ).loc main_arg5))⟩, ⟨S1x64, broadcastInDim S1x64 ![1] bcast_S64_S1x64_1 (m ((c : Thread nD τ).loc main_arg6))⟩, ⟨S1x64, broadcastInDim S1x64 ![1] bcast_S64_S1x64_1 (m ((c : Thread nD τ).loc main_arg7))⟩] concatenates_S1x64_S1x64_S1x64_S1x64_S4x64_d0 := by
    show StableHlo.after hostOps0 _ (Proc.devRef .tc main_v6) = _
    after_results <;> rfl
  rw [e]
  refine ⟨?_, ?_, ?_, ?_⟩ <;> pointwise
/-- The one number. -/
theorem V_li (c : Dev nD) : V m c main_v7 (ix2 0 0) = m ((c : Thread nD τ).loc main_arg8) ix0 := by
  have e : V m c main_v7 = broadcastInDim S8x128 ![] bcast_S_S8x128 (m ((c : Thread nD τ).loc main_arg8)) := by
    show StableHlo.after hostOps0 _ (Proc.devRef .tc main_v7) = _
    after_results <;> rfl
  rw [e]
  pointwise []

end Cert.Attn.Ker

end
-- ==== Proof.Tiles.lean ====
/- What the grid's points leave, in order: each its tile, and the next tile's first scores. -/
module

public import proofs.«01_k».proof.Proof.Values
public import proofs.«01_k».proof.Proof.HostPrep

@[expose] public section

set_option maxRecDepth 16384

noncomputable section

namespace Cert.Attn.Ker

open Idealize.ShloMosaic Idealize.ShloMosaic.TcCoe Idealize.SL.Sem Cert.KernelIdeal Cert.KernelIdeal.Gen Cert.Attn

variable (m : (ℓ : Loc nD τ sig) → Buf (Elt Ideal) ℓ)

/-- A context point leaves its tile and the next tile's first scores. -/
theorem at_A (c : Dev nD) (t : Fin cfg0.N) (h0 : t.val % 33 = 0) (h1 : ¬1 ≤ t.val % 33) :
    (outsAt0 m c t.val t.isLt).1 = tileA (iblk m c 0 t) (iblk m c 1 t) (iblk m c 2 t) (iblk m c 3 t) (iblk m c 4 t) (iblk m c 5 t) (iblk m c 7 t) (iblk m c 8 t) (iblk m c 9 t)
    ∧ (∀ n, rows (outsAt0 m c t.val t.isLt).2.1 n = sB 0 (iblk m c 6 t) (iblk m c 2 t) n)
    ∧ (outsAt0 m c t.val t.isLt).2.2 = chainM (sB 0 (iblk m c 6 t) (iblk m c 2 t)) := by
  rw [outsAt0_A m c t h0 h1]
  dsimp only
  refine ⟨?_, fun n => ?_, ?_⟩
  · rw [pointA]
  · rw [nextA]
  · rw [nextMA]

/-- A latent point leaves its tile, from the scores the point before left, and the next tile's first scores. -/
theorem at_B (c : Dev nD) (t : Fin cfg0.N) (h0 : ¬t.val % 33 = 0) (h1 : 1 ≤ t.val % 33) (hp : t.val - 1 < cfg0.N) :
    (outsAt0 m c t.val t.isLt).1 = tileB (iblk m c 0 t) (iblk m c 1 t) (iblk m c 2 t) (iblk m c 3 t) (iblk m c 4 t) (iblk m c 5 t) (iblk m c 7 t) (iblk m c 8 t) (iblk m c 9 t)
        (outsAt0 m c (t.val - 1) hp).2.1 (outsAt0 m c (t.val - 1) hp).2.2
    ∧ (∀ n, rows (outsAt0 m c t.val t.isLt).2.1 n = sB 0 (iblk m c 6 t) (iblk m c 2 t) n)
    ∧ (outsAt0 m c t.val t.isLt).2.2 = chainM (sB 0 (iblk m c 6 t) (iblk m c 2 t)) := by
  rw [outsAt0_B m c t h0 h1]
  dsimp only
  refine ⟨?_, fun n => ?_, ?_⟩
  · rw [pointB]
  · rw [nextB]
  · rw [nextMB]

/-- Every point leaves the next tile's first scores. -/
theorem scores_left (c : Dev nD) (t : Fin cfg0.N) :
    (∀ n, rows (outsAt0 m c t.val t.isLt).2.1 n = sB 0 (iblk m c 6 t) (iblk m c 2 t) n)
    ∧ (outsAt0 m c t.val t.isLt).2.2 = chainM (sB 0 (iblk m c 6 t) (iblk m c 2 t)) := by
  by_cases h0 : t.val % 33 = 0
  · exact (at_A m c t h0 (by omega)).2
  · exact (at_B m c t h0 (by omega) (by have := t.isLt; omega)).2

end Cert.Attn.Ker

end
-- ==== Proof.Entry.lean ====
/- The kernel's result, entry by entry: the differential attention of Spec.lean. -/
module

public import proofs.«01_k».proof.Proof.Tiles

@[expose] public section

set_option maxRecDepth 16384

noncomputable section

namespace Cert.Attn.Ker

open Idealize.ShloMosaic Idealize.ShloMosaic.TcCoe Idealize.SL.Sem Cert.KernelIdeal Cert.KernelIdeal.Gen Cert.Attn

variable (m : (ℓ : Loc nD τ sig) → Buf (Elt Ideal) ℓ)

/-- The queries. -/
abbrev aQ (c : Dev nD) : QArr := m ((c : Thread nD τ).loc main_arg0)
/-- The keys. -/
abbrev aK (c : Dev nD) : KArr := m ((c : Thread nD τ).loc main_arg1)
/-- The values. -/
abbrev aV (c : Dev nD) : VArr := m ((c : Thread nD τ).loc main_arg2)
/-- The specified result, from the arguments as launched. -/
abbrev aO (c : Dev nD) : Fin 4 → Fin 4 → Fin 8448 → Fin 128 → EReal :=
  outv (aQ m c) (aK m c) (aV m c) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The batch element of a point. -/
abbrev bt (t : Fin cfg0.N) : Fin 4 := ⟨t.val / 66, by have h : t.val < 264 := lt_of_lt_of_eq t.isLt N_0; omega⟩
/-- The head of a point's tile: the first or the second. -/
abbrev ht (t : Fin cfg0.N) (e : Fin 2) : Fin 4 := ⟨2 * (t.val / 33 % 2) + e.val, by omega⟩
/-- The position of row `p` of a point's tile. -/
abbrev pt (t : Fin cfg0.N) (p : Fin 256) : Fin 8448 := ⟨t.val % 33 * 256 + p.val, by omega⟩
/-- The position of row `p` of the next tile. -/
abbrev pn (t : Fin cfg0.N) (p : Fin 256) : Fin 8448 := ⟨min (t.val % 33 + 1) 32 * 256 + p.val, by omega⟩

/-- The scores of the windows 0 and 2 are the specified ones. -/
theorem sc0 (c : Dev nD) (t : Fin cfg0.N) (e : Fin 2) (p : Fin 256) :
    scB (iblk m c 0 t) (iblk m c 2 t) e p = sc (aQ m c) (aK m c) (bt t) (ht t 0) e (pt t p) := by
  funext r
  refine Finset.sum_congr rfl fun d _ => ?_
  rw [iblk0_apply m c t _ (ValueIdx.ix3 (bt t) ⟨256 + (ht t 0).val * 128 + e.val * 64 + d.val, by omega⟩ (pt t p))
      (show t.val / 66 = t.val / 66 * 1 + 0 by omega) (show 256 + (2 * (t.val / 33 % 2) + 0) * 128 + e.val * 64 + d.val = (2 + 2 * (t.val / 33 % 2)) * 128 + (e.val * 64 + d.val) by omega) rfl,
    iblk2_apply m c t _ (ValueIdx.ix3 (bt t) r ⟨128 + (ht t 0).val * 128 + e.val * 64 + d.val, by omega⟩)
      (show t.val / 66 = t.val / 66 * 1 + 0 by omega) (show r.val = 0 * 8448 + r.val by omega) (show 128 + (2 * (t.val / 33 % 2) + 0) * 128 + e.val * 64 + d.val = (1 + 2 * (t.val / 33 % 2)) * 128 + (e.val * 64 + d.val) by omega)]

/-- The scores of the windows 1 and 3 are the specified ones. -/
theorem sc1 (c : Dev nD) (t : Fin cfg0.N) (e : Fin 2) (p : Fin 256) :
    scB (iblk m c 1 t) (iblk m c 3 t) e p = sc (aQ m c) (aK m c) (bt t) (ht t 1) e (pt t p) := by
  funext r
  refine Finset.sum_congr rfl fun d _ => ?_
  rw [iblk1_apply m c t _ (ValueIdx.ix3 (bt t) ⟨256 + (ht t 1).val * 128 + e.val * 64 + d.val, by omega⟩ (pt t p))
      (show t.val / 66 = t.val / 66 * 1 + 0 by omega) (show 256 + (2 * (t.val / 33 % 2) + 1) * 128 + e.val * 64 + d.val = (3 + 2 * (t.val / 33 % 2)) * 128 + (e.val * 64 + d.val) by omega) rfl,
    iblk3_apply m c t _ (ValueIdx.ix3 (bt t) r ⟨128 + (ht t 1).val * 128 + e.val * 64 + d.val, by omega⟩)
      (show t.val / 66 = t.val / 66 * 1 + 0 by omega) (show r.val = 0 * 8448 + r.val by omega) (show 128 + (2 * (t.val / 33 % 2) + 1) * 128 + e.val * 64 + d.val = (2 + 2 * (t.val / 33 % 2)) * 128 + (e.val * 64 + d.val) by omega)]

/-- The scores of the windows 6 and 2 are the specified ones. -/
theorem sc6 (c : Dev nD) (t : Fin cfg0.N) (e : Fin 2) (p : Fin 256) :
    scB (iblk m c 6 t) (iblk m c 2 t) e p = sc (aQ m c) (aK m c) (bt t) (ht t 0) e (pn t p) := by
  funext r
  refine Finset.sum_congr rfl fun d _ => ?_
  rw [iblk6_apply m c t _ (ValueIdx.ix3 (bt t) ⟨256 + (ht t 0).val * 128 + e.val * 64 + d.val, by omega⟩ (pn t p))
      (show t.val / 66 = t.val / 66 * 1 + 0 by omega) (show 256 + (2 * (t.val / 33 % 2) + 0) * 128 + e.val * 64 + d.val = (2 + 2 * (t.val / 33 % 2)) * 128 + (e.val * 64 + d.val) by omega) rfl,
    iblk2_apply m c t _ (ValueIdx.ix3 (bt t) r ⟨128 + (ht t 0).val * 128 + e.val * 64 + d.val, by omega⟩)
      (show t.val / 66 = t.val / 66 * 1 + 0 by omega) (show r.val = 0 * 8448 + r.val by omega) (show 128 + (2 * (t.val / 33 % 2) + 0) * 128 + e.val * 64 + d.val = (1 + 2 * (t.val / 33 % 2)) * 128 + (e.val * 64 + d.val) by omega)]

/-- The values of window 4 are the specified ones. -/
theorem vl0 (c : Dev nD) (t : Fin cfg0.N) (j : Fin 128) : vB (iblk m c 4 t) j = vl (aV m c) (bt t) (ht t 0) j := by
  funext r
  unfold vB vl
  rw [iblk4_apply m c t _ (ValueIdx.ix3 (bt t) ⟨(ht t 0).val * 128 + j.val, by omega⟩ r)
      (show t.val / 66 = t.val / 66 * 1 + 0 by omega) (show (2 * (t.val / 33 % 2) + 0) * 128 + j.val = (2 * (t.val / 33 % 2)) * 128 + j.val by omega) (show r.val = 0 * 8448 + r.val by omega)]

/-- The values of window 5 are the specified ones. -/
theorem vl1 (c : Dev nD) (t : Fin cfg0.N) (j : Fin 128) : vB (iblk m c 5 t) j = vl (aV m c) (bt t) (ht t 1) j := by
  funext r
  unfold vB vl
  rw [iblk5_apply m c t _ (ValueIdx.ix3 (bt t) ⟨(ht t 1).val * 128 + j.val, by omega⟩ r)
      (show t.val / 66 = t.val / 66 * 1 + 0 by omega) (show (2 * (t.val / 33 % 2) + 1) * 128 + j.val = (1 + 2 * (t.val / 33 % 2)) * 128 + j.val by omega) (show r.val = 0 * 8448 + r.val by omega)]

/-- The norm's weights at a point. -/
theorem g_at (c : Dev nD) (t : Fin cfg0.N) (e : Fin 2) (j : Fin 128) :
    iblk m c 7 t (ix3 e j 0) = m ((c : Thread nD τ).loc main_arg3) (ValueIdx.ix1 ⟨512 + (ht t e).val * 128 + j.val, by omega⟩) := by
  rw [iblk7_apply m c t (ix3 e j 0) (ix3 (ht t e) j 0) (show 2 * (t.val / 33 % 2) + e.val = t.val / 33 % 2 * 2 + e.val by omega)
    (show j.val = 0 * 128 + j.val by omega) (show (0 : ℕ) = 0 * 1 + 0 by omega), V_g]
  rfl

/-- The starting constant of the mixing factor, as the windows hold it. -/
theorem li_at (c : Dev nD) (t : Fin cfg0.N) : iblk m c 9 t (ix2 0 0) = m ((c : Thread nD τ).loc main_arg8) ValueIdx.ix0 := by
  rw [iblk9_apply m c t (ix2 0 0) (ix2 0 0) (show (0 : ℕ) = 0 * 8 + 0 by omega) (show (0 : ℕ) = 0 * 128 + 0 by omega), V_li]
  rfl

/-- The weight of the second component, at every point. -/
theorem lam_at (c : Dev nD) (t : Fin cfg0.N) : lamB (iblk m c 8 t) (iblk m c 9 t)
    = lam (m ((c : Thread nD τ).loc main_arg4)) (m ((c : Thread nD τ).loc main_arg5)) (m ((c : Thread nD τ).loc main_arg6)) (m ((c : Thread nD τ).loc main_arg7)) (m ((c : Thread nD τ).loc main_arg8)) := by
  have h8 : ∀ (a : Fin 4) (d : Fin 64), iblk m c 8 t (ix2 a d) = V m c main_v6 (ix2 a d) := fun a d =>
    iblk8_apply m c t _ _ (show a.val = 0 * 4 + a.val by omega) (show d.val = 0 * 64 + d.val by omega)
  unfold lamB lam
  rw [li_at]
  simp only [h8, (V_lam m c _).1, (V_lam m c _).2.1, (V_lam m c _).2.2.1, (V_lam m c _).2.2.2]
  rfl

/-- Window 0 holds real numbers when its array does. -/
theorem fin0 (c : Dev nD) (t : Fin cfg0.N) (h : Finite (m ((c : Thread nD τ).loc main_arg0))) : Finite (iblk m c 0 t) := by
  intro y
  show ((EReal.toReal (V m c main_arg0 (((cfg0.win 0).blk t).view.emb y)) : ℝ) : EReal) = V m c main_arg0 (((cfg0.win 0).blk t).view.emb y)
  rw [V_main_arg0]; exact h _
/-- Window 1 holds real numbers when its array does. -/
theorem fin1 (c : Dev nD) (t : Fin cfg0.N) (h : Finite (m ((c : Thread nD τ).loc main_arg0))) : Finite (iblk m c 1 t) := by
  intro y
  show ((EReal.toReal (V m c main_arg0 (((cfg0.win 1).blk t).view.emb y)) : ℝ) : EReal) = V m c main_arg0 (((cfg0.win 1).blk t).view.emb y)
  rw [V_main_arg0]; exact h _
/-- Window 2 holds real numbers when its array does. -/
theorem fin2 (c : Dev nD) (t : Fin cfg0.N) (h : Finite (m ((c : Thread nD τ).loc main_arg1))) : Finite (iblk m c 2 t) := by
  intro y
  show ((EReal.toReal (V m c main_arg1 (((cfg0.win 2).blk t).view.emb y)) : ℝ) : EReal) = V m c main_arg1 (((cfg0.win 2).blk t).view.emb y)
  rw [V_main_arg1]; exact h _
/-- Window 3 holds real numbers when its array does. -/
theorem fin3 (c : Dev nD) (t : Fin cfg0.N) (h : Finite (m ((c : Thread nD τ).loc main_arg1))) : Finite (iblk m c 3 t) := by
  intro y
  show ((EReal.toReal (V m c main_arg1 (((cfg0.win 3).blk t).view.emb y)) : ℝ) : EReal) = V m c main_arg1 (((cfg0.win 3).blk t).view.emb y)
  rw [V_main_arg1]; exact h _
/-- Window 6 holds real numbers when its array does. -/
theorem fin6 (c : Dev nD) (t : Fin cfg0.N) (h : Finite (m ((c : Thread nD τ).loc main_arg0))) : Finite (iblk m c 6 t) := by
  intro y
  show ((EReal.toReal (V m c main_arg0 (((cfg0.win 6).blk t).view.emb y)) : ℝ) : EReal) = V m c main_arg0 (((cfg0.win 6).blk t).view.emb y)
  rw [V_main_arg0]; exact h _

section
variable (c : Dev nD) (hQ : Finite (aQ m c)) (hK : Finite (aK m c))
include hQ hK

/-- A tile's entries: first head. -/
theorem tile_lo (t : Fin cfg0.N) (p : Fin 256) (j : Fin 128) :
    (outsAt0 m c t.val t.isLt).1 (ix3 0 p ⟨j.val, by omega⟩) = aO m c (bt t) (ht t 0) (pt t p) j := by
  have f0 := fin0 m c t hQ; have f1 := fin1 m c t hQ; have f2 := fin2 m c t hK; have f3 := fin3 m c t hK
  unfold aO outv
  by_cases h0 : t.val % 33 = 0
  · have hp : (pt t p).val < 256 := by show t.val % 33 * 256 + p.val < 256; omega
    rw [(at_A m c t h0 (by omega)).1, tileA_lo _ _ _ _ _ _ _ _ _ f0 f1 f2 f3, g_at, li_at, lam_at]
    refine congrArg (fun y => normed y _ _ j) (funext fun j => ?_)
    unfold dif attn
    rw [if_pos hp, if_pos hp, sc0, sc0, vl0]
  · have hp : ¬ (pt t p).val < 256 := by show ¬ t.val % 33 * 256 + p.val < 256; omega
    have hlt := t.isLt
    have hpn : t.val - 1 < cfg0.N := by omega
    obtain ⟨s1, s2⟩ := scores_left m c ⟨t.val - 1, hpn⟩
    have f6 := fin6 m c ⟨t.val - 1, hpn⟩ hQ; have f2' := fin2 m c ⟨t.val - 1, hpn⟩ hK
    rw [(at_B m c t h0 (by omega) hpn).1,
      tileB_lo _ _ _ _ _ _ _ _ _ f0 f1 f2 f3 _ _ (fun p => scB (iblk m c 6 ⟨t.val - 1, hpn⟩) (iblk m c 2 ⟨t.val - 1, hpn⟩) 0 p)
        (fun n r p => by rw [show rows (outsAt0 m c (t.val - 1) hpn).2.1 n = _ from s1 n]; exact next_real _ _ f6 f2' n r p)
        (fun a p => by rw [show (outsAt0 m c (t.val - 1) hpn).2.2 = _ from s2]; exact nextM_ne_top _ _ f6 f2' a p), g_at, li_at, lam_at]
    refine congrArg (fun y => normed y _ _ j) (funext fun j => ?_)
    unfold dif attn
    have eb : bt ⟨t.val - 1, hpn⟩ = bt t := Fin.ext (show (t.val - 1) / 66 = t.val / 66 by omega)
    have eh : ht ⟨t.val - 1, hpn⟩ 0 = ht t 0 := Fin.ext (show 2 * ((t.val - 1) / 33 % 2) + 0 = 2 * (t.val / 33 % 2) + 0 by omega)
    have ep : pn ⟨t.val - 1, hpn⟩ p = pt t p := Fin.ext (show min ((t.val - 1) % 33 + 1) 32 * 256 + p.val = t.val % 33 * 256 + p.val by omega)
    rw [if_neg hp, if_neg hp, sc0, vl0, sc6, eb, eh, ep]

/-- A tile's entries: second head. -/
theorem tile_hi (t : Fin cfg0.N) (p : Fin 256) (j : Fin 128) :
    (outsAt0 m c t.val t.isLt).1 (ix3 0 p ⟨128 + j.val, by omega⟩) = aO m c (bt t) (ht t 1) (pt t p) j := by
  have f0 := fin0 m c t hQ; have f1 := fin1 m c t hQ; have f2 := fin2 m c t hK; have f3 := fin3 m c t hK
  unfold aO outv
  by_cases h0 : t.val % 33 = 0
  · have hp : (pt t p).val < 256 := by show t.val % 33 * 256 + p.val < 256; omega
    rw [(at_A m c t h0 (by omega)).1, tileA_hi _ _ _ _ _ _ _ _ _ f0 f1 f2 f3, g_at, li_at, lam_at]
    refine congrArg (fun y => normed y _ _ j) (funext fun j => ?_)
    unfold dif attn
    rw [if_pos hp, if_pos hp, sc1, sc1, vl1]
  · have hp : ¬ (pt t p).val < 256 := by show ¬ t.val % 33 * 256 + p.val < 256; omega
    have hlt := t.isLt
    have hpn : t.val - 1 < cfg0.N := by omega
    obtain ⟨s1, s2⟩ := scores_left m c ⟨t.val - 1, hpn⟩
    have f6 := fin6 m c ⟨t.val - 1, hpn⟩ hQ; have f2' := fin2 m c ⟨t.val - 1, hpn⟩ hK
    rw [(at_B m c t h0 (by omega) hpn).1,
      tileB_hi _ _ _ _ _ _ _ _ _ f0 f1 f2 f3 _ _ (fun p => scB (iblk m c 6 ⟨t.val - 1, hpn⟩) (iblk m c 2 ⟨t.val - 1, hpn⟩) 0 p)
        (fun n r p => by rw [show rows (outsAt0 m c (t.val - 1) hpn).2.1 n = _ from s1 n]; exact next_real _ _ f6 f2' n r p)
        (fun a p => by rw [show (outsAt0 m c (t.val - 1) hpn).2.2 = _ from s2]; exact nextM_ne_top _ _ f6 f2' a p), g_at, li_at, lam_at]
    refine congrArg (fun y => normed y _ _ j) (funext fun j => ?_)
    unfold dif attn
    rw [if_neg hp, if_neg hp, sc1, sc1, vl1]

/-- A tile's entries. -/
theorem tile_at (t : Fin cfg0.N) (p : Fin 256) (f : Fin 256) (h : Fin 4) (j : Fin 128)
    (e : (h.val * 128 + j.val) = t.val / 33 % 2 * 256 + f.val) :
    (outsAt0 m c t.val t.isLt).1 (ix3 0 p f) = aO m c (bt t) h (pt t p) j := by
  by_cases hf : f.val < 128
  · have ej : f = ⟨j.val, by omega⟩ := Fin.ext (show f.val = j.val by omega)
    have eh : h = ht t 0 := Fin.ext (show h.val = 2 * (t.val / 33 % 2) + 0 by omega)
    subst eh; exact (congrArg (fun f => (outsAt0 m c t.val t.isLt).1 (ix3 0 p f)) ej).trans (tile_lo m c hQ hK t p j)
  · have ej : f = ⟨128 + j.val, by omega⟩ := Fin.ext (show f.val = 128 + j.val by omega)
    have eh : h = ht t 1 := Fin.ext (show h.val = 2 * (t.val / 33 % 2) + 1 by omega)
    subst eh; exact (congrArg (fun f => (outsAt0 m c t.val t.isLt).1 (ix3 0 p f)) ej).trans (tile_hi m c hQ hK t p j)
end

end Cert.Attn.Ker

end
-- ==== Proof.Result.lean ====
/- The kernel's result array, whole. -/
module

public import proofs.«01_k».proof.Proof.Entry

@[expose] public section

set_option maxRecDepth 16384

noncomputable section

namespace Cert.Attn.Ker

open Idealize.ShloMosaic Idealize.ShloMosaic.TcCoe Idealize.SL.Sem Cert.KernelIdeal Cert.KernelIdeal.Gen Cert.Attn

variable (m : (ℓ : Loc nD τ sig) → Buf (Elt Ideal) ℓ)

/-- The result as one array: entry `(b, p, h·128 + j)` is the specified value. -/
def whole (c : Dev nD) : S4x8448x512.Idx → EReal := fun i =>
  aO m c (i 0) ⟨(i 2).val / 128, by have h : (i 2).val < 512 := (i 2).isLt; omega⟩ (i 1) ⟨(i 2).val % 128, by omega⟩

/-- After the run the result buffer holds it: every tile does, and the tiles cover the array. -/
theorem result (c : Dev nD) (hQ : Finite (aQ m c)) (hK : Finite (aK m c)) :
    (dats m 0 c).arrAt 10 cfg0.N = whole m c := by
  refine (dats m 0 c).arrAt_eq_of_covers 10 _ (by decide +kernel) fun t hf y => ?_
  rw [after0_10]
  obtain ⟨e0, e1, e2⟩ := idx10 t
  show (outsAt0 m c t.val t.isLt).1 y = whole m c (((cfg0.win 10).blk t).view.emb y)
  have y0 : (y 0).val < 1 := (y 0).isLt
  have y1 : (y 1).val < 256 := (y 1).isLt
  have y2 : (y 2).val < 256 := (y 2).isLt
  have v0 : (((cfg0.win 10).blk t).view.emb y 0).val = t.val / 66 := by
    show win0_10.index t (0 : Fin 3) * 1 + 1 * (y 0).val = _; rw [e0]; omega
  have v1 : (((cfg0.win 10).blk t).view.emb y 1).val = t.val % 33 * 256 + (y 1).val := by
    show win0_10.index t (1 : Fin 3) * 256 + 1 * (y 1).val = _; rw [e1]; omega
  have v2 : (((cfg0.win 10).blk t).view.emb y 2).val = t.val / 33 % 2 * 256 + (y 2).val := by
    show win0_10.index t (2 : Fin 3) * 256 + 1 * (y 2).val = _; rw [e2]; omega
  have hy : y = ix3 0 ⟨(y 1).val, y1⟩ ⟨(y 2).val, y2⟩ := by
    funext a; apply Fin.ext
    match a with
    | ⟨0, _⟩ => show (y 0).val = 0; omega
    | ⟨1, _⟩ => rfl
    | ⟨2, _⟩ => rfl
  have key := tile_at m c hQ hK t ⟨(y 1).val, y1⟩ ⟨(y 2).val, y2⟩
    ⟨(((cfg0.win 10).blk t).view.emb y 2).val / 128, by rw [v2]; omega⟩ ⟨(((cfg0.win 10).blk t).view.emb y 2).val % 128, by omega⟩
    (by show (((cfg0.win 10).blk t).view.emb y 2).val / 128 * 128 + (((cfg0.win 10).blk t).view.emb y 2).val % 128 = t.val / 33 % 2 * 256 + (y 2).val; rw [v2]; omega)
  have b0 : bt t = ((cfg0.win 10).blk t).view.emb y 0 := Fin.ext v0.symm
  have b1 : pt t ⟨(y 1).val, y1⟩ = ((cfg0.win 10).blk t).view.emb y 1 := Fin.ext v1.symm
  rw [b0, b1] at key
  rw [← hy] at key
  exact key

end Cert.Attn.Ker

end
-- ==== Proof.RefScore.lean ====
/- What the reference computes up to its scores. -/
module

public import proofs.«01_k».proof.Proof.Spec
public import proofs.«01_k».proof.Proof.Gen.ReferenceIdeal.Read
public import Idealize.ShloMosaic.PureOps.Reduce

@[expose] public section

noncomputable section

namespace Cert.Attn.Ref

open Idealize.ShloMosaic Idealize.ShloMosaic.ValueIdx Cert.ReferenceIdeal Cert.ReferenceIdeal.Read Cert.Attn

/-- The position of the `p`-th latent query. -/
abbrev lat (p : Fin 8192) : Fin 8448 := ⟨256 + p.val, by omega⟩

section
variable {x0 : QArr} {x1 : KArr} {x2 : VArr} (h0 : Finite x0) (h1 : Finite x1)
include h0 h1

/-- The first component's scores of a latent query. -/
theorem score_lat0 (i : S4x4x8192x8448.Idx) :
    val_main_v26 (F := Ideal) x0 x1 i = (sc x0 x1 (i 0) (i 1) 0 (lat (i 2)) (i 3) : EReal) := by
  rw [val_main_v26_apply]; unfold sc; rw [coe_sum]
  refine Finset.sum_congr rfl fun d _ => ?_
  have hd := d.isLt
  have e0 : (i 0).val < 4 := (i 0).isLt
  have e1 : (i 1).val < 4 := (i 1).isLt
  have e2 : (i 2).val < 8192 := (i 2).isLt
  have e3 : (i 3).val < 8448 := (i 3).isLt
  simp only [val_main_v22_apply, val_main_v21_apply, val_main_v20_apply, val_main_v18_apply, val_main_v3_apply, val_main_v2_apply, val_main_v1_apply, val_main_v0_apply,
    val_main_v25_apply, val_main_v24_apply, val_main_v23_apply, val_main_v6_apply, val_main_v5_apply, val_main_v4_apply, Ideal.extf_def]
  rw [EReal.coe_mul, h0, h1]
  congr 2
  · funext a; match a with
    | ⟨0, _⟩ => apply Fin.ext; simp; change _ = (i 0).val; omega
    | ⟨1, _⟩ => apply Fin.ext; simp; omega
    | ⟨2, _⟩ => apply Fin.ext; simp; omega
  · funext a; match a with
    | ⟨0, _⟩ => apply Fin.ext; simp; change _ = (i 0).val; omega
    | ⟨1, _⟩ => apply Fin.ext; simp; change _ = (i 3).val; omega
    | ⟨2, _⟩ => apply Fin.ext; simp; omega

/-- The second component's scores of a latent query. -/
theorem score_lat1 (i : S4x4x8192x8448.Idx) :
    val_main_v49 (F := Ideal) x0 x1 i = (sc x0 x1 (i 0) (i 1) 1 (lat (i 2)) (i 3) : EReal) := by
  rw [val_main_v49_apply]; unfold sc; rw [coe_sum]
  refine Finset.sum_congr rfl fun d _ => ?_
  have hd := d.isLt
  have e0 : (i 0).val < 4 := (i 0).isLt
  have e1 : (i 1).val < 4 := (i 1).isLt
  have e2 : (i 2).val < 8192 := (i 2).isLt
  have e3 : (i 3).val < 8448 := (i 3).isLt
  simp only [val_main_v45_apply, val_main_v44_apply, val_main_v43_apply, val_main_v18_apply, val_main_v3_apply, val_main_v2_apply, val_main_v1_apply, val_main_v0_apply,
    val_main_v48_apply, val_main_v47_apply, val_main_v46_apply, val_main_v6_apply, val_main_v5_apply, val_main_v4_apply, Ideal.extf_def]
  rw [EReal.coe_mul, h0, h1]
  congr 2
  · funext a; match a with
    | ⟨0, _⟩ => apply Fin.ext; simp; change _ = (i 0).val; omega
    | ⟨1, _⟩ => apply Fin.ext; simp; omega
    | ⟨2, _⟩ => apply Fin.ext; simp; omega
  · funext a; match a with
    | ⟨0, _⟩ => apply Fin.ext; simp; change _ = (i 0).val; omega
    | ⟨1, _⟩ => apply Fin.ext; simp; change _ = (i 3).val; omega
    | ⟨2, _⟩ => apply Fin.ext; simp; omega

/-- The first component's scores of a context query. -/
theorem score_ctx0 (i : S4x4x256x256.Idx) :
    val_main_v80 (F := Ideal) x0 x1 i = (sc x0 x1 (i 0) (i 1) 0 (ctxKey (i 2)) (ctxKey (i 3)) : EReal) := by
  rw [val_main_v80_apply]; unfold sc; rw [coe_sum]
  refine Finset.sum_congr rfl fun d _ => ?_
  have hd := d.isLt
  have e0 : (i 0).val < 4 := (i 0).isLt
  have e1 : (i 1).val < 4 := (i 1).isLt
  have e2 : (i 2).val < 256 := (i 2).isLt
  have e3 : (i 3).val < 256 := (i 3).isLt
  simp only [val_main_v76_apply, val_main_v75_apply, val_main_v74_apply, val_main_v70_apply, val_main_v3_apply, val_main_v2_apply, val_main_v1_apply, val_main_v0_apply,
    val_main_v79_apply, val_main_v78_apply, val_main_v77_apply, val_main_v71_apply, val_main_v6_apply, val_main_v5_apply, val_main_v4_apply, Ideal.extf_def]
  rw [EReal.coe_mul, h0, h1]
  congr 2
  · funext a; match a with
    | ⟨0, _⟩ => apply Fin.ext; simp; change _ = (i 0).val; omega
    | ⟨1, _⟩ => apply Fin.ext; simp; omega
    | ⟨2, _⟩ => apply Fin.ext; simp; omega
  · funext a; match a with
    | ⟨0, _⟩ => apply Fin.ext; simp; change _ = (i 0).val; omega
    | ⟨1, _⟩ => apply Fin.ext; simp; change _ = (i 3).val; omega
    | ⟨2, _⟩ => apply Fin.ext; simp; omega

/-- The second component's scores of a context query. -/
theorem score_ctx1 (i : S4x4x256x256.Idx) :
    val_main_v103 (F := Ideal) x0 x1 i = (sc x0 x1 (i 0) (i 1) 1 (ctxKey (i 2)) (ctxKey (i 3)) : EReal) := by
  rw [val_main_v103_apply]; unfold sc; rw [coe_sum]
  refine Finset.sum_congr rfl fun d _ => ?_
  have hd := d.isLt
  have e0 : (i 0).val < 4 := (i 0).isLt
  have e1 : (i 1).val < 4 := (i 1).isLt
  have e2 : (i 2).val < 256 := (i 2).isLt
  have e3 : (i 3).val < 256 := (i 3).isLt
  simp only [val_main_v99_apply, val_main_v98_apply, val_main_v97_apply, val_main_v70_apply, val_main_v3_apply, val_main_v2_apply, val_main_v1_apply, val_main_v0_apply,
    val_main_v102_apply, val_main_v101_apply, val_main_v100_apply, val_main_v71_apply, val_main_v6_apply, val_main_v5_apply, val_main_v4_apply, Ideal.extf_def]
  rw [EReal.coe_mul, h0, h1]
  congr 2
  · funext a; match a with
    | ⟨0, _⟩ => apply Fin.ext; simp; change _ = (i 0).val; omega
    | ⟨1, _⟩ => apply Fin.ext; simp; omega
    | ⟨2, _⟩ => apply Fin.ext; simp; omega
  · funext a; match a with
    | ⟨0, _⟩ => apply Fin.ext; simp; change _ = (i 0).val; omega
    | ⟨1, _⟩ => apply Fin.ext; simp; change _ = (i 3).val; omega
    | ⟨2, _⟩ => apply Fin.ext; simp; omega

end

end Cert.Attn.Ref

end
-- ==== Proof.RefAtt.lean ====
/- What the reference's four attentions are: two components, of the latent queries and of the context's. -/
module

public import proofs.«01_k».proof.Proof.RefScore

@[expose] public section

noncomputable section

namespace Cert.Attn.Ref

open Idealize.ShloMosaic Idealize.ShloMosaic.ValueIdx Cert.ReferenceIdeal Cert.ReferenceIdeal.Gen Cert.ReferenceIdeal.Read Cert.Attn

/-- The word of minus infinity. -/
theorem negInf : Ideal.ofBits .f32 0xFF800000#32 = ⊥ := by simp [Ideal.ofBits, Ideal.ieee]

/-- The word of two. -/
theorem two : Ideal.ofBits .f32 0x40000000#32 = ((2 : ℝ) : EReal) := by
  simp [Ideal.ofBits, Ideal.ieee]; rw [← EReal.coe_mul]; norm_num

/-- The host's logarithm of two. -/
theorem log_two : Ideal.log (Ideal.ofBits .f32 0x40000000#32) = ((Real.log 2 : ℝ) : EReal) := by
  rw [two, Ideal.log_coe, if_neg (by norm_num)]

section
variable {x0 : QArr} {x1 : KArr} {x2 : VArr} (h0 : Finite x0) (h1 : Finite x1)
include h0 h1

/-- A latent query, first component: its scores in natural units. -/
theorem scaled_lat0 (i : S4x4x8192x8448.Idx) :
    val_main_v30 (F := Ideal) x0 x1 i = (val_main_v26 (F := Ideal) x0 x1 i) * ((Real.log 2 : ℝ) : EReal) := by
  rw [val_main_v30_apply, val_main_v29_apply, val_main_v28_apply, val_main_v27_apply, val_main_cst_1_apply]
  simp only [Ideal.mulf_def, Ideal.ofBits_def, Ideal.hostUnary_log_def, log_two]

/-- A latent query, first component: the shift of a query's scores is finite. -/
theorem shift_lat0 (i : S4x4x8192.Idx) : Fin' (val_main_v33 (F := Ideal) x0 x1 i) := by
  rw [val_main_v33_apply, val_main_v32_apply, val_main_cst_3_apply, Ideal.maximumf_def, max_comm, Ideal.ofBits_def, negInf]
  refine fin'_max ?_ (by simp)
  unfold val_main_v31
  rw [Host.reduce_eq_fold_single _ _ _ _ (by decide)]
  refine fin'_fold_max _ (Finset.univ_nonempty_iff.mpr ⟨(⟨0, by decide⟩ : Fin 8448)⟩) _ _ ?_ fun k => ?_
  · rw [val_main_cst_2_apply, Ideal.ofBits_def, negInf]; simp
  · have hall : ∀ j, Fin' (val_main_v30 (F := Ideal) x0 x1 j) := fun j => by
      rw [scaled_lat0 h0 h1, score_lat0 h0 h1, ← EReal.coe_mul]; exact fin'_coe _
    exact hall _

/-- A latent query, first component: the attention. -/
theorem att_lat0 (i : S4x4x8192x128.Idx) :
    val_main_v42 (F := Ideal) x0 x1 x2 i = att (fun r => sc x0 x1 (i 0) (i 1) 0 (lat (i 2)) r)
      (fun r => vl x2 (i 0) (i 1) (i 3) r) := by
  rw [val_main_v42_apply, ← host_att _ _ (val_main_v33 (F := Ideal) x0 x1 (fun a => match a with
    | ⟨0, _⟩ => i 0 | ⟨1, _⟩ => i 1 | ⟨2, _⟩ => i 2)) (Ideal.ofBits .f32 0x00000000#32) (shift_lat0 h0 h1 _) Ideal.ofBits_zero_f32]
  refine Finset.sum_congr rfl fun r _ => ?_
  have e0 : (i 0).val < 4 := (i 0).isLt
  have e1 : (i 1).val < 4 := (i 1).isLt
  have e2 : (i 2).val < 8192 := (i 2).isLt
  have e3 : (i 3).val < 128 := (i 3).isLt
  have hv : ∀ k, val_main_v19 (F := Ideal) x2 (ridx_main_v42 i k) = vl x2 (i 0) (i 1) (i 3) k := fun k => by
    have hk := k.isLt
    simp only [val_main_v19_apply, val_main_v9_apply, val_main_v8_apply, val_main_v7_apply, Ideal.extf_def]
    unfold vl
    congr 1
    funext a; match a with
    | ⟨0, _⟩ => apply Fin.ext; simp; change _ = (i 0).val; omega
    | ⟨1, _⟩ => apply Fin.ext; simp; omega
    | ⟨2, _⟩ => apply Fin.ext; simp; change _ = k.val; omega
  rw [hv]
  simp only [val_main_v41_apply, val_main_v37_apply, val_main_v36_apply, val_main_v35_apply, val_main_v34_apply,
    val_main_v40_apply, val_main_v39_apply, val_main_v38_apply, val_main_cst_4_apply, scaled_lat0 h0 h1, score_lat0 h0 h1,
    Ideal.hostDivf_def, Ideal.hostUnary_exp_def, Ideal.subf_def, Ideal.ofBits_def]
  rfl

/-- A latent query, second component: its scores in natural units. -/
theorem scaled_lat1 (i : S4x4x8192x8448.Idx) :
    val_main_v53 (F := Ideal) x0 x1 i = (val_main_v49 (F := Ideal) x0 x1 i) * ((Real.log 2 : ℝ) : EReal) := by
  rw [val_main_v53_apply, val_main_v52_apply, val_main_v51_apply, val_main_v50_apply, val_main_cst_5_apply]
  simp only [Ideal.mulf_def, Ideal.ofBits_def, Ideal.hostUnary_log_def, log_two]

/-- A latent query, second component: the shift of a query's scores is finite. -/
theorem shift_lat1 (i : S4x4x8192.Idx) : Fin' (val_main_v56 (F := Ideal) x0 x1 i) := by
  rw [val_main_v56_apply, val_main_v55_apply, val_main_cst_7_apply, Ideal.maximumf_def, max_comm, Ideal.ofBits_def, negInf]
  refine fin'_max ?_ (by simp)
  unfold val_main_v54
  rw [Host.reduce_eq_fold_single _ _ _ _ (by decide)]
  refine fin'_fold_max _ (Finset.univ_nonempty_iff.mpr ⟨(⟨0, by decide⟩ : Fin 8448)⟩) _ _ ?_ fun k => ?_
  · rw [val_main_cst_6_apply, Ideal.ofBits_def, negInf]; simp
  · have hall : ∀ j, Fin' (val_main_v53 (F := Ideal) x0 x1 j) := fun j => by
      rw [scaled_lat1 h0 h1, score_lat1 h0 h1, ← EReal.coe_mul]; exact fin'_coe _
    exact hall _

/-- A latent query, second component: the attention. -/
theorem att_lat1 (i : S4x4x8192x128.Idx) :
    val_main_v65 (F := Ideal) x0 x1 x2 i = att (fun r => sc x0 x1 (i 0) (i 1) 1 (lat (i 2)) r)
      (fun r => vl x2 (i 0) (i 1) (i 3) r) := by
  rw [val_main_v65_apply, ← host_att _ _ (val_main_v56 (F := Ideal) x0 x1 (fun a => match a with
    | ⟨0, _⟩ => i 0 | ⟨1, _⟩ => i 1 | ⟨2, _⟩ => i 2)) (Ideal.ofBits .f32 0x00000000#32) (shift_lat1 h0 h1 _) Ideal.ofBits_zero_f32]
  refine Finset.sum_congr rfl fun r _ => ?_
  have e0 : (i 0).val < 4 := (i 0).isLt
  have e1 : (i 1).val < 4 := (i 1).isLt
  have e2 : (i 2).val < 8192 := (i 2).isLt
  have e3 : (i 3).val < 128 := (i 3).isLt
  have hv : ∀ k, val_main_v19 (F := Ideal) x2 (ridx_main_v65 i k) = vl x2 (i 0) (i 1) (i 3) k := fun k => by
    have hk := k.isLt
    simp only [val_main_v19_apply, val_main_v9_apply, val_main_v8_apply, val_main_v7_apply, Ideal.extf_def]
    unfold vl
    congr 1
    funext a; match a with
    | ⟨0, _⟩ => apply Fin.ext; simp; change _ = (i 0).val; omega
    | ⟨1, _⟩ => apply Fin.ext; simp; omega
    | ⟨2, _⟩ => apply Fin.ext; simp; change _ = k.val; omega
  rw [hv]
  simp only [val_main_v64_apply, val_main_v60_apply, val_main_v59_apply, val_main_v58_apply, val_main_v57_apply,
    val_main_v63_apply, val_main_v62_apply, val_main_v61_apply, val_main_cst_8_apply, scaled_lat1 h0 h1, score_lat1 h0 h1,
    Ideal.hostDivf_def, Ideal.hostUnary_exp_def, Ideal.subf_def, Ideal.ofBits_def]
  rfl

/-- A context query, first component: its scores in natural units. -/
theorem scaled_ctx0 (i : S4x4x256x256.Idx) :
    val_main_v84 (F := Ideal) x0 x1 i = (val_main_v80 (F := Ideal) x0 x1 i) * ((Real.log 2 : ℝ) : EReal) := by
  rw [val_main_v84_apply, val_main_v83_apply, val_main_v82_apply, val_main_v81_apply, val_main_cst_9_apply]
  simp only [Ideal.mulf_def, Ideal.ofBits_def, Ideal.hostUnary_log_def, log_two]

/-- A context query, first component: the shift of a query's scores is finite. -/
theorem shift_ctx0 (i : S4x4x256.Idx) : Fin' (val_main_v87 (F := Ideal) x0 x1 i) := by
  rw [val_main_v87_apply, val_main_v86_apply, val_main_cst_11_apply, Ideal.maximumf_def, max_comm, Ideal.ofBits_def, negInf]
  refine fin'_max ?_ (by simp)
  unfold val_main_v85
  rw [Host.reduce_eq_fold_single _ _ _ _ (by decide)]
  refine fin'_fold_max _ (Finset.univ_nonempty_iff.mpr ⟨(⟨0, by decide⟩ : Fin 256)⟩) _ _ ?_ fun k => ?_
  · rw [val_main_cst_10_apply, Ideal.ofBits_def, negInf]; simp
  · have hall : ∀ j, Fin' (val_main_v84 (F := Ideal) x0 x1 j) := fun j => by
      rw [scaled_ctx0 h0 h1, score_ctx0 h0 h1, ← EReal.coe_mul]; exact fin'_coe _
    exact hall _

/-- A context query, first component: the attention. -/
theorem att_ctx0 (i : S4x4x256x128.Idx) :
    val_main_v96 (F := Ideal) x0 x1 x2 i = att (fun r => sc x0 x1 (i 0) (i 1) 0 (ctxKey (i 2)) (ctxKey r))
      (fun r => vl x2 (i 0) (i 1) (i 3) (ctxKey r)) := by
  rw [val_main_v96_apply, ← host_att _ _ (val_main_v87 (F := Ideal) x0 x1 (fun a => match a with
    | ⟨0, _⟩ => i 0 | ⟨1, _⟩ => i 1 | ⟨2, _⟩ => i 2)) (Ideal.ofBits .f32 0x00000000#32) (shift_ctx0 h0 h1 _) Ideal.ofBits_zero_f32]
  refine Finset.sum_congr rfl fun r _ => ?_
  have e0 : (i 0).val < 4 := (i 0).isLt
  have e1 : (i 1).val < 4 := (i 1).isLt
  have e2 : (i 2).val < 256 := (i 2).isLt
  have e3 : (i 3).val < 128 := (i 3).isLt
  have hv : ∀ k, val_main_v73 (F := Ideal) x2 (ridx_main_v96 i k) = vl x2 (i 0) (i 1) (i 3) (ctxKey k) := fun k => by
    have hk := k.isLt
    simp only [val_main_v73_apply, val_main_v72_apply, val_main_v9_apply, val_main_v8_apply, val_main_v7_apply, Ideal.extf_def]
    unfold vl
    congr 1
    funext a; match a with
    | ⟨0, _⟩ => apply Fin.ext; simp; change _ = (i 0).val; omega
    | ⟨1, _⟩ => apply Fin.ext; simp; omega
    | ⟨2, _⟩ => apply Fin.ext; simp; change _ = k.val; omega
  rw [hv]
  simp only [val_main_v95_apply, val_main_v91_apply, val_main_v90_apply, val_main_v89_apply, val_main_v88_apply,
    val_main_v94_apply, val_main_v93_apply, val_main_v92_apply, val_main_cst_12_apply, scaled_ctx0 h0 h1, score_ctx0 h0 h1,
    Ideal.hostDivf_def, Ideal.hostUnary_exp_def, Ideal.subf_def, Ideal.ofBits_def]
  rfl

/-- A context query, second component: its scores in natural units. -/
theorem scaled_ctx1 (i : S4x4x256x256.Idx) :
    val_main_v107 (F := Ideal) x0 x1 i = (val_main_v103 (F := Ideal) x0 x1 i) * ((Real.log 2 : ℝ) : EReal) := by
  rw [val_main_v107_apply, val_main_v106_apply, val_main_v105_apply, val_main_v104_apply, val_main_cst_13_apply]
  simp only [Ideal.mulf_def, Ideal.ofBits_def, Ideal.hostUnary_log_def, log_two]

/-- A context query, second component: the shift of a query's scores is finite. -/
theorem shift_ctx1 (i : S4x4x256.Idx) : Fin' (val_main_v110 (F := Ideal) x0 x1 i) := by
  rw [val_main_v110_apply, val_main_v109_apply, val_main_cst_15_apply, Ideal.maximumf_def, max_comm, Ideal.ofBits_def, negInf]
  refine fin'_max ?_ (by simp)
  unfold val_main_v108
  rw [Host.reduce_eq_fold_single _ _ _ _ (by decide)]
  refine fin'_fold_max _ (Finset.univ_nonempty_iff.mpr ⟨(⟨0, by decide⟩ : Fin 256)⟩) _ _ ?_ fun k => ?_
  · rw [val_main_cst_14_apply, Ideal.ofBits_def, negInf]; simp
  · have hall : ∀ j, Fin' (val_main_v107 (F := Ideal) x0 x1 j) := fun j => by
      rw [scaled_ctx1 h0 h1, score_ctx1 h0 h1, ← EReal.coe_mul]; exact fin'_coe _
    exact hall _

/-- A context query, second component: the attention. -/
theorem att_ctx1 (i : S4x4x256x128.Idx) :
    val_main_v119 (F := Ideal) x0 x1 x2 i = att (fun r => sc x0 x1 (i 0) (i 1) 1 (ctxKey (i 2)) (ctxKey r))
      (fun r => vl x2 (i 0) (i 1) (i 3) (ctxKey r)) := by
  rw [val_main_v119_apply, ← host_att _ _ (val_main_v110 (F := Ideal) x0 x1 (fun a => match a with
    | ⟨0, _⟩ => i 0 | ⟨1, _⟩ => i 1 | ⟨2, _⟩ => i 2)) (Ideal.ofBits .f32 0x00000000#32) (shift_ctx1 h0 h1 _) Ideal.ofBits_zero_f32]
  refine Finset.sum_congr rfl fun r _ => ?_
  have e0 : (i 0).val < 4 := (i 0).isLt
  have e1 : (i 1).val < 4 := (i 1).isLt
  have e2 : (i 2).val < 256 := (i 2).isLt
  have e3 : (i 3).val < 128 := (i 3).isLt
  have hv : ∀ k, val_main_v73 (F := Ideal) x2 (ridx_main_v119 i k) = vl x2 (i 0) (i 1) (i 3) (ctxKey k) := fun k => by
    have hk := k.isLt
    simp only [val_main_v73_apply, val_main_v72_apply, val_main_v9_apply, val_main_v8_apply, val_main_v7_apply, Ideal.extf_def]
    unfold vl
    congr 1
    funext a; match a with
    | ⟨0, _⟩ => apply Fin.ext; simp; change _ = (i 0).val; omega
    | ⟨1, _⟩ => apply Fin.ext; simp; omega
    | ⟨2, _⟩ => apply Fin.ext; simp; change _ = k.val; omega
  rw [hv]
  simp only [val_main_v118_apply, val_main_v114_apply, val_main_v113_apply, val_main_v112_apply, val_main_v111_apply,
    val_main_v117_apply, val_main_v116_apply, val_main_v115_apply, val_main_cst_16_apply, scaled_ctx1 h0 h1, score_ctx1 h0 h1,
    Ideal.hostDivf_def, Ideal.hostUnary_exp_def, Ideal.subf_def, Ideal.ofBits_def]
  rfl

end

end Cert.Attn.Ref

end
-- ==== Proof.RefValue.lean ====
/- The reference's result, read at one feature of one position. -/
module

public import proofs.«01_k».proof.Proof.RefAtt
public import Idealize.ShloMosaic.Lib.Pipeline.Value

@[expose] public section

noncomputable section

namespace Cert.Attn.Ref

open Idealize.ShloMosaic Idealize.ShloMosaic.ValueIdx Cert.ReferenceIdeal Cert.ReferenceIdeal.Gen Cert.ReferenceIdeal.Read Cert.Attn

/-- The reference's weight of the second component. -/
theorem lam_eq (x4 x5 x6 x7 : LArr) (x8 : SArr) (i : S_.Idx) :
    val_main_v17 (F := Ideal) x4 x5 x6 x7 x8 i = lam x4 x5 x6 x7 x8 := by
  have s1 : ∀ f : S64.Idx → EReal, ∑ j : S64.Idx, f j = ∑ d : Fin 64, f (ix1 d) := fun f =>
    (Fintype.sum_equiv ⟨fun d => ix1 d, fun j => j 0, fun _ => rfl, fun j => (eq_ix1 j).symm⟩ _ _ fun _ => rfl).symm
  rw [val_main_v17_apply, val_main_v16_apply, val_main_v15_apply, val_main_v12_apply, val_main_v11_apply,
    val_main_v14_apply, s1, s1, val_main_cst_apply, val_main_cst_0_apply]
  simp only [val_main_v10_apply, val_main_v13_apply, Ideal.addf_def, Ideal.subf_def, Ideal.mulf_def,
    Ideal.hostUnary_exp_def, Ideal.ofBits_def, Ideal.ofBits_zero_f32, zero_add]
  rw [eq_ix0 i]; rfl

section
variable {x0 : QArr} {x1 : KArr} {x2 : VArr} (h0 : Finite x0) (h1 : Finite x1)
  (x4 x5 x6 x7 : LArr) (x8 : SArr)
include h0 h1

/-- The difference of the components, of a latent query. -/
theorem dif_lat (i : S4x8192x4x128.Idx) :
    val_main_v69 (F := Ideal) x0 x1 x2 x4 x5 x6 x7 x8 i
      = dif x0 x1 x2 (lam x4 x5 x6 x7 x8) (i 0) (i 2) (lat (i 1)) (i 3) := by
  rw [val_main_v69_apply, val_main_v68_apply, val_main_v67_apply, val_main_v66_apply, lam_eq, att_lat0 h0 h1,
    att_lat1 h0 h1]
  unfold dif attn
  rw [if_neg (by show ¬ (256 + _ < 256); omega), if_neg (by show ¬ (256 + _ < 256); omega)]
  rfl

/-- The difference of the components, of a context query. -/
theorem dif_ctx (i : S4x256x4x128.Idx) :
    val_main_v123 (F := Ideal) x0 x1 x2 x4 x5 x6 x7 x8 i
      = dif x0 x1 x2 (lam x4 x5 x6 x7 x8) (i 0) (i 2) (ctxKey (i 1)) (i 3) := by
  rw [val_main_v123_apply, val_main_v122_apply, val_main_v121_apply, val_main_v120_apply, lam_eq, att_ctx0 h0 h1,
    att_ctx1 h0 h1]
  have e1 : (i 1).val < 256 := (i 1).isLt
  unfold dif attn
  rw [if_pos e1, if_pos e1]
  rfl

/-- The difference of the components, of any query. -/
theorem dif_all (i : S4x8448x4x128.Idx) :
    val_main_v124 (F := Ideal) x0 x1 x2 x4 x5 x6 x7 x8 i
      = dif x0 x1 x2 (lam x4 x5 x6 x7 x8) (i 0) (i 2) (i 1) (i 3) := by
  have e1 : (i 1).val < 8448 := (i 1).isLt
  unfold val_main_v124
  by_cases h : (i 1).val < 256
  · rw [concatenate_pair_apply_left (t := S4x8448x4x128) (s₁ := S4x256x4x128) (s₂ := S4x8192x4x128) 1 _ _ _ i rfl
      (ix4 (i 0) (⟨(i 1).val, h⟩ : Fin 256) (i 2) (i 3) : S4x256x4x128.Idx)
      (fun b => match b with | ⟨0, _⟩ => rfl | ⟨1, _⟩ => rfl | ⟨2, _⟩ => rfl | ⟨3, _⟩ => rfl), dif_ctx h0 h1]
    rfl
  · rw [concatenate_pair_apply_right (t := S4x8448x4x128) (s₁ := S4x256x4x128) (s₂ := S4x8192x4x128) 1 _ _ _ i rfl rfl
      (ix4 (i 0) (⟨(i 1).val - 256, by omega⟩ : Fin 8192) (i 2) (i 3) : S4x8192x4x128.Idx)
      (fun b => match b with | ⟨0, _⟩ => fun _ => rfl | ⟨1, _⟩ => fun hb => absurd rfl hb | ⟨2, _⟩ => fun _ => rfl | ⟨3, _⟩ => fun _ => rfl)
      (by show (i 1).val - 256 + 256 = (i 1).val; omega), dif_lat h0 h1]
    have : lat (⟨(i 1).val - 256, by omega⟩ : Fin 8192) = i 1 := by
      apply Fin.ext; show 256 + ((i 1).val - 256) = (i 1).val; omega
    show dif _ _ _ _ (i 0) (i 2) (lat (⟨(i 1).val - 256, by omega⟩ : Fin 8192)) (i 3) = _
    rw [this]

/-- The reference's result. -/
theorem result (x3 : GArr) (b : Fin 4) (p : Fin 8448) (h : Fin 4) (j : Fin 128) :
    val_main_v144 (F := Ideal) x0 x1 x2 x3 x4 x5 x6 x7 x8 (ix3 b p (⟨h.val * 128 + j.val, by omega⟩ : Fin 512))
      = outv x0 x1 x2 x3 x4 x5 x6 x7 x8 b h p j := by
  have hi : idx_main_v143 (ix3 b p (⟨h.val * 128 + j.val, by omega⟩ : Fin 512)) = ix4 b p h j := by
    funext a; match a with
    | ⟨0, _⟩ => apply Fin.ext; change ((b.val * 8448 + p.val) * 512 + (h.val * 128 + j.val)) / 4325376 = b.val; omega
    | ⟨1, _⟩ => apply Fin.ext; change ((b.val * 8448 + p.val) * 512 + (h.val * 128 + j.val)) / 512 % 8448 = p.val; omega
    | ⟨2, _⟩ => apply Fin.ext; change ((b.val * 8448 + p.val) * 512 + (h.val * 128 + j.val)) / 128 % 4 = h.val; omega
    | ⟨3, _⟩ => apply Fin.ext; change ((b.val * 8448 + p.val) * 512 + (h.val * 128 + j.val)) % 128 = j.val; omega
  rw [val_main_v144_apply, val_main_v143_apply, hi]
  simp only [val_main_v142_apply, val_main_v141_apply, val_main_v140_apply, val_main_v139_apply, val_main_v138_apply,
    val_main_v137_apply, val_main_v136_apply, val_main_v135_apply, val_main_v134_apply, val_main_v133_apply,
    val_main_v132_apply, val_main_v131_apply, val_main_v130_apply, val_main_v129_apply, val_main_v128_apply,
    val_main_v127_apply, val_main_v126_apply, val_main_v125_apply, val_main_cst_17_apply, val_main_cst_18_apply,
    val_main_cst_19_apply, val_main_cst_20_apply, dif_all h0 h1, Ideal.addf_def, Ideal.subf_def, Ideal.mulf_def,
    Ideal.hostUnary_rsqrt_def, Ideal.hostDivf_def, Ideal.truncf_def, Ideal.ofBits_def, Ideal.ofBits_zero_f32, zero_add]
  unfold outv normed
  have hg : ∀ q : S1024.Idx, (q 0).val = 512 + h.val * 128 + j.val → q = ix1 (⟨512 + h.val * 128 + j.val, by omega⟩ : Fin 1024) :=
    fun q e => by rw [eq_ix1 q]; congr 1; exact Fin.ext e
  rw [hg (idx_main_v125 (idx_main_v126 (idx_main_v137 (idx_main_v138 (ix4 b p h j)))))
    (by change 512 + (h.val * 128 + j.val) = _; omega), eq_ix0 (idx_main_v141 _)]
  rfl

end

end Cert.Attn.Ref

end
-- ==== Proof.Algebraic.lean ====
/- The kernel and the reference end with the same result, at the ideal values. -/
module

public import proofs.«01_k».proof.Defs
public import proofs.«01_k».proof.Proof.Pre
public import proofs.«01_k».proof.Proof.Result
public import proofs.«01_k».proof.Proof.RefValue
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Attn

open Idealize.ShloMosaic Idealize.SL.Sem

/-- The reference's result array is the kernel's: both hold the specified value at every entry. -/
theorem reference_whole (m : (ℓ : Loc Cert.KernelIdeal.nD Cert.KernelIdeal.τ Cert.KernelIdeal.sig) → Buf (Elt Ideal) ℓ) (c : Dev Cert.KernelIdeal.nD)
    (hQ : Finite (Ker.aQ m c)) (hK : Finite (Ker.aK m c)) :
    Cert.ReferenceIdeal.Read.val_main_v144 (F := Ideal) (Ker.aQ m c) (Ker.aK m c) (Ker.aV m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = Ker.whole m c := by
  funext i
  have i2 : (i 2).val < 512 := (i 2).isLt
  have hi : i = ValueIdx.ix3 (i 0) (i 1) (⟨(i 2).val / 128 * 128 + (i 2).val % 128, by omega⟩ : Fin 512) := by
    funext a; apply Fin.ext
    match a with
    | ⟨0, _⟩ => rfl
    | ⟨1, _⟩ => rfl
    | ⟨2, _⟩ => show (i 2).val = (i 2).val / 128 * 128 + (i 2).val % 128; omega
  have key := Ref.result (x2 := Ker.aV m c) hQ hK
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg3))
    (i 0) (i 1) ⟨(i 2).val / 128, by omega⟩ ⟨(i 2).val % 128, by omega⟩
  exact (congrArg _ hi).trans key

/-- From memories that agree on the arguments, where the queries and keys hold real numbers, the kernel and the
    reference end with the same result and leave their arguments as they were. -/
theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m g m' g' hp hargs
  have hf := fun c => @Pre.finite_of_pre Pre.facts _ _ _ _ _ _ _ _ _ (hp c)
  refine ⟨fun c => Ker.whole m c, ?_, ?_⟩
  · refine (θ_run _ _ _).mono (fun r h c => ⟨(h c).1.trans ?_, (h c).2⟩) (Cert.KernelIdeal.Value.run_blocks m g)
    exact Ker.result m c (hf c).1 (hf c).2
  · refine (θ_run _ _ _).mono (fun r h c => ⟨(h c).1.trans ?_, (h c).2⟩) (Cert.ReferenceIdeal.Value.run (F := Ideal) m' g')
    obtain ⟨e0, e1, e2, e3, e4, e5, e6, e7, e8⟩ := hargs c
    refine (Cert.ReferenceIdeal.Read.val_main_v144_eq m' c).trans ?_
    rw [e0, e1, e2, e3, e4, e5, e6, e7, e8]
    exact reference_whole m c (hf c).1 (hf c).2

end Cert.Attn

end
-- ==== Proof.FfnSpec.lean ====
/- The feed-forward part of the layer, entry by entry: what both programs compute. -/
module

public import Idealize.ShloMosaic.Lib.ValueIdx
public import Idealize.ShloMosaic.PureOps.Ideal
public import Idealize.ShloMosaic.PureOps.Ideal.Laws

@[expose] public section

noncomputable section

namespace Cert.Ffn

open Idealize.ShloMosaic Idealize.ShloMosaic.ValueIdx

/-- The residual stream: batch, position, feature. -/
abbrev XArr := (⟨3, ![4, 8448, 1024]⟩ : Shape).Idx → EReal
/-- The modulation vectors of the latent positions: batch, row, feature. -/
abbrev MArr := (⟨3, ![4, 6, 1024]⟩ : Shape).Idx → EReal
/-- The modulation vectors of the context positions: row, feature. -/
abbrev CArr := (⟨2, ![6, 1024]⟩ : Shape).Idx → EReal
/-- The norm's weights. -/
abbrev GArr := (⟨1, ![1024]⟩ : Shape).Idx → EReal
/-- The projection up: gate columns, then value columns. -/
abbrev UArr := (⟨2, ![1024, 5632]⟩ : Shape).Idx → EReal
/-- The convolution's three taps. -/
abbrev TArr := (⟨2, ![3, 2816]⟩ : Shape).Idx → EReal
/-- The convolution's bias. -/
abbrev BArr := (⟨1, ![2816]⟩ : Shape).Idx → EReal
/-- The projection down. -/
abbrev DArr := (⟨2, ![2816, 1024]⟩ : Shape).Idx → EReal

/-- Entry `n` of a normed, modulated row `x`. -/
def hrow (x g sh sc : Fin 1024 → EReal) (n : Fin 1024) : EReal :=
  x n * Ideal.rsqrt (Ideal.div (∑ i, x i * x i) (Ideal.ofBits .f32 0x44800000#32) + Ideal.ofBits .f32 0x358637BD#32)
    * g n * (Ideal.ofBits .f32 0x3F800000#32 + sc n) + sh n

/-- Three neighbours weighted by the taps, and the bias. -/
def conv (p a n w₀ w₁ w₂ b : EReal) : EReal := p * w₀ + a * w₁ + n * w₂ + b

/-- The gate's smooth step applied to `c`, times the value `v`. -/
def glu (c v : EReal) : EReal :=
  Ideal.ofBits .f32 0x3F000000#32 * c * (Ideal.ofBits .f32 0x3F800000#32
    + Ideal.tanh (Ideal.ofBits .f32 0x3F4C422A#32 * (c + Ideal.ofBits .f32 0x3D372713#32 * (c * c * c)))) * v

/-- Row `k` of the modulation at a position: the context's or the batch's. -/
def md (m : MArr) (mc : CArr) (b : Fin 4) (s : Fin 8448) (k : Fin 6) (n : Fin 1024) : EReal :=
  if s.val < 256 then mc (ix2 k n) else m (ix3 b k n)

/-- The normed, modulated row at a position. -/
def hs (x : XArr) (m : MArr) (mc : CArr) (g : GArr) (b : Fin 4) (s : Fin 8448) (n : Fin 1024) : EReal :=
  hrow (fun n => x (ix3 b s n)) (fun n => g (ix1 n)) (md m mc b s 3) (md m mc b s 4) n

/-- The product with column `f` of the projection up. -/
def up (x : XArr) (m : MArr) (mc : CArr) (g : GArr) (u : UArr) (b : Fin 4) (s : Fin 8448) (f : Fin 5632) : EReal :=
  ∑ k : Fin 1024, hs x m mc g b s k * u (ix2 k f)

/-- Gate column `f`. -/
def gcol (f : Fin 2816) : Fin 5632 := ⟨f.val, by omega⟩
/-- Value column `f`. -/
def vcol (f : Fin 2816) : Fin 5632 := ⟨2816 + f.val, by omega⟩

/-- The gate's column `f` before position `s`: zero where a segment starts. -/
def prv (y : Fin 8448 → EReal) (s : Fin 8448) : EReal :=
  if s.val = 0 ∨ s.val = 256 then 0 else y ⟨s.val - 1, by omega⟩
/-- The gate's column `f` after position `s`: zero where a segment ends. -/
def nxt (y : Fin 8448 → EReal) (s : Fin 8448) : EReal :=
  if h : s.val = 255 ∨ s.val = 8447 then 0 else y ⟨s.val + 1, by omega⟩

/-- Gate column `f` after the convolution. -/
def ac (x : XArr) (m : MArr) (mc : CArr) (g : GArr) (u : UArr) (t : TArr) (z : BArr) (b : Fin 4) (s : Fin 8448) (f : Fin 2816) : EReal :=
  conv (prv (fun s => up x m mc g u b s (gcol f)) s) (up x m mc g u b s (gcol f)) (nxt (fun s => up x m mc g u b s (gcol f)) s)
    (t (ix2 0 f)) (t (ix2 1 f)) (t (ix2 2 f)) (z (ix1 f))

/-- Entry `n` of the result at a position. -/
def outv (x : XArr) (m : MArr) (mc : CArr) (g : GArr) (u : UArr) (t : TArr) (z : BArr) (d : DArr) (b : Fin 4) (s : Fin 8448)
    (n : Fin 1024) : EReal :=
  x (ix3 b s n) + md m mc b s 5 n
    * ∑ f : Fin 2816, glu (ac x m mc g u t z b s f) (up x m mc g u b s (vcol f)) * d (ix2 f n)

end Cert.Ffn

end
-- ==== Proof.FfnBody.lean ====
/- The feed-forward kernel's vector operations, read at an index. -/
module

public import proofs.«01_k».proof.Proof.FfnSpec
public import proofs.«01_k».proof.Proof.Gen.Kernel2Ideal.Skeleton
public import Idealize.ShloMosaic.Lib.Pointwise
public import Idealize.ShloMosaic.PureOps.Reduce

@[expose] public section

set_option maxRecDepth 16384

noncomputable section

namespace Cert.Ffn.Ker

open Idealize.ShloMosaic Cert.Kernel2Ideal Cert.Kernel2Ideal.Gen Cert.Ffn

/-- Row `q` of the tile with its halos. -/
def bRow (x0 : FVec Ideal S1x768x1024 .f32) (x1 x2 : FVec Ideal S1x8x1024 .f32) (q : Fin 784) (n : Fin 1024) : EReal :=
  if h : q.val < 8 then x1 (ix3 0 ⟨q.val, h⟩ n) else if h' : q.val - 8 < 768 then x0 (ix3 0 ⟨q.val - 8, h'⟩ n)
    else x2 (ix3 0 ⟨q.val - 8 - 768, by omega⟩ n)

/-- The tile between its halos. -/
def cat3 (v0 : FVec Ideal S1x768x1024 .f32) (v2 v4 : FVec Ideal S1x8x1024 .f32) : FVec Ideal S784x1024 .f32 :=
  concatenate S784x1024 0 [⟨S8x1024, shapeCast S8x1024 v2 shapeCasts_S1x8x1024_S8x1024⟩, ⟨S768x1024, k0_pay2 v0⟩, ⟨S8x1024, shapeCast S8x1024 v4 shapeCasts_S1x8x1024_S8x1024⟩] concatenates_S8x1024_S768x1024_S8x1024_S784x1024_d0

/-- The rows normed and weighted. -/
def nrm (v6 : FVec Ideal S784x1024 .f32) (v12 : FVec Ideal S1x1024 .f32) : FVec Ideal S784x1024 .f32 :=
  mulf (mulf v6 (broadcastTo S784x1024 (rsqrt (addf (divf (shapeCast S784x1 (multiReduction .add [1] S784 (mulf v6 v6) 0x00000000#32 reduces_S784x1024_S784 (.inl rfl) rfl) shapeCasts_S784_S784x1)
    (broadcast S784x1 (Scalar.ofBits .f32 0x44800000#32))) (broadcast S784x1 (Scalar.ofBits .f32 0x358637BD#32)))) broadcasts_S784x1_S784x1024))
    (broadcastTo S784x1024 (shapeCast S1x1024 v12 shapeCasts_S1x1024_S1x1024) broadcasts_S1x1024_S784x1024)

theorem pay2_apply (v0 : FVec Ideal S1x768x1024 .f32) (r : Fin 768) (n : Fin 1024) : k0_pay2 (F := Ideal) v0 (ix2 r n) = v0 (ix3 0 r n) := by
  pointwise [k0_pay2]

theorem cat3_apply (v0 : FVec Ideal S1x768x1024 .f32) (v2 v4 : FVec Ideal S1x8x1024 .f32) (q : Fin 784) (n : Fin 1024) :
    cat3 v0 v2 v4 (ix2 q n) = bRow v0 v2 v4 q n := by
  unfold bRow
  pointwise [cat3, k0_pay2]

theorem nrm_apply (v6 : FVec Ideal S784x1024 .f32) (v12 : FVec Ideal S1x1024 .f32) (q : Fin 784) (n : Fin 1024) :
    nrm v6 v12 (ix2 q n) = v6 (ix2 q n) * Ideal.rsqrt (Ideal.div (∑ i : Fin 1024, v6 (ix2 q i) * v6 (ix2 q i)) (Ideal.ofBits .f32 0x44800000#32) + Ideal.ofBits .f32 0x358637BD#32)
    * v12 (ix2 0 n) := by
  pointwise [nrm]

theorem pay5_apply (v0 : FVec Ideal S1x768x1024 .f32) (v2 v4 : FVec Ideal S1x8x1024 .f32) (v12 : FVec Ideal S1x1024 .f32) (q : Fin 784) (n : Fin 1024) :
    k0_pay5 (F := Ideal) v0 v2 v4 v12 (ix2 q n) = bRow v0 v2 v4 q n * Ideal.rsqrt (Ideal.div (∑ i : Fin 1024, bRow v0 v2 v4 q i * bRow v0 v2 v4 q i) (Ideal.ofBits .f32 0x44800000#32) + Ideal.ofBits .f32 0x358637BD#32)
    * v12 (ix2 0 n) := by
  have h : k0_pay5 (F := Ideal) v0 v2 v4 v12 = nrm (cat3 v0 v2 v4) v12 := rfl
  rw [h, nrm_apply]
  simp only [cat3_apply]

theorem pay9_apply (v15 : IVec S784x1 1) (v27 : FVec Ideal S784x1024 .f32) (v31 : FVec Ideal S1x1024 .f32) (v33 : IVec S784x1024 1)
    (v34 : FVec Ideal S1x1024 .f32) (v39 v41 : Vec Ideal S1x1x1024 .f32) (q : Fin 784) (n : Fin 1024) :
    k0_pay9 v15 v27 v31 v33 v34 v39 v41 (ix2 q n) = v27 (ix2 q n) * (Ideal.ofBits .f32 0x3F800000#32
      + Scalar.select (v15 (ix2 q 0)) (v39 (ix3 0 0 n)) (v41 (ix3 0 0 n))) + Scalar.select (v33 (ix2 q n)) (v34 (ix2 0 n)) (v31 (ix2 0 n)) := by
  pointwise [k0_pay9]

theorem pay7_apply (i : grid0.Coords) (q : Fin 784) (n : Fin 1024) : k0_pay7 i (ix2 q n) = k0_pay4 i (ix2 q 0) := by
  unfold k0_pay7
  generalize k0_pay4 i = y
  pointwise []
theorem pay6_apply (v : Vec Ideal S1x1x1024 .f32) (n : Fin 1024) : k0_pay6 v (ix2 0 n) = v (ix3 0 0 n) := by pointwise [k0_pay6]
theorem pay8_apply (v : Vec Ideal S1x1x1024 .f32) (n : Fin 1024) : k0_pay8 v (ix2 0 n) = v (ix3 0 0 n) := by pointwise [k0_pay8]

theorem pay15_apply (v15 : IVec S784x1 1) (v27 : FVec Ideal S784x1024 .f32) (v31 : FVec Ideal S1x1024 .f32) (v33 : IVec S784x1024 1)
    (v34 : FVec Ideal S1x1024 .f32) (v39 v41 : Vec Ideal S1x1x1024 .f32) (w : Vec Ideal S1024x1536 .bf16) (q : Fin 784) (f : Fin 1536) :
    k0_pay15 v15 v27 v31 v33 v34 v39 v41 w (ix2 q f) = ∑ k : Fin 1024, k0_pay9 v15 v27 v31 v33 v34 v39 v41 (ix2 q k) * w (ix2 k f) := by
  unfold k0_pay15
  generalize k0_pay9 v15 v27 v31 v33 v34 v39 v41 = y
  pointwise []

theorem pay10_apply (v15 : IVec S784x1 1) (v27 : FVec Ideal S784x1024 .f32) (v31 : FVec Ideal S1x1024 .f32) (v33 : IVec S784x1024 1)
    (v34 : FVec Ideal S1x1024 .f32) (v39 v41 : Vec Ideal S1x1x1024 .f32) (r : Fin 768) (n : Fin 1024) :
    k0_pay10 v15 v27 v31 v33 v34 v39 v41 (ix2 r n) = k0_pay9 v15 v27 v31 v33 v34 v39 v41 (ix2 ⟨8 + r.val, by omega⟩ n) := by
  unfold k0_pay10
  generalize k0_pay9 v15 v27 v31 v33 v34 v39 v41 = y
  pointwise []

theorem pay16_apply (v15 : IVec S784x1 1) (v27 : FVec Ideal S784x1024 .f32) (v31 : FVec Ideal S1x1024 .f32) (v33 : IVec S784x1024 1)
    (v34 : FVec Ideal S1x1024 .f32) (v39 v41 : Vec Ideal S1x1x1024 .f32) (w : Vec Ideal S1024x1536 .bf16) (r : Fin 768) (f : Fin 1536) :
    k0_pay16 v15 v27 v31 v33 v34 v39 v41 w (ix2 r f) = ∑ k : Fin 1024, k0_pay10 v15 v27 v31 v33 v34 v39 v41 (ix2 r k) * w (ix2 k f) := by
  unfold k0_pay16
  generalize k0_pay10 v15 v27 v31 v33 v34 v39 v41 = y
  pointwise []

theorem pay17_apply (y : FVec Ideal S784x1024 .bf16) (w : Vec Ideal S1024x1280 .bf16) (q : Fin 784) (f : Fin 1280) :
    k0_pay17 y w (ix2 q f) = ∑ k : Fin 1024, y (ix2 q k) * w (ix2 k f) := by
  pointwise [k0_pay17]

theorem pay18_apply (y : FVec Ideal S768x1024 .bf16) (w : Vec Ideal S1024x1280 .bf16) (r : Fin 768) (f : Fin 1280) :
    k0_pay18 y w (ix2 r f) = ∑ k : Fin 1024, y (ix2 r k) * w (ix2 k f) := by
  pointwise [k0_pay18]

theorem sel_mul (c : BitVec 1) (x w : EReal) : Scalar.select c x 0 * w = Scalar.select c (x * w) 0 := by
  unfold Scalar.select
  split
  · rfl
  · exact zero_mul w

theorem rot (r : Fin 768) : (8 + r.val + 784 - 1) % 784 = 7 + r.val ∧ (8 + r.val + 784 - 783) % 784 = 9 + r.val := by omega

theorem pay19_apply (v61 v66 : IVec S768x1 1) (v70 : FVec Ideal S784x1536 .f32) (v92 v96 v100 v104 : Vec Ideal S1x1536 .f32) (r : Fin 768) (f : Fin 1536) :
    k0_pay19 v61 v66 v70 v92 v96 v100 v104 (ix2 r f) = conv
      (Scalar.select (v61 (ix2 r 0)) (v70 (ix2 ⟨7 + r.val, by omega⟩ f)) 0) (v70 (ix2 ⟨8 + r.val, by omega⟩ f))
      (Scalar.select (v66 (ix2 r 0)) (v70 (ix2 ⟨9 + r.val, by omega⟩ f)) 0)
      (v92 (ix2 0 f)) (v96 (ix2 0 f)) (v100 (ix2 0 f)) (v104 (ix2 0 f)) := by
  unfold conv
  rw [sel_mul, sel_mul]
  pointwise [k0_pay19]
  simp only [rot]

theorem pay24_apply (v61 v66 : IVec S768x1 1) (v70 : FVec Ideal S784x1280 .f32) (v92 v96 v100 v104 : Vec Ideal S1x1280 .f32) (r : Fin 768) (f : Fin 1280) :
    k0_pay24 v61 v66 v70 v92 v96 v100 v104 (ix2 r f) = conv
      (Scalar.select (v61 (ix2 r 0)) (v70 (ix2 ⟨7 + r.val, by omega⟩ f)) 0) (v70 (ix2 ⟨8 + r.val, by omega⟩ f))
      (Scalar.select (v66 (ix2 r 0)) (v70 (ix2 ⟨9 + r.val, by omega⟩ f)) 0)
      (v92 (ix2 0 f)) (v96 (ix2 0 f)) (v100 (ix2 0 f)) (v104 (ix2 0 f)) := by
  unfold conv
  rw [sel_mul, sel_mul]
  pointwise [k0_pay24]
  simp only [rot]

/-- The first chunk's part of the sum over the hidden columns. -/
theorem pay23_apply (v61 v66 : IVec S768x1 1) (v70 : FVec Ideal S784x1536 .f32) (v92 v96 v100 v104 : Vec Ideal S1x1536 .f32)
    (v73 : FVec Ideal S768x1536 .f32) (w : Vec Ideal S1536x1024 .bf16) (r : Fin 768) (n : Fin 1024) :
    k0_pay23 (k0_pay14 (F := Ideal)) v73 (k0_pay20 v61 v66 v70 v92 v96 v100 v104) (k0_pay21 v61 v66 v70 v92 v96 v100 v104) (k0_pay22 (F := Ideal)) w (ix2 r n)
      = ∑ f : Fin 1536, glu (k0_pay19 v61 v66 v70 v92 v96 v100 v104 (ix2 r f)) (v73 (ix2 r f)) * w (ix2 f n) := by
  unfold k0_pay20 k0_pay21 glu
  generalize k0_pay19 v61 v66 v70 v92 v96 v100 v104 = y
  pointwise [k0_pay23, k0_pay14, k0_pay22]

/-- The result, with the second chunk's part. -/
theorem pay1_apply (v1 : FVec Ideal S768x1024 .f32) (v56 : IVec S768x1 32) (v79 : FVec Ideal S768x1280 .f32) (v126 : FVec Ideal S768x1024 .f32)
    (v61 v66 : IVec S768x1 1) (v76 : FVec Ideal S784x1280 .f32) (v92 v96 v100 v104 : Vec Ideal S1x1280 .f32)
    (w : Vec Ideal S1280x1024 .bf16) (v176 v178 : Vec Ideal S1x1x1024 .f32) (r : Fin 768) (n : Fin 1024) :
    k0_pay1 v1 v56 v79 v126 (k0_pay24 v61 v66 v76 v92 v96 v100 v104) (k0_pay25 v61 v66 v76 v92 v96 v100 v104) (k0_pay26 v61 v66 v76 v92 v96 v100 v104) w v176 v178 (ix3 0 r n)
      = v1 (ix2 r n) + Scalar.select (IntOp.cmpi .slt (v56 (ix2 r 0)) 256#32) (v176 (ix3 0 0 n)) (v178 (ix3 0 0 n))
        * (v126 (ix2 r n) + ∑ f : Fin 1280, glu (k0_pay24 v61 v66 v76 v92 v96 v100 v104 (ix2 r f)) (v79 (ix2 r f)) * w (ix2 f n)) := by
  unfold k0_pay25 k0_pay26 glu
  generalize k0_pay24 v61 v66 v76 v92 v96 v100 v104 = y
  pointwise [k0_pay1]

/-- The place of row `q` of grid step `a`'s tile and halos among the positions, as the kernel computes it. -/
def place (a : ℕ) (q : ℕ) : BitVec 32 := BitVec.ofNat 32 a * 768#32 - 8#32 + BitVec.ofNat 32 q

theorem pay3_apply (i : grid0.Coords) (q : Fin 784) : k0_pay3 i (ix2 q 0) = place (i 1).val q.val := by
  unfold place
  pointwise [k0_pay3]
  rfl

theorem pay4_apply (i : grid0.Coords) (q : Fin 784) : k0_pay4 i (ix2 q 0) = IntOp.cmpi .slt (place (i 1).val q.val) 256#32 := by
  rw [← pay3_apply]
  unfold k0_pay4
  generalize k0_pay3 i = y
  pointwise []

theorem pay11_apply (y : IVec S784x1 32) (r : Fin 768) : k0_pay11 y (ix2 r 0) = y (ix2 ⟨8 + r.val, by omega⟩ 0) := by
  pointwise [k0_pay11]

theorem pay12_apply (y : IVec S784x1 32) (r : Fin 768) : k0_pay12 y (ix2 r 0)
    = IntOp.andi (IntOp.cmpi .ne (y (ix2 ⟨8 + r.val, by omega⟩ 0)) 0#32) (IntOp.cmpi .ne (y (ix2 ⟨8 + r.val, by omega⟩ 0)) 256#32) := by
  rw [← pay11_apply y r]
  unfold k0_pay12
  generalize k0_pay11 y = z
  pointwise []

theorem pay13_apply (y : IVec S784x1 32) (r : Fin 768) : k0_pay13 y (ix2 r 0)
    = IntOp.andi (IntOp.cmpi .ne (y (ix2 ⟨8 + r.val, by omega⟩ 0)) 255#32) (IntOp.cmpi .ne (y (ix2 ⟨8 + r.val, by omega⟩ 0)) 8447#32) := by
  rw [← pay11_apply y r]
  unfold k0_pay13
  generalize k0_pay11 y = z
  pointwise []

end Cert.Ffn.Ker

end
-- ==== Proof.FfnBlock.lean ====
/- One tile of the feed-forward kernel's result, from its blocks. -/
module

public import proofs.«01_k».proof.Proof.FfnBody
public import proofs.«01_k».proof.Proof.Gen.Kernel2Ideal.Frame
public import Idealize.ShloMosaic.Lib.Pipeline.ValueKit
public import Idealize.ShloMosaic.Lib.Pipeline.ValueKit.Tiles

@[expose] public section

set_option maxRecDepth 16384

noncomputable section

namespace Cert.Ffn.Ker

open Idealize.ShloMosaic Cert.Kernel2Ideal Cert.Kernel2Ideal.Gen Cert.Ffn

/-- Row `k` of the modulation, read alone. -/
theorem ld_mod (x3 : Vec Ideal S1x16x1024 .f32) (k : ℕ) (hk : k < 16) (inb) (n : Fin 1024) :
    View.ld (e' := .f32) x3 (Rect.unit (s := S1x16x1024) ![0, k, 0] S1x1x1024.size inb) (ix3 0 0 n) = x3 (ix3 0 ⟨k, hk⟩ n) :=
  View.ld_unit_apply_of x3 _ _ inb (ix3 0 0 n) (ix3 0 ⟨k, hk⟩ n)
    fun a => match a with | ⟨0, _⟩ => rfl | ⟨1, _⟩ => rfl | ⟨2, _⟩ => (Nat.zero_add _).symm

/-- The first chunk's columns of a projection up. -/
theorem ld_up0 (x : Vec Ideal S1024x2816 .bf16) (k : Fin 1024) (f : Fin 1536) :
    View.ld (e' := .bf16) x r0_7 (ix2 k f) = x (ix2 k ⟨f.val, by omega⟩) :=
  View.ld_unit_apply_of x _ _ _ (ix2 k f) _ fun a => match a with | ⟨0, _⟩ => (Nat.zero_add _).symm | ⟨1, _⟩ => (Nat.zero_add _).symm
/-- The second chunk's columns of a projection up. -/
theorem ld_up1 (x : Vec Ideal S1024x2816 .bf16) (k : Fin 1024) (f : Fin 1280) :
    View.ld (e' := .bf16) x r0_8 (ix2 k f) = x (ix2 k ⟨1536 + f.val, by omega⟩) :=
  View.ld_unit_apply_of x _ _ _ (ix2 k f) _ fun a => match a with | ⟨0, _⟩ => (Nat.zero_add _).symm | ⟨1, _⟩ => rfl
/-- The first chunk's columns of one tap. -/
theorem ld_tap0 (x : Vec Ideal S3x2816 .f32) (k : ℕ) (hk : k < 3) (inb) (f : Fin 1536) :
    View.ld (e' := .f32) x (Rect.unit (s := S3x2816) ![k, 0] S1x1536.size inb) (ix2 0 f) = x (ix2 ⟨k, hk⟩ ⟨f.val, by omega⟩) :=
  View.ld_unit_apply_of x _ _ inb (ix2 0 f) _ fun a => match a with | ⟨0, _⟩ => rfl | ⟨1, _⟩ => (Nat.zero_add _).symm
/-- The second chunk's columns of one tap. -/
theorem ld_tap1 (x : Vec Ideal S3x2816 .f32) (k : ℕ) (hk : k < 3) (inb) (f : Fin 1280) :
    View.ld (e' := .f32) x (Rect.unit (s := S3x2816) ![k, 1536] S1x1280.size inb) (ix2 0 f) = x (ix2 ⟨k, hk⟩ ⟨1536 + f.val, by omega⟩) :=
  View.ld_unit_apply_of x _ _ inb (ix2 0 f) _ fun a => match a with | ⟨0, _⟩ => rfl | ⟨1, _⟩ => rfl
/-- The first chunk of the bias. -/
theorem ld_bias0 (x : Vec Ideal S1x2816 .f32) (f : Fin 1536) :
    View.ld (e' := .f32) x r0_12 (ix2 0 f) = x (ix2 0 ⟨f.val, by omega⟩) :=
  View.ld_unit_apply_of x _ _ _ (ix2 0 f) _ fun a => match a with | ⟨0, _⟩ => rfl | ⟨1, _⟩ => (Nat.zero_add _).symm
/-- The second chunk of the bias. -/
theorem ld_bias1 (x : Vec Ideal S1x2816 .f32) (f : Fin 1280) :
    View.ld (e' := .f32) x r0_17 (ix2 0 f) = x (ix2 0 ⟨1536 + f.val, by omega⟩) :=
  View.ld_unit_apply_of x _ _ _ (ix2 0 f) _ fun a => match a with | ⟨0, _⟩ => rfl | ⟨1, _⟩ => rfl
/-- The first chunk's rows of the projection down. -/
theorem ld_down0 (x : Vec Ideal S2816x1024 .bf16) (f : Fin 1536) (n : Fin 1024) :
    View.ld (e' := .bf16) x r0_13 (ix2 f n) = x (ix2 ⟨f.val, by omega⟩ n) :=
  View.ld_unit_apply_of x _ _ _ (ix2 f n) _ fun a => match a with | ⟨0, _⟩ => (Nat.zero_add _).symm | ⟨1, _⟩ => (Nat.zero_add _).symm
/-- The second chunk's rows of the projection down. -/
theorem ld_down1 (x : Vec Ideal S2816x1024 .bf16) (f : Fin 1280) (n : Fin 1024) :
    View.ld (e' := .bf16) x r0_18 (ix2 f n) = x (ix2 ⟨1536 + f.val, by omega⟩ n) :=
  View.ld_unit_apply_of x _ _ _ (ix2 f n) _ fun a => match a with | ⟨0, _⟩ => rfl | ⟨1, _⟩ => (Nat.zero_add _).symm
theorem ld0 (x : Vec Ideal S1x768x1024 .f32) : View.ld (e' := .f32) x r0_0 = x :=
  View.ld_unit_lit inb_S1x768x1024_S1x768x1024_0_0_0 x (by decide)
theorem ld1 (x : Vec Ideal S1x8x1024 .f32) : View.ld (e' := .f32) x r0_1 = x :=
  View.ld_unit_lit inb_S1x8x1024_S1x8x1024_0_0_0 x (by decide)
theorem ld2 (x : Vec Ideal S1x1024 .f32) : View.ld (e' := .f32) x r0_2 = x :=
  View.ld_unit_lit inb_S1x1024_S1x1024_0_0 x (by decide)

section
variable (i : grid0.Coords) (x0 : Vec Ideal S1x768x1024 .f32) (x1 x2 : Vec Ideal S1x8x1024 .f32) (x3 : Vec Ideal S1x16x1024 .f32)
  (x4 : Vec Ideal S1x1024 .f32) (x5 x6 : Vec Ideal S1024x2816 .bf16) (x7 : Vec Ideal S3x2816 .f32) (x8 : Vec Ideal S1x2816 .f32)
  (x9 : Vec Ideal S2816x1024 .bf16)

/-- Whether place `q` lies in the context, as the kernel decides it. -/
def inCtx (q : ℕ) : BitVec 1 := IntOp.cmpi .slt (place (i 1).val q) 256#32

/-- Row `q` normed and modulated. -/
def bH (q : Fin 784) (n : Fin 1024) : EReal :=
  hrow (bRow x0 x1 x2 q) (fun n => x4 (ix2 0 n)) (fun n => Scalar.select (inCtx i q.val) (x3 (ix3 0 3 n)) (x3 (ix3 0 11 n)))
    (fun n => Scalar.select (inCtx i q.val) (x3 (ix3 0 4 n)) (x3 (ix3 0 12 n))) n

/-- Row `q`'s product with column `f` of a half of the projection up. -/
def bU (x : Vec Ideal S1024x2816 .bf16) (q : Fin 784) (f : Fin 2816) : EReal :=
  ∑ k : Fin 1024, bH i x0 x1 x2 x3 x4 q k * x (ix2 k f)

/-- Whether a row has a neighbour before it, as the kernel decides it. -/
def hasPrev (r : Fin 768) : BitVec 1 :=
  IntOp.andi (IntOp.cmpi .ne (place (i 1).val (8 + r.val)) 0#32) (IntOp.cmpi .ne (place (i 1).val (8 + r.val)) 256#32)
/-- Whether a row has a neighbour after it, as the kernel decides it. -/
def hasNext (r : Fin 768) : BitVec 1 :=
  IntOp.andi (IntOp.cmpi .ne (place (i 1).val (8 + r.val)) 255#32) (IntOp.cmpi .ne (place (i 1).val (8 + r.val)) 8447#32)

/-- The gate after the convolution. -/
def bC (r : Fin 768) (f : Fin 2816) : EReal :=
  conv (Scalar.select (hasPrev i r) (bU i x0 x1 x2 x3 x4 x5 ⟨7 + r.val, by omega⟩ f) 0) (bU i x0 x1 x2 x3 x4 x5 ⟨8 + r.val, by omega⟩ f)
    (Scalar.select (hasNext i r) (bU i x0 x1 x2 x3 x4 x5 ⟨9 + r.val, by omega⟩ f) 0)
    (x7 (ix2 0 f)) (x7 (ix2 1 f)) (x7 (ix2 2 f)) (x8 (ix2 0 f))

/-- The kernel's normed and modulated rows. -/
def kH : FVec Ideal S784x1024 .bf16 :=
  k0_pay9 (k0_pay28 i x0 x1 x2 x3 x4 x5 x6 x7 x8 x9) (k0_pay29 i x0 x1 x2 x3 x4 x5 x6 x7 x8 x9) (k0_pay30 i x0 x1 x2 x3 x4 x5 x6 x7 x8 x9)
    (k0_pay31 i x0 x1 x2 x3 x4 x5 x6 x7 x8 x9) (k0_pay32 i x0 x1 x2 x3 x4 x5 x6 x7 x8 x9) (View.ld x3 r0_5) (View.ld x3 r0_6)

theorem kH_apply (q : Fin 784) (n : Fin 1024) : kH i x0 x1 x2 x3 x4 x5 x6 x7 x8 x9 (ix2 q n) = bH i x0 x1 x2 x3 x4 q n := by
  unfold kH k0_pay28 k0_pay29 k0_pay30 k0_pay31 k0_pay32
  rw [pay9_apply, pay5_apply, pay7_apply, pay4_apply, pay6_apply, pay8_apply, ld0, ld1, ld1, ld2,
    ld_mod x3 3 (by omega), ld_mod x3 4 (by omega), ld_mod x3 11 (by omega), ld_mod x3 12 (by omega)]
  rfl

theorem pay35_apply (q : Fin 784) (f : Fin 1536) :
    k0_pay35 i x0 x1 x2 x3 x4 x5 x6 x7 x8 x9 (ix2 q f) = bU i x0 x1 x2 x3 x4 x5 q ⟨f.val, by omega⟩ := by
  unfold k0_pay35
  rw [pay15_apply]
  exact Finset.sum_congr rfl fun k _ => congrArg₂ (· * ·) (kH_apply i x0 x1 x2 x3 x4 x5 x6 x7 x8 x9 q k) (ld_up0 x5 k f)

theorem pay36_apply (q : Fin 784) (f : Fin 1280) :
    k0_pay36 i x0 x1 x2 x3 x4 x5 x6 x7 x8 x9 (ix2 q f) = bU i x0 x1 x2 x3 x4 x5 q ⟨1536 + f.val, by omega⟩ := by
  unfold k0_pay36
  rw [pay17_apply]
  exact Finset.sum_congr rfl fun k _ => congrArg₂ (· * ·) (kH_apply i x0 x1 x2 x3 x4 x5 x6 x7 x8 x9 q k) (ld_up1 x5 k f)

theorem pay33_apply (r : Fin 768) : k0_pay33 i x0 x1 x2 x3 x4 x5 x6 x7 x8 x9 (ix2 r 0) = hasPrev i r := by
  unfold k0_pay33 k0_pay27
  rw [pay12_apply, pay3_apply]; rfl

theorem pay34_apply (r : Fin 768) : k0_pay34 i x0 x1 x2 x3 x4 x5 x6 x7 x8 x9 (ix2 r 0) = hasNext i r := by
  unfold k0_pay34 k0_pay27
  rw [pay13_apply, pay3_apply]; rfl

/-- The gate's first chunk after the convolution. -/
theorem gate0 (r : Fin 768) (f : Fin 1536) :
    k0_pay19 (k0_pay33 i x0 x1 x2 x3 x4 x5 x6 x7 x8 x9) (k0_pay34 i x0 x1 x2 x3 x4 x5 x6 x7 x8 x9) (k0_pay35 i x0 x1 x2 x3 x4 x5 x6 x7 x8 x9) (View.ld x7 r0_9) (View.ld x7 r0_10) (View.ld x7 r0_11) (View.ld x8 r0_12) (ix2 r f)
      = bC i x0 x1 x2 x3 x4 x5 x7 x8 r ⟨f.val, by omega⟩ := by
  rw [pay19_apply, pay33_apply, pay34_apply, pay35_apply, pay35_apply, pay35_apply, ld_tap0 x7 0 (by omega), ld_tap0 x7 1 (by omega), ld_tap0 x7 2 (by omega), ld_bias0]
  rfl

/-- The gate's second chunk after the convolution. -/
theorem gate1 (r : Fin 768) (f : Fin 1280) :
    k0_pay24 (k0_pay33 i x0 x1 x2 x3 x4 x5 x6 x7 x8 x9) (k0_pay34 i x0 x1 x2 x3 x4 x5 x6 x7 x8 x9) (k0_pay36 i x0 x1 x2 x3 x4 x5 x6 x7 x8 x9) (View.ld x7 r0_14) (View.ld x7 r0_15) (View.ld x7 r0_16) (View.ld x8 r0_17) (ix2 r f)
      = bC i x0 x1 x2 x3 x4 x5 x7 x8 r ⟨1536 + f.val, by omega⟩ := by
  rw [pay24_apply, pay33_apply, pay34_apply, pay36_apply, pay36_apply, pay36_apply, ld_tap1 x7 0 (by omega), ld_tap1 x7 1 (by omega), ld_tap1 x7 2 (by omega), ld_bias1]
  rfl

/-- A sum over the hidden columns is its two chunks' sums. -/
theorem chunks (y : Fin 2816 → EReal) :
    ∑ f : Fin 2816, y f = ∑ f : Fin 1536, y ⟨f.val, by omega⟩ + ∑ f : Fin 1280, y ⟨1536 + f.val, by omega⟩ :=
  Fin.sum_univ_add (a := 1536) (b := 1280) y

/-- The tile of the result, entry by entry. -/
theorem out_apply (r : Fin 768) (n : Fin 1024) :
    out0_10 i x0 x1 x2 x3 x4 x5 x6 x7 x8 x9 (ix3 0 r n)
      = x0 (ix3 0 r n) + Scalar.select (inCtx i (8 + r.val)) (x3 (ix3 0 5 n)) (x3 (ix3 0 13 n))
        * ∑ f : Fin 2816, glu (bC i x0 x1 x2 x3 x4 x5 x7 x8 r f) (bU i x0 x1 x2 x3 x4 x6 ⟨8 + r.val, by omega⟩ f) * x9 (ix2 f n) := by
  unfold out0_10
  rw [View.canon_cons_unit_lit inb_S1x768x1024_S1x768x1024_0_0_0 _ _ (by decide), pay1_apply, pay23_apply, pay2_apply, pay11_apply, ld0,
    ld_mod x3 5 (by omega), ld_mod x3 13 (by omega), chunks]
  have e0 : ∀ f : Fin 1536, k0_pay16 (k0_pay28 i x0 x1 x2 x3 x4 x5 x6 x7 x8 x9) (k0_pay29 i x0 x1 x2 x3 x4 x5 x6 x7 x8 x9) (k0_pay30 i x0 x1 x2 x3 x4 x5 x6 x7 x8 x9) (k0_pay31 i x0 x1 x2 x3 x4 x5 x6 x7 x8 x9) (k0_pay32 i x0 x1 x2 x3 x4 x5 x6 x7 x8 x9) (View.ld x3 r0_5) (View.ld x3 r0_6) (View.ld x6 r0_7) (ix2 r f)
      = bU i x0 x1 x2 x3 x4 x6 ⟨8 + r.val, by omega⟩ ⟨f.val, by omega⟩ := fun f => by
    rw [pay16_apply]
    refine Finset.sum_congr rfl fun k _ => congrArg₂ (· * ·) ?_ (ld_up0 x6 k f)
    rw [pay10_apply]
    exact kH_apply i x0 x1 x2 x3 x4 x5 x6 x7 x8 x9 _ k
  have e1 : ∀ f : Fin 1280, k0_pay18 (k0_pay10 (k0_pay28 i x0 x1 x2 x3 x4 x5 x6 x7 x8 x9) (k0_pay29 i x0 x1 x2 x3 x4 x5 x6 x7 x8 x9) (k0_pay30 i x0 x1 x2 x3 x4 x5 x6 x7 x8 x9) (k0_pay31 i x0 x1 x2 x3 x4 x5 x6 x7 x8 x9) (k0_pay32 i x0 x1 x2 x3 x4 x5 x6 x7 x8 x9) (View.ld x3 r0_5) (View.ld x3 r0_6)) (View.ld x6 r0_8) (ix2 r f)
      = bU i x0 x1 x2 x3 x4 x6 ⟨8 + r.val, by omega⟩ ⟨1536 + f.val, by omega⟩ := fun f => by
    rw [pay18_apply]
    refine Finset.sum_congr rfl fun k _ => congrArg₂ (· * ·) ?_ (ld_up1 x6 k f)
    rw [pay10_apply]
    exact kH_apply i x0 x1 x2 x3 x4 x5 x6 x7 x8 x9 _ k
  have e2 : k0_pay27 i x0 x1 x2 x3 x4 x5 x6 x7 x8 x9 (ix2 ⟨8 + r.val, by omega⟩ 0) = place (i 1).val (8 + r.val) := by
    unfold k0_pay27; exact pay3_apply i _
  simp only [e0, e1, e2, gate0, gate1]
  refine congrArg₂ (· + ·) rfl (congrArg₂ (· * ·) rfl (congrArg₂ (· + ·) (Finset.sum_congr rfl fun f _ => congrArg₂ (· * ·) rfl ?_)
    (Finset.sum_congr rfl fun f _ => congrArg₂ (· * ·) rfl ?_)))
  · exact ld_down0 x9 f n
  · exact ld_down1 x9 f n

end

end Cert.Ffn.Ker

end
-- ==== Proof.FfnGrid.lean ====
/- The feed-forward kernel's grid: which blocks of the arrays a point reads. -/
module

public import proofs.«01_k».proof.Proof.FfnBlock
public import proofs.«01_k».proof.Proof.Gen.Kernel2Ideal.Value

@[expose] public section

set_option maxRecDepth 16384

noncomputable section

namespace Cert.Ffn.Ker

open Idealize.ShloMosaic Idealize.ShloMosaic.TcCoe Idealize.SL.Sem Cert.Kernel2Ideal Cert.Kernel2Ideal.Gen Cert.Ffn

/-- A point's step along the positions. -/
theorem coord1 : ∀ t : Fin cfg0.N, (grid0.coords t 1).val = t.val % 11 :=
  (by decide +kernel : ∀ t : Fin grid0.N, _)
/-- Where window 0 stands at each grid point. -/
theorem idx0 : ∀ t : Fin cfg0.N, win0_0.index t (0 : Fin 3) = t.val / 11 ∧ win0_0.index t (1 : Fin 3) = t.val % 11 ∧ win0_0.index t (2 : Fin 3) = 0 :=
  (by decide +kernel : ∀ t : Fin grid0.N, _)
/-- Where window 1 stands at each grid point. -/
theorem idx1 : ∀ t : Fin cfg0.N, win0_1.index t (0 : Fin 3) = t.val / 11 ∧ win0_1.index t (1 : Fin 3) = 96 * (t.val % 11) - 1 ∧ win0_1.index t (2 : Fin 3) = 0 :=
  (by decide +kernel : ∀ t : Fin grid0.N, _)
/-- Where window 2 stands at each grid point. -/
theorem idx2 : ∀ t : Fin cfg0.N, win0_2.index t (0 : Fin 3) = t.val / 11 ∧ win0_2.index t (1 : Fin 3) = min (96 * (t.val % 11 + 1)) 1055 ∧ win0_2.index t (2 : Fin 3) = 0 :=
  (by decide +kernel : ∀ t : Fin grid0.N, _)
/-- Where window 3 stands at each grid point. -/
theorem idx3 : ∀ t : Fin cfg0.N, win0_3.index t (0 : Fin 3) = t.val / 11 ∧ win0_3.index t (1 : Fin 3) = 0 ∧ win0_3.index t (2 : Fin 3) = 0 :=
  (by decide +kernel : ∀ t : Fin grid0.N, _)
/-- Where window 4 stands at each grid point. -/
theorem idx4 : ∀ t : Fin cfg0.N, win0_4.index t (0 : Fin 2) = 0 ∧ win0_4.index t (1 : Fin 2) = 0 :=
  (by decide +kernel : ∀ t : Fin grid0.N, _)
/-- Where window 5 stands at each grid point. -/
theorem idx5 : ∀ t : Fin cfg0.N, win0_5.index t (0 : Fin 2) = 0 ∧ win0_5.index t (1 : Fin 2) = 0 :=
  (by decide +kernel : ∀ t : Fin grid0.N, _)
/-- Where window 6 stands at each grid point. -/
theorem idx6 : ∀ t : Fin cfg0.N, win0_6.index t (0 : Fin 2) = 0 ∧ win0_6.index t (1 : Fin 2) = 0 :=
  (by decide +kernel : ∀ t : Fin grid0.N, _)
/-- Where window 7 stands at each grid point. -/
theorem idx7 : ∀ t : Fin cfg0.N, win0_7.index t (0 : Fin 2) = 0 ∧ win0_7.index t (1 : Fin 2) = 0 :=
  (by decide +kernel : ∀ t : Fin grid0.N, _)
/-- Where window 8 stands at each grid point. -/
theorem idx8 : ∀ t : Fin cfg0.N, win0_8.index t (0 : Fin 2) = 0 ∧ win0_8.index t (1 : Fin 2) = 0 :=
  (by decide +kernel : ∀ t : Fin grid0.N, _)
/-- Where window 9 stands at each grid point. -/
theorem idx9 : ∀ t : Fin cfg0.N, win0_9.index t (0 : Fin 2) = 0 ∧ win0_9.index t (1 : Fin 2) = 0 :=
  (by decide +kernel : ∀ t : Fin grid0.N, _)
/-- Where window 10 stands at each grid point. -/
theorem idx10 : ∀ t : Fin cfg0.N, win0_10.index t (0 : Fin 3) = t.val / 11 ∧ win0_10.index t (1 : Fin 3) = t.val % 11 ∧ win0_10.index t (2 : Fin 3) = 0 :=
  (by decide +kernel : ∀ t : Fin grid0.N, _)

variable (m : (ℓ : Loc nD τ sig) → Buf (Elt Ideal) ℓ)

/-- Window 0's block at point `t`, entry by entry. -/
theorem iblk0_apply (c : Dev nD) (t : Fin cfg0.N) (y : S1x768x1024.Idx) (z : S4x8448x1024.Idx) (h0 : (z 0).val = (t.val / 11) * 1 + (y 0).val) (h1 : (z 1).val = (t.val % 11) * 768 + (y 1).val) (h2 : (z 2).val = (0) * 1024 + (y 2).val) : iblk m c 0 t y = m ((c : Thread nD τ).loc main_arg0) z := by
  obtain ⟨e0, e1, e2⟩ := idx0 t
  show V m c main_arg0 (((cfg0.win 0).blk t).view.emb y) = _
  have hz : ((cfg0.win 0).blk t).view.emb y = z := by
    funext a; apply Fin.ext
    match a with
    | ⟨0, _⟩ => show win0_0.index t (0 : Fin 3) * 1 + 1 * (y 0).val = (z 0).val; rw [h0, e0, one_mul]
    | ⟨1, _⟩ => show win0_0.index t (1 : Fin 3) * 768 + 1 * (y 1).val = (z 1).val; rw [h1, e1, one_mul]
    | ⟨2, _⟩ => show win0_0.index t (2 : Fin 3) * 1024 + 1 * (y 2).val = (z 2).val; rw [h2, e2, one_mul]
  rw [hz]; exact congrFun (V_main_arg0 m c) z

/-- Window 1's block at point `t`, entry by entry. -/
theorem iblk1_apply (c : Dev nD) (t : Fin cfg0.N) (y : S1x8x1024.Idx) (z : S4x8448x1024.Idx) (h0 : (z 0).val = (t.val / 11) * 1 + (y 0).val) (h1 : (z 1).val = (96 * (t.val % 11) - 1) * 8 + (y 1).val) (h2 : (z 2).val = (0) * 1024 + (y 2).val) : iblk m c 1 t y = m ((c : Thread nD τ).loc main_arg0) z := by
  obtain ⟨e0, e1, e2⟩ := idx1 t
  show V m c main_arg0 (((cfg0.win 1).blk t).view.emb y) = _
  have hz : ((cfg0.win 1).blk t).view.emb y = z := by
    funext a; apply Fin.ext
    match a with
    | ⟨0, _⟩ => show win0_1.index t (0 : Fin 3) * 1 + 1 * (y 0).val = (z 0).val; rw [h0, e0, one_mul]
    | ⟨1, _⟩ => show win0_1.index t (1 : Fin 3) * 8 + 1 * (y 1).val = (z 1).val; rw [h1, e1, one_mul]
    | ⟨2, _⟩ => show win0_1.index t (2 : Fin 3) * 1024 + 1 * (y 2).val = (z 2).val; rw [h2, e2, one_mul]
  rw [hz]; exact congrFun (V_main_arg0 m c) z

/-- Window 2's block at point `t`, entry by entry. -/
theorem iblk2_apply (c : Dev nD) (t : Fin cfg0.N) (y : S1x8x1024.Idx) (z : S4x8448x1024.Idx) (h0 : (z 0).val = (t.val / 11) * 1 + (y 0).val) (h1 : (z 1).val = (min (96 * (t.val % 11 + 1)) 1055) * 8 + (y 1).val) (h2 : (z 2).val = (0) * 1024 + (y 2).val) : iblk m c 2 t y = m ((c : Thread nD τ).loc main_arg0) z := by
  obtain ⟨e0, e1, e2⟩ := idx2 t
  show V m c main_arg0 (((cfg0.win 2).blk t).view.emb y) = _
  have hz : ((cfg0.win 2).blk t).view.emb y = z := by
    funext a; apply Fin.ext
    match a with
    | ⟨0, _⟩ => show win0_2.index t (0 : Fin 3) * 1 + 1 * (y 0).val = (z 0).val; rw [h0, e0, one_mul]
    | ⟨1, _⟩ => show win0_2.index t (1 : Fin 3) * 8 + 1 * (y 1).val = (z 1).val; rw [h1, e1, one_mul]
    | ⟨2, _⟩ => show win0_2.index t (2 : Fin 3) * 1024 + 1 * (y 2).val = (z 2).val; rw [h2, e2, one_mul]
  rw [hz]; exact congrFun (V_main_arg0 m c) z

/-- Window 3's block at point `t`, entry by entry. -/
theorem iblk3_apply (c : Dev nD) (t : Fin cfg0.N) (y : S1x16x1024.Idx) (z : S4x16x1024.Idx) (h0 : (z 0).val = (t.val / 11) * 1 + (y 0).val) (h1 : (z 1).val = (0) * 16 + (y 1).val) (h2 : (z 2).val = (0) * 1024 + (y 2).val) : iblk m c 3 t y = V m c main_v3 z := by
  obtain ⟨e0, e1, e2⟩ := idx3 t
  show V m c main_v3 (((cfg0.win 3).blk t).view.emb y) = _
  have hz : ((cfg0.win 3).blk t).view.emb y = z := by
    funext a; apply Fin.ext
    match a with
    | ⟨0, _⟩ => show win0_3.index t (0 : Fin 3) * 1 + 1 * (y 0).val = (z 0).val; rw [h0, e0, one_mul]
    | ⟨1, _⟩ => show win0_3.index t (1 : Fin 3) * 16 + 1 * (y 1).val = (z 1).val; rw [h1, e1, one_mul]
    | ⟨2, _⟩ => show win0_3.index t (2 : Fin 3) * 1024 + 1 * (y 2).val = (z 2).val; rw [h2, e2, one_mul]
  rw [hz]

/-- Window 4's block at point `t`, entry by entry. -/
theorem iblk4_apply (c : Dev nD) (t : Fin cfg0.N) (y : S1x1024.Idx) (z : S1x1024.Idx) (h0 : (z 0).val = (0) * 1 + (y 0).val) (h1 : (z 1).val = (0) * 1024 + (y 1).val) : iblk m c 4 t y = V m c main_v9 z := by
  obtain ⟨e0, e1⟩ := idx4 t
  show V m c main_v9 (((cfg0.win 4).blk t).view.emb y) = _
  have hz : ((cfg0.win 4).blk t).view.emb y = z := by
    funext a; apply Fin.ext
    match a with
    | ⟨0, _⟩ => show win0_4.index t (0 : Fin 2) * 1 + 1 * (y 0).val = (z 0).val; rw [h0, e0, one_mul]
    | ⟨1, _⟩ => show win0_4.index t (1 : Fin 2) * 1024 + 1 * (y 1).val = (z 1).val; rw [h1, e1, one_mul]
  rw [hz]

/-- Window 5's block at point `t`, entry by entry. -/
theorem iblk5_apply (c : Dev nD) (t : Fin cfg0.N) (y : S1024x2816.Idx) (z : S1024x2816.Idx) (h0 : (z 0).val = (0) * 1024 + (y 0).val) (h1 : (z 1).val = (0) * 2816 + (y 1).val) : iblk m c 5 t y = V m c main_v5 z := by
  obtain ⟨e0, e1⟩ := idx5 t
  show V m c main_v5 (((cfg0.win 5).blk t).view.emb y) = _
  have hz : ((cfg0.win 5).blk t).view.emb y = z := by
    funext a; apply Fin.ext
    match a with
    | ⟨0, _⟩ => show win0_5.index t (0 : Fin 2) * 1024 + 1 * (y 0).val = (z 0).val; rw [h0, e0, one_mul]
    | ⟨1, _⟩ => show win0_5.index t (1 : Fin 2) * 2816 + 1 * (y 1).val = (z 1).val; rw [h1, e1, one_mul]
  rw [hz]

/-- Window 6's block at point `t`, entry by entry. -/
theorem iblk6_apply (c : Dev nD) (t : Fin cfg0.N) (y : S1024x2816.Idx) (z : S1024x2816.Idx) (h0 : (z 0).val = (0) * 1024 + (y 0).val) (h1 : (z 1).val = (0) * 2816 + (y 1).val) : iblk m c 6 t y = V m c main_v7 z := by
  obtain ⟨e0, e1⟩ := idx6 t
  show V m c main_v7 (((cfg0.win 6).blk t).view.emb y) = _
  have hz : ((cfg0.win 6).blk t).view.emb y = z := by
    funext a; apply Fin.ext
    match a with
    | ⟨0, _⟩ => show win0_6.index t (0 : Fin 2) * 1024 + 1 * (y 0).val = (z 0).val; rw [h0, e0, one_mul]
    | ⟨1, _⟩ => show win0_6.index t (1 : Fin 2) * 2816 + 1 * (y 1).val = (z 1).val; rw [h1, e1, one_mul]
  rw [hz]

/-- Window 7's block at point `t`, entry by entry. -/
theorem iblk7_apply (c : Dev nD) (t : Fin cfg0.N) (y : S3x2816.Idx) (z : S3x2816.Idx) (h0 : (z 0).val = (0) * 3 + (y 0).val) (h1 : (z 1).val = (0) * 2816 + (y 1).val) : iblk m c 7 t y = m ((c : Thread nD τ).loc main_arg5) z := by
  obtain ⟨e0, e1⟩ := idx7 t
  show V m c main_arg5 (((cfg0.win 7).blk t).view.emb y) = _
  have hz : ((cfg0.win 7).blk t).view.emb y = z := by
    funext a; apply Fin.ext
    match a with
    | ⟨0, _⟩ => show win0_7.index t (0 : Fin 2) * 3 + 1 * (y 0).val = (z 0).val; rw [h0, e0, one_mul]
    | ⟨1, _⟩ => show win0_7.index t (1 : Fin 2) * 2816 + 1 * (y 1).val = (z 1).val; rw [h1, e1, one_mul]
  rw [hz]; exact congrFun (V_main_arg5 m c) z

/-- Window 8's block at point `t`, entry by entry. -/
theorem iblk8_apply (c : Dev nD) (t : Fin cfg0.N) (y : S1x2816.Idx) (z : S1x2816.Idx) (h0 : (z 0).val = (0) * 1 + (y 0).val) (h1 : (z 1).val = (0) * 2816 + (y 1).val) : iblk m c 8 t y = V m c main_v10 z := by
  obtain ⟨e0, e1⟩ := idx8 t
  show V m c main_v10 (((cfg0.win 8).blk t).view.emb y) = _
  have hz : ((cfg0.win 8).blk t).view.emb y = z := by
    funext a; apply Fin.ext
    match a with
    | ⟨0, _⟩ => show win0_8.index t (0 : Fin 2) * 1 + 1 * (y 0).val = (z 0).val; rw [h0, e0, one_mul]
    | ⟨1, _⟩ => show win0_8.index t (1 : Fin 2) * 2816 + 1 * (y 1).val = (z 1).val; rw [h1, e1, one_mul]
  rw [hz]

/-- Window 9's block at point `t`, entry by entry. -/
theorem iblk9_apply (c : Dev nD) (t : Fin cfg0.N) (y : S2816x1024.Idx) (z : S2816x1024.Idx) (h0 : (z 0).val = (0) * 2816 + (y 0).val) (h1 : (z 1).val = (0) * 1024 + (y 1).val) : iblk m c 9 t y = V m c main_v8 z := by
  obtain ⟨e0, e1⟩ := idx9 t
  show V m c main_v8 (((cfg0.win 9).blk t).view.emb y) = _
  have hz : ((cfg0.win 9).blk t).view.emb y = z := by
    funext a; apply Fin.ext
    match a with
    | ⟨0, _⟩ => show win0_9.index t (0 : Fin 2) * 2816 + 1 * (y 0).val = (z 0).val; rw [h0, e0, one_mul]
    | ⟨1, _⟩ => show win0_9.index t (1 : Fin 2) * 1024 + 1 * (y 1).val = (z 1).val; rw [h1, e1, one_mul]
  rw [hz]

end Cert.Ffn.Ker

end
-- ==== Proof.FfnHost.lean ====
/- The arrays the host prepares before the feed-forward call. -/
module

public import proofs.«01_k».proof.Proof.FfnGrid
public import Idealize.ShloMosaic.Lib.Pipeline.ValueKit

@[expose] public section

set_option maxRecDepth 16384

noncomputable section

namespace Cert.Ffn.Ker

open Idealize.ShloMosaic Idealize.ShloMosaic.TcCoe Idealize.SL.Sem Cert.Kernel2Ideal Cert.Kernel2Ideal.Gen Cert.Ffn

variable (m : (ℓ : Loc nD τ sig) → Buf (Elt Ideal) ℓ)

/-- The modulation array, as the host lays it out. -/
theorem V_mod (c : Dev nD) : V m c main_v3 = concatenate S4x16x1024 1
    [⟨S4x6x1024, broadcastInDim S4x6x1024 ![0, 1, 2] bcast_S1x6x1024_S4x6x1024_0_1_2 (broadcastInDim S1x6x1024 ![1, 2] bcast_S6x1024_S1x6x1024_1_2 (m ((c : Thread nD τ).loc main_arg2)))⟩,
     ⟨S4x2x1024, broadcastInDim S4x2x1024 ![] bcast_S_S4x2x1024 (constant (F := Ideal) S_ .f32 0x00000000#32)⟩,
     ⟨S4x6x1024, m ((c : Thread nD τ).loc main_arg1)⟩,
     ⟨S4x2x1024, broadcastInDim S4x2x1024 ![] bcast_S_S4x2x1024 (constant (F := Ideal) S_ .f32 0x00000000#32)⟩] concatenates_S4x6x1024_S4x2x1024_S4x6x1024_S4x2x1024_S4x16x1024_d1 := by
  show StableHlo.after hostOps0 _ (Proc.devRef .tc main_v3) = _
  after_results <;> rfl

/-- Rows 0 to 5 are the context's. -/
theorem V_mod_ctx (c : Dev nD) (b : Fin 4) (k : Fin 6) (n : Fin 1024) :
    V m c main_v3 (ix3 b ⟨k.val, by omega⟩ n) = m ((c : Thread nD τ).loc main_arg2) (ix2 k n) := by
  rw [V_mod]
  pointwise []

/-- Rows 8 to 13 are the batch's. -/
theorem V_mod_lat (c : Dev nD) (b : Fin 4) (k : Fin 6) (n : Fin 1024) :
    V m c main_v3 (ix3 b ⟨8 + k.val, by omega⟩ n) = m ((c : Thread nD τ).loc main_arg1) (ix3 b k n) := by
  rw [V_mod]
  pointwise []
  rw [dif_neg (by omega), dif_neg (by omega), dif_pos (by omega)]
  exact congrArg (fun q => m ((c : Thread nD τ).loc main_arg1) (ix3 b q n)) (Fin.ext (show 8 + k.val - 6 - 2 = k.val by omega))

/-- The gate's half of the projection up. -/
theorem V_gate (c : Dev nD) (k : Fin 1024) (f : Fin 2816) :
    V m c main_v5 (ix2 k f) = m ((c : Thread nD τ).loc main_arg4) (ix2 k (gcol f)) := by
  have e : V m c main_v5 = truncf (F := Ideal) .bf16 (extractStridedSlice S1024x2816 ![0, 0] (m ((c : Thread nD τ).loc main_arg4)) slices_S1024x5632_S1024x2816_0_0) bitsLt_bf16_f32 := by
    show StableHlo.after hostOps0 _ (Proc.devRef .tc main_v5) = _
    after_results <;> rfl
  rw [e]
  unfold gcol
  pointwise []

/-- The values' half of the projection up. -/
theorem V_val (c : Dev nD) (k : Fin 1024) (f : Fin 2816) :
    V m c main_v7 (ix2 k f) = m ((c : Thread nD τ).loc main_arg4) (ix2 k (vcol f)) := by
  have e : V m c main_v7 = truncf (F := Ideal) .bf16 (extractStridedSlice S1024x2816 ![0, 2816] (m ((c : Thread nD τ).loc main_arg4)) slices_S1024x5632_S1024x2816_0_2816) bitsLt_bf16_f32 := by
    show StableHlo.after hostOps0 _ (Proc.devRef .tc main_v7) = _
    after_results <;> rfl
  rw [e]
  unfold vcol
  pointwise []

/-- The projection down. -/
theorem V_down (c : Dev nD) (f : Fin 2816) (n : Fin 1024) :
    V m c main_v8 (ix2 f n) = m ((c : Thread nD τ).loc main_arg7) (ix2 f n) := by
  have e : V m c main_v8 = truncf (F := Ideal) .bf16 (m ((c : Thread nD τ).loc main_arg7)) bitsLt_bf16_f32 := by
    show StableHlo.after hostOps0 _ (Proc.devRef .tc main_v8) = _
    after_results <;> rfl
  rw [e]
  pointwise []

/-- The norm's weights. -/
theorem V_norm (c : Dev nD) (n : Fin 1024) : V m c main_v9 (ix2 0 n) = m ((c : Thread nD τ).loc main_arg3) (ix1 n) := by
  have e : V m c main_v9 = broadcastInDim S1x1024 ![1] bcast_S1024_S1x1024_1 (m ((c : Thread nD τ).loc main_arg3)) := by
    show StableHlo.after hostOps0 _ (Proc.devRef .tc main_v9) = _
    after_results <;> rfl
  rw [e]
  pointwise []

/-- The convolution's bias. -/
theorem V_bias (c : Dev nD) (f : Fin 2816) : V m c main_v10 (ix2 0 f) = m ((c : Thread nD τ).loc main_arg6) (ix1 f) := by
  have e : V m c main_v10 = broadcastInDim S1x2816 ![1] bcast_S2816_S1x2816_1 (m ((c : Thread nD τ).loc main_arg6)) := by
    show StableHlo.after hostOps0 _ (Proc.devRef .tc main_v10) = _
    after_results <;> rfl
  rw [e]
  pointwise []

end Cert.Ffn.Ker

end
-- ==== Proof.FfnPlace.lean ====
/- Which segment a row lies in and which neighbours it has: what the kernel's word arithmetic decides. -/
module

public import proofs.«01_k».proof.Proof.FfnBlock

@[expose] public section

set_option maxRecDepth 16384

noncomputable section

namespace Cert.Ffn.Ker

open Idealize.ShloMosaic Cert.Kernel2Ideal Cert.Kernel2Ideal.Gen Cert.Ffn

theorem ctx_dec : ∀ a : Fin 11, ∀ q : Fin 784, IntOp.cmpi .slt (place a.val q.val) 256#32 = if a.val * 768 + q.val < 264 then 1#1 else 0#1 := by
  decide +kernel

theorem prev_dec : ∀ a : Fin 11, ∀ r : Fin 768, IntOp.andi (IntOp.cmpi .ne (place a.val (8 + r.val)) 0#32) (IntOp.cmpi .ne (place a.val (8 + r.val)) 256#32)
    = if a.val * 768 + r.val = 0 ∨ a.val * 768 + r.val = 256 then 0#1 else 1#1 := by
  decide +kernel

theorem next_dec : ∀ a : Fin 11, ∀ r : Fin 768, IntOp.andi (IntOp.cmpi .ne (place a.val (8 + r.val)) 255#32) (IntOp.cmpi .ne (place a.val (8 + r.val)) 8447#32)
    = if a.val * 768 + r.val = 255 ∨ a.val * 768 + r.val = 8447 then 0#1 else 1#1 := by
  decide +kernel

/-- A row is the context's when its place is below 256. -/
theorem inCtx_sel {α : Type} (i : grid0.Coords) (q : Fin 784) (x y : α) :
    Scalar.select (inCtx i q.val) x y = if (i 1).val * 768 + q.val < 264 then x else y := by
  unfold inCtx
  rw [ctx_dec (i 1) q]
  split <;> rfl

/-- A row has one before it unless its segment starts there. -/
theorem hasPrev_sel {α : Type} (i : grid0.Coords) (r : Fin 768) (x y : α) :
    Scalar.select (hasPrev i r) x y = if (i 1).val * 768 + r.val = 0 ∨ (i 1).val * 768 + r.val = 256 then y else x := by
  unfold hasPrev
  rw [prev_dec (i 1) r]
  split <;> rfl

/-- A row has one after it unless its segment ends there. -/
theorem hasNext_sel {α : Type} (i : grid0.Coords) (r : Fin 768) (x y : α) :
    Scalar.select (hasNext i r) x y = if (i 1).val * 768 + r.val = 255 ∨ (i 1).val * 768 + r.val = 8447 then y else x := by
  unfold hasNext
  rw [next_dec (i 1) r]
  split <;> rfl

end Cert.Ffn.Ker

end
-- ==== Proof.FfnResult.lean ====
/- The feed-forward kernel's tiles are those of the specified result. -/
module

public import proofs.«01_k».proof.Proof.FfnHost
public import proofs.«01_k».proof.Proof.FfnPlace

@[expose] public section

set_option maxRecDepth 16384

noncomputable section

namespace Cert.Ffn.Ker

open Idealize.ShloMosaic Idealize.ShloMosaic.TcCoe Idealize.SL.Sem Cert.Kernel2Ideal Cert.Kernel2Ideal.Gen Cert.Ffn

variable (m : (ℓ : Loc nD τ sig) → Buf (Elt Ideal) ℓ)

/-- The residual stream. -/
abbrev aX (c : Dev nD) : XArr := m ((c : Thread nD τ).loc main_arg0)
/-- The batch's modulation vectors. -/
abbrev aM (c : Dev nD) : MArr := m ((c : Thread nD τ).loc main_arg1)
/-- The context's modulation vectors. -/
abbrev aC (c : Dev nD) : CArr := m ((c : Thread nD τ).loc main_arg2)
/-- The norm's weights. -/
abbrev aG (c : Dev nD) : GArr := m ((c : Thread nD τ).loc main_arg3)
/-- The projection up. -/
abbrev aU (c : Dev nD) : UArr := m ((c : Thread nD τ).loc main_arg4)
/-- The taps. -/
abbrev aT (c : Dev nD) : TArr := m ((c : Thread nD τ).loc main_arg5)
/-- The bias. -/
abbrev aB (c : Dev nD) : BArr := m ((c : Thread nD τ).loc main_arg6)
/-- The projection down. -/
abbrev aD (c : Dev nD) : DArr := m ((c : Thread nD τ).loc main_arg7)

/-- The batch element of a point. -/
abbrev bt (t : Fin cfg0.N) : Fin 4 := ⟨t.val / 11, by have h : t.val < 44 := lt_of_lt_of_eq t.isLt N_0; omega⟩
/-- The position of row `r` of a point's tile. -/
abbrev st (t : Fin cfg0.N) (r : Fin 768) : Fin 8448 := ⟨t.val % 11 * 768 + r.val, by omega⟩

/-- The modulation a row gets. -/
theorem md_sel (c : Dev nD) (t : Fin cfg0.N) (q : Fin 784) (s : Fin 8448) (hs : s.val + 8 = t.val % 11 * 768 + q.val) (k : Fin 6) (n : Fin 1024) :
    Scalar.select (inCtx (grid0.coords t) q.val) ((iblk m c 3 t : Vec Ideal S1x16x1024 .f32) (ix3 0 ⟨k.val, by omega⟩ n))
      ((iblk m c 3 t : Vec Ideal S1x16x1024 .f32) (ix3 0 ⟨8 + k.val, by omega⟩ n)) = md (aM m c) (aC m c) (bt t) s k n := by
  rw [inCtx_sel, coord1,
    iblk3_apply m c t (ix3 0 ⟨k.val, by omega⟩ n) (ix3 (bt t) ⟨k.val, by omega⟩ n) (show t.val / 11 = t.val / 11 * 1 + 0 by omega) (show k.val = 0 * 16 + k.val by omega) (show n.val = 0 * 1024 + n.val by omega),
    iblk3_apply m c t (ix3 0 ⟨8 + k.val, by omega⟩ n) (ix3 (bt t) ⟨8 + k.val, by omega⟩ n) (show t.val / 11 = t.val / 11 * 1 + 0 by omega) (show 8 + k.val = 0 * 16 + (8 + k.val) by omega) (show n.val = 0 * 1024 + n.val by omega),
    V_mod_ctx m c (bt t) k n, V_mod_lat m c (bt t) k n]
  unfold md
  by_cases h : s.val < 256
  · rw [if_pos h, if_pos (by omega)]; rfl
  · rw [if_neg h, if_neg (by omega)]; rfl

/-- The row read for a position: of the tile, or of a halo. -/
theorem row_eq (c : Dev nD) (t : Fin cfg0.N) (q : Fin 784) (s : Fin 8448) (hs : s.val + 8 = t.val % 11 * 768 + q.val) (h7 : 7 ≤ q.val)
    (h8 : q.val ≤ 776) (n : Fin 1024) :
    bRow (iblk m c 0 t) (iblk m c 1 t) (iblk m c 2 t) q n = aX m c (ix3 (bt t) s n) := by
  have hsl := s.isLt
  unfold bRow
  split
  · exact iblk1_apply m c t _ _ (show t.val / 11 = t.val / 11 * 1 + 0 by omega) (show s.val = (96 * (t.val % 11) - 1) * 8 + q.val by omega)
      (show n.val = 0 * 1024 + n.val by omega)
  · split
    · exact iblk0_apply m c t _ _ (show t.val / 11 = t.val / 11 * 1 + 0 by omega) (show s.val = t.val % 11 * 768 + (q.val - 8) by omega)
        (show n.val = 0 * 1024 + n.val by omega)
    · exact iblk2_apply m c t _ _ (show t.val / 11 = t.val / 11 * 1 + 0 by omega)
        (show s.val = min (96 * (t.val % 11 + 1)) 1055 * 8 + (q.val - 8 - 768) by omega) (show n.val = 0 * 1024 + n.val by omega)

/-- The kernel's normed, modulated row is the specified one. -/
theorem bH_eq (c : Dev nD) (t : Fin cfg0.N) (q : Fin 784) (s : Fin 8448) (hs : s.val + 8 = t.val % 11 * 768 + q.val) (h7 : 7 ≤ q.val)
    (h8 : q.val ≤ 776) (n : Fin 1024) :
    bH (grid0.coords t) (iblk m c 0 t) (iblk m c 1 t) (iblk m c 2 t) (iblk m c 3 t) (iblk m c 4 t) q n
      = Cert.Ffn.hs (aX m c) (aM m c) (aC m c) (aG m c) (bt t) s n := by
  have e0 : bRow (iblk m c 0 t) (iblk m c 1 t) (iblk m c 2 t) q = fun n => aX m c (ix3 (bt t) s n) := funext (row_eq m c t q s hs h7 h8)
  have e1 : (fun n : Fin 1024 => (iblk m c 4 t : Vec Ideal S1x1024 .f32) (ix2 0 n)) = fun n => aG m c (ix1 n) := funext fun n => by
    rw [iblk4_apply m c t (ix2 0 n) (ix2 0 n) rfl (show n.val = 0 * 1024 + n.val by omega), V_norm]
  have e2 := funext (md_sel m c t q s hs 3)
  have e3 := funext (md_sel m c t q s hs 4)
  unfold bH Cert.Ffn.hs
  rw [e0, e1]
  exact congrArg₂ (fun a b => hrow _ _ a b n) e2 e3

/-- The products with the gate's columns. -/
theorem bU_gate (c : Dev nD) (t : Fin cfg0.N) (q : Fin 784) (s : Fin 8448) (hs : s.val + 8 = t.val % 11 * 768 + q.val) (h7 : 7 ≤ q.val)
    (h8 : q.val ≤ 776) (f : Fin 2816) :
    bU (grid0.coords t) (iblk m c 0 t) (iblk m c 1 t) (iblk m c 2 t) (iblk m c 3 t) (iblk m c 4 t) (iblk m c 5 t) q f
      = up (aX m c) (aM m c) (aC m c) (aG m c) (aU m c) (bt t) s (gcol f) := by
  refine Finset.sum_congr rfl fun k _ => congrArg₂ (· * ·) (bH_eq m c t q s hs h7 h8 k) ?_
  rw [iblk5_apply m c t (ix2 k f) (ix2 k f) (show k.val = 0 * 1024 + k.val by omega) (show f.val = 0 * 2816 + f.val by omega)]
  exact V_gate m c k f

/-- The products with the values' columns. -/
theorem bU_val (c : Dev nD) (t : Fin cfg0.N) (q : Fin 784) (s : Fin 8448) (hs : s.val + 8 = t.val % 11 * 768 + q.val) (h7 : 7 ≤ q.val)
    (h8 : q.val ≤ 776) (f : Fin 2816) :
    bU (grid0.coords t) (iblk m c 0 t) (iblk m c 1 t) (iblk m c 2 t) (iblk m c 3 t) (iblk m c 4 t) (iblk m c 6 t) q f
      = up (aX m c) (aM m c) (aC m c) (aG m c) (aU m c) (bt t) s (vcol f) := by
  refine Finset.sum_congr rfl fun k _ => congrArg₂ (· * ·) (bH_eq m c t q s hs h7 h8 k) ?_
  rw [iblk6_apply m c t (ix2 k f) (ix2 k f) (show k.val = 0 * 1024 + k.val by omega) (show f.val = 0 * 2816 + f.val by omega)]
  exact V_val m c k f

/-- The gate after the convolution: the neighbours a row lacks count as zero in both. -/
theorem bC_eq (c : Dev nD) (t : Fin cfg0.N) (r : Fin 768) (f : Fin 2816) :
    bC (grid0.coords t) (iblk m c 0 t) (iblk m c 1 t) (iblk m c 2 t) (iblk m c 3 t) (iblk m c 4 t) (iblk m c 5 t) (iblk m c 7 t) (iblk m c 8 t) r f
      = ac (aX m c) (aM m c) (aC m c) (aG m c) (aU m c) (aT m c) (aB m c) (bt t) (st t r) f := by
  have tap : ∀ k : Fin 3, (iblk m c 7 t : Vec Ideal S3x2816 .f32) (ix2 k f) = aT m c (ix2 k f) := fun k =>
    iblk7_apply m c t _ _ (show k.val = 0 * 3 + k.val by omega) (show f.val = 0 * 2816 + f.val by omega)
  have bias : (iblk m c 8 t : Vec Ideal S1x2816 .f32) (ix2 0 f) = aB m c (ix1 f) := by
    rw [iblk8_apply m c t (ix2 0 f) (ix2 0 f) rfl (show f.val = 0 * 2816 + f.val by omega), V_bias]
  have p : Scalar.select (hasPrev (grid0.coords t) r) (bU (grid0.coords t) (iblk m c 0 t) (iblk m c 1 t) (iblk m c 2 t) (iblk m c 3 t) (iblk m c 4 t) (iblk m c 5 t) ⟨7 + r.val, by omega⟩ f) 0
      = prv (fun s => up (aX m c) (aM m c) (aC m c) (aG m c) (aU m c) (bt t) s (gcol f)) (st t r) := by
    rw [hasPrev_sel, coord1]
    unfold prv
    by_cases h : t.val % 11 * 768 + r.val = 0 ∨ t.val % 11 * 768 + r.val = 256
    · rw [if_pos h, if_pos h]
    · rw [if_neg h, if_neg h]
      exact bU_gate m c t _ _ (show t.val % 11 * 768 + r.val - 1 + 8 = t.val % 11 * 768 + (7 + r.val) by omega) (show 7 ≤ 7 + r.val by omega) (show 7 + r.val ≤ 776 by omega) f
  have q : Scalar.select (hasNext (grid0.coords t) r) (bU (grid0.coords t) (iblk m c 0 t) (iblk m c 1 t) (iblk m c 2 t) (iblk m c 3 t) (iblk m c 4 t) (iblk m c 5 t) ⟨9 + r.val, by omega⟩ f) 0
      = nxt (fun s => up (aX m c) (aM m c) (aC m c) (aG m c) (aU m c) (bt t) s (gcol f)) (st t r) := by
    rw [hasNext_sel, coord1]
    unfold nxt
    by_cases h : t.val % 11 * 768 + r.val = 255 ∨ t.val % 11 * 768 + r.val = 8447
    · rw [if_pos h, dif_pos h]
    · rw [if_neg h, dif_neg h]
      exact bU_gate m c t _ _ (show t.val % 11 * 768 + r.val + 1 + 8 = t.val % 11 * 768 + (9 + r.val) by omega) (show 7 ≤ 9 + r.val by omega) (show 9 + r.val ≤ 776 by omega) f
  have a := bU_gate m c t ⟨8 + r.val, by omega⟩ (st t r) (show t.val % 11 * 768 + r.val + 8 = t.val % 11 * 768 + (8 + r.val) by omega) (show 7 ≤ 8 + r.val by omega) (show 8 + r.val ≤ 776 by omega) f
  unfold bC ac
  rw [p, q, a, tap, tap, tap, bias]
  rfl

/-- The tile of the result is the specified one. -/
theorem tile (c : Dev nD) (t : Fin cfg0.N) (r : Fin 768) (n : Fin 1024) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n)
      = outv (aX m c) (aM m c) (aC m c) (aG m c) (aU m c) (aT m c) (aB m c) (aD m c) (bt t) (st t r) n := by
  have hq : (st t r).val + 8 = t.val % 11 * 768 + (⟨8 + r.val, by omega⟩ : Fin 784).val := show t.val % 11 * 768 + r.val + 8 = t.val % 11 * 768 + (8 + r.val) by omega
  rw [out_apply]
  unfold outv
  refine congrArg₂ (· + ·) ?_ (congrArg₂ (· * ·) (md_sel m c t ⟨8 + r.val, by omega⟩ (st t r) hq 5 n)
    (Finset.sum_congr rfl fun f _ => congrArg₂ (· * ·) (congrArg₂ glu (bC_eq m c t r f)
      (bU_val m c t _ _ hq (show 7 ≤ 8 + r.val by omega) (show 8 + r.val ≤ 776 by omega) f)) ?_))
  · exact iblk0_apply m c t _ _ (show t.val / 11 = t.val / 11 * 1 + 0 by omega) rfl (show n.val = 0 * 1024 + n.val by omega)
  · rw [iblk9_apply m c t (ix2 f n) (ix2 f n) (show f.val = 0 * 2816 + f.val by omega) (show n.val = 0 * 1024 + n.val by omega)]
    exact V_down m c f n

/-- The result as one array. -/
def whole (c : Dev nD) : S4x8448x1024.Idx → EReal := fun i =>
  outv (aX m c) (aM m c) (aC m c) (aG m c) (aU m c) (aT m c) (aB m c) (aD m c) (i 0) (i 1) (i 2)

end Cert.Ffn.Ker

end
-- ==== Proof.FfnWhole.lean ====
/- The feed-forward kernel's result array, whole. -/
module

public import proofs.«01_k».proof.Proof.FfnResult

@[expose] public section

set_option maxRecDepth 16384

noncomputable section

namespace Cert.Ffn.Ker

open Idealize.ShloMosaic Idealize.ShloMosaic.TcCoe Idealize.SL.Sem Cert.Kernel2Ideal Cert.Kernel2Ideal.Gen Cert.Ffn

variable (m : (ℓ : Loc nD τ sig) → Buf (Elt Ideal) ℓ)

/-- A tile's entry is the array's where it lands. -/
theorem at_block (c : Dev nD) (t : Fin cfg0.N) (y : S1x768x1024.Idx) (z : S4x8448x1024.Idx) (h0 : (z 0).val = t.val / 11)
    (h1 : (z 1).val = t.val % 11 * 768 + (y 1).val) (h2 : (z 2).val = (y 2).val) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) y
      = whole m c z := by
  have y0 : (y 0).val < 1 := (y 0).isLt
  have hy : y = ix3 0 (y 1) (y 2) := by
    funext a; apply Fin.ext
    match a with
    | ⟨0, _⟩ => show (y 0).val = 0; omega
    | ⟨1, _⟩ => rfl
    | ⟨2, _⟩ => rfl
  have v0 : z 0 = bt t := Fin.ext h0
  have v1 : z 1 = st t (y 1) := Fin.ext h1
  have v2 : z 2 = y 2 := Fin.ext h2
  unfold whole
  rw [v0, v1, v2]
  exact (congrArg _ hy).trans (tile m c t (y 1) (y 2))

/-- Every tile holds its part of the specified result. -/
theorem tiles (c : Dev nD) (t : Fin cfg0.N) (y : S1x768x1024.Idx) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) y
      = whole m c (((cfg0.win 10).blk t).view.emb y) := by
  obtain ⟨e0, e1, e2⟩ := idx10 t
  have y0 : (y 0).val < 1 := (y 0).isLt
  have h0 : (((cfg0.win 10).blk t).view.emb y 0).val = t.val / 11 := by
    show win0_10.index t (0 : Fin 3) * 1 + 1 * (y 0).val = t.val / 11; rw [e0]; omega
  have h1 : (((cfg0.win 10).blk t).view.emb y 1).val = t.val % 11 * 768 + (y 1).val := by
    show win0_10.index t (1 : Fin 3) * 768 + 1 * (y 1).val = t.val % 11 * 768 + (y 1).val; rw [e1]; omega
  have h2 : (((cfg0.win 10).blk t).view.emb y 2).val = (y 2).val := by
    show win0_10.index t (2 : Fin 3) * 1024 + 1 * (y 2).val = (y 2).val; rw [e2]; omega
  exact at_block m c t y _ h0 h1 h2

/-- After the run the result buffer holds it: the tiles cover the array. -/
theorem result (c : Dev nD) : (dats m 0 c).arrAt 10 cfg0.N = whole m c := by
  refine (dats m 0 c).arrAt_eq_of_covers 10 _ (by decide +kernel) fun t hf y => ?_
  exact (congrFun (after0_10 m c t) y).trans (tiles m c t y)

end Cert.Ffn.Ker

end
-- ==== Proof.FfnRefLat.lean ====
/- The reference's latent segment, entry by entry. -/
module

public import proofs.«01_k».proof.Proof.FfnSpec
public import proofs.«01_k».proof.Proof.Gen.Reference2Ideal.Read
public import Idealize.ShloMosaic.Lib.Pipeline.Value
public import Idealize.ShloMosaic.Lib.KernelVsHost

@[expose] public section

noncomputable section

namespace Cert.Ffn.Ref

open Idealize.ShloMosaic Idealize.ShloMosaic.ValueIdx Cert.Reference2Ideal Cert.Reference2Ideal.Gen Cert.Reference2Ideal.Read Cert.Ffn

/-- The place of the latent position `p` in the whole row. -/
abbrev lat (p : Fin 8192) : Fin 8448 := ⟨256 + p.val, by omega⟩

section
variable (x0 : XArr) (x1 : MArr) (x2 : CArr) (x3 : GArr) (x4 : UArr) (x5 : TArr) (x6 : BArr) (x7 : DArr)

theorem md_lat (b : Fin 4) (p : Fin 8192) (k : Fin 6) (n : Fin 1024) : md x1 x2 b (lat p) k n = x1 (ix3 b k n) :=
  if_neg (show ¬ 256 + p.val < 256 by omega)

theorem x_lat (i : S4x8192x1024.Idx) : val_main_v1 (F := Ideal) x0 i = x0 (ix3 (i 0) (lat (i 1)) (i 2)) := by
  rw [val_main_v1_apply]
  exact congrArg x0 (eq_ix3 _)

theorem g_lat (i : S4x8192x1024.Idx) : val_main_v19 (F := Ideal) x3 i = x3 (ix1 (i 2)) := by
  rw [val_main_v19_apply, val_main_v18_apply]
  exact congrArg x3 (eq_ix1 _)

theorem sh_lat (i : S4x8192x1024.Idx) : val_main_v25 (F := Ideal) x1 i = x1 (ix3 (i 0) 3 (i 2)) := by
  rw [val_main_v25_apply, val_main_v2_apply]
  exact congrArg x1 (eq_ix3 _)

theorem sc_lat (i : S4x8192x1024.Idx) : val_main_v23 (F := Ideal) x1 i = Ideal.ofBits .f32 0x3F800000#32 + x1 (ix3 (i 0) 4 (i 2)) := by
  rw [val_main_v23_apply, val_main_v22_apply, val_main_v21_apply, val_main_cst_2_apply, val_main_v3_apply]
  exact congrArg (fun j => Ideal.ofBits .f32 0x3F800000#32 + x1 j) (eq_ix3 _)

theorem gt_lat (i : S4x8192x1024.Idx) : val_main_v90 (F := Ideal) x1 i = x1 (ix3 (i 0) 5 (i 2)) := by
  rw [val_main_v90_apply, val_main_v4_apply]
  exact congrArg x1 (eq_ix3 _)

/-- The latent rows, normed and modulated. -/
theorem hs_lat (i : S4x8192x1024.Idx) : val_main_v26 (F := Ideal) x0 x1 x3 i = hs x0 x1 x2 x3 (i 0) (lat (i 1)) (i 2) := by
  simp only [val_main_v26_apply, val_main_v24_apply, val_main_v20_apply, val_main_v17_apply, val_main_v16_apply, val_main_v15_apply, val_main_v14_apply, val_main_v13_apply, val_main_cst_1_apply, val_main_v12_apply, val_main_v11_apply, val_main_cst_0_apply, val_main_v10_apply, val_main_v9_apply, val_main_cst_apply, val_main_v8_apply, x_lat, g_lat, sh_lat, sc_lat,
    Ideal.addf_def, Ideal.mulf_def, Ideal.hostUnary_rsqrt_def, Ideal.hostDivf_def, Ideal.ofBits_def, Ideal.ofBits_zero_f32, zero_add]
  unfold hs hrow
  exact congrArg₂ (· + ·) (congrArg₂ (· * ·) rfl (congrArg₂ (· + ·) rfl (md_lat x1 x2 (i 0) (i 1) 4 (i 2)).symm)) (md_lat x1 x2 (i 0) (i 1) 3 (i 2)).symm

/-- The latent rows' products with the projection up. -/
theorem up_lat (i : S4x8192x5632.Idx) : val_main_v48 (F := Ideal) x0 x1 x3 x4 i = up x0 x1 x2 x3 x4 (i 0) (lat (i 1)) (i 2) := by
  rw [val_main_v48_apply]
  exact Finset.sum_congr rfl fun k _ => congrArg₂ (· * ·) (hs_lat x0 x1 x2 x3 _) (congrArg x4 (eq_ix2 _))

theorem gate_lat (i : S4x8192x2816.Idx) : val_main_v49 (F := Ideal) x0 x1 x3 x4 i = up x0 x1 x2 x3 x4 (i 0) (lat (i 1)) (gcol (i 2)) := by
  rw [val_main_v49_apply, up_lat x0 x1 x2 x3 x4]
  rfl

theorem val_lat (i : S4x8192x2816.Idx) : val_main_v50 (F := Ideal) x0 x1 x3 x4 i = up x0 x1 x2 x3 x4 (i 0) (lat (i 1)) (vcol (i 2)) := by
  rw [val_main_v50_apply, up_lat x0 x1 x2 x3 x4]
  rfl

/-- Inside the padding the array is as before, one place on. -/
theorem pad_in_lat (j : S4x8194x2816.Idx) (k : S4x8192x2816.Idx) (h0 : (j 0).val = (k 0).val) (h1 : (j 1).val = 1 + (k 1).val) (h2 : (j 2).val = (k 2).val) :
    val_main_v51 (F := Ideal) x0 x1 x3 x4 j = up x0 x1 x2 x3 x4 (k 0) (lat (k 1)) (gcol (k 2)) := by
  unfold val_main_v51
  rw [pad_apply_of_inside (t := S4x8194x2816) (s := S4x8192x2816) ![0, 1, 0] ![0, 1, 0] ![0, 0, 0] _ _ _ _ j k
    (fun a => match a with
      | ⟨0, _⟩ => h0.trans (show (k 0).val = 0 + (k 0).val * (0 + 1) by omega)
      | ⟨1, _⟩ => h1.trans (show 1 + (k 1).val = 1 + (k 1).val * (0 + 1) by omega)
      | ⟨2, _⟩ => h2.trans (show (k 2).val = 0 + (k 2).val * (0 + 1) by omega))]
  exact gate_lat x0 x1 x2 x3 x4 k

/-- The padding is zero. -/
theorem pad_out_lat (j : S4x8194x2816.Idx) (h : (j 1).val = 0 ∨ (j 1).val = 8193) : val_main_v51 (F := Ideal) x0 x1 x3 x4 j = 0 := by
  unfold val_main_v51
  rw [pad_apply_of_not_inside (t := S4x8194x2816) (s := S4x8192x2816) ![0, 1, 0] ![0, 1, 0] ![0, 0, 0] _ _ _ _ j (1 : Fin 3)
    (show ¬ (1 ≤ (j 1).val ∧ ((j 1).val - 1) % (0 + 1) = 0 ∧ ((j 1).val - 1) / (0 + 1) < 8192) by omega), val_main_cst_7_apply]
  exact Ideal.ofBits_zero_f32

/-- The neighbour before. -/
theorem prv_lat (i : S4x8192x2816.Idx) : val_main_v52 (F := Ideal) x0 x1 x3 x4 i = prv (fun s => up x0 x1 x2 x3 x4 (i 0) s (gcol (i 2))) (lat (i 1)) := by
  have hi : (i 1).val < 8192 := (i 1).isLt
  rw [val_main_v52_apply]
  unfold prv
  by_cases h : (i 1).val = 0
  · rw [if_pos (show 256 + (i 1).val = 0 ∨ 256 + (i 1).val = 256 by omega)]
    exact pad_out_lat x0 x1 x3 x4 _ (Or.inl h)
  · rw [if_neg (show ¬ (256 + (i 1).val = 0 ∨ 256 + (i 1).val = 256) by omega),
      pad_in_lat x0 x1 x2 x3 x4 _ (ix3 (i 0) (⟨(i 1).val - 1, by omega⟩ : Fin 8192) (i 2)) rfl (show (i 1).val = 1 + ((i 1).val - 1) by omega) rfl]
    exact congrArg (fun s => up x0 x1 x2 x3 x4 (i 0) s (gcol (i 2))) (Fin.ext (show 256 + ((i 1).val - 1) = 256 + (i 1).val - 1 by omega))

/-- The position itself. -/
theorem cur_lat (i : S4x8192x2816.Idx) : val_main_v58 (F := Ideal) x0 x1 x3 x4 i = up x0 x1 x2 x3 x4 (i 0) (lat (i 1)) (gcol (i 2)) := by
  rw [val_main_v58_apply]
  exact pad_in_lat x0 x1 x2 x3 x4 _ i rfl rfl rfl

/-- The neighbour after. -/
theorem nxt_lat (i : S4x8192x2816.Idx) : val_main_v65 (F := Ideal) x0 x1 x3 x4 i = nxt (fun s => up x0 x1 x2 x3 x4 (i 0) s (gcol (i 2))) (lat (i 1)) := by
  have hi : (i 1).val < 8192 := (i 1).isLt
  rw [val_main_v65_apply]
  unfold nxt
  by_cases h : (i 1).val = 8191
  · rw [dif_pos (show 256 + (i 1).val = 255 ∨ 256 + (i 1).val = 8447 by omega)]
    exact pad_out_lat x0 x1 x3 x4 _ (Or.inr (show 2 + (i 1).val = 8193 by omega))
  · rw [dif_neg (show ¬ (256 + (i 1).val = 255 ∨ 256 + (i 1).val = 8447) by omega),
      pad_in_lat x0 x1 x2 x3 x4 _ (ix3 (i 0) (⟨(i 1).val + 1, by omega⟩ : Fin 8192) (i 2)) rfl (show 2 + (i 1).val = 1 + ((i 1).val + 1) by omega) rfl]
    rfl

theorem tap0_lat (i : S4x8192x2816.Idx) : val_main_v56 (F := Ideal) x5 i = x5 (ix2 0 (i 2)) := by
  have h : (i 2).val < 2816 := (i 2).isLt
  rw [val_main_v56_apply, val_main_v55_apply, val_main_v54_apply, val_main_v53_apply]
  exact congrArg x5 ((eq_ix2 _).trans (congrArg (ix2 (0 : Fin 3)) (Fin.ext (show (i 2).val % 2816 = (i 2).val by omega))))

theorem tap1_lat (i : S4x8192x2816.Idx) : val_main_v62 (F := Ideal) x5 i = x5 (ix2 1 (i 2)) := by
  have h : (i 2).val < 2816 := (i 2).isLt
  rw [val_main_v62_apply, val_main_v61_apply, val_main_v60_apply, val_main_v59_apply]
  exact congrArg x5 ((eq_ix2 _).trans (congrArg (ix2 (1 : Fin 3)) (Fin.ext (show (i 2).val % 2816 = (i 2).val by omega))))

theorem tap2_lat (i : S4x8192x2816.Idx) : val_main_v69 (F := Ideal) x5 i = x5 (ix2 2 (i 2)) := by
  have h : (i 2).val < 2816 := (i 2).isLt
  rw [val_main_v69_apply, val_main_v68_apply, val_main_v67_apply, val_main_v66_apply]
  exact congrArg x5 ((eq_ix2 _).trans (congrArg (ix2 (2 : Fin 3)) (Fin.ext (show (i 2).val % 2816 = (i 2).val by omega))))

theorem bias_lat (i : S4x8192x2816.Idx) : val_main_v73 (F := Ideal) x6 i = x6 (ix1 (i 2)) := by
  rw [val_main_v73_apply, val_main_v72_apply]
  exact congrArg x6 (eq_ix1 _)

/-- The gate after the convolution. -/
theorem ac_lat (i : S4x8192x2816.Idx) : val_main_v74 (F := Ideal) x0 x1 x3 x4 x5 x6 i = ac x0 x1 x2 x3 x4 x5 x6 (i 0) (lat (i 1)) (i 2) := by
  rw [val_main_v74_apply, val_main_v71_apply, val_main_v64_apply, val_main_v57_apply, val_main_v63_apply, val_main_v70_apply, prv_lat x0 x1 x2 x3 x4, cur_lat x0 x1 x2 x3 x4, nxt_lat x0 x1 x2 x3 x4,
    tap0_lat, tap1_lat, tap2_lat, bias_lat]
  rfl

/-- The gate's smooth step, times the values. -/
theorem glu_lat (i : S4x8192x2816.Idx) : val_main_v88 (F := Ideal) x0 x1 x3 x4 x5 x6 i
    = glu (ac x0 x1 x2 x3 x4 x5 x6 (i 0) (lat (i 1)) (i 2)) (up x0 x1 x2 x3 x4 (i 0) (lat (i 1)) (vcol (i 2))) := by
  simp only [val_main_v88_apply, val_main_v87_apply, val_main_v86_apply, val_main_v85_apply, val_main_cst_11_apply, val_main_v84_apply, val_main_v83_apply, val_main_cst_10_apply, val_main_v82_apply, val_main_v81_apply, val_main_v80_apply, val_main_cst_9_apply, val_main_v79_apply, val_main_v78_apply, val_main_v77_apply, val_main_cst_8_apply, val_main_v76_apply, val_main_v75_apply, ac_lat x0 x1 x2 x3 x4 x5 x6, val_lat x0 x1 x2 x3 x4,
    Ideal.addf_def, Ideal.mulf_def, Ideal.hostUnary_tanh_def, Ideal.ofBits_def]
  unfold glu
  exact congrArg₂ (· * ·) ((mul_left_comm _ _ _).trans (mul_assoc _ _ _).symm) rfl

/-- The latent result. -/
theorem out_lat (i : S4x8192x1024.Idx) : val_main_v92 (F := Ideal) x0 x1 x3 x4 x5 x6 x7 i = outv x0 x1 x2 x3 x4 x5 x6 x7 (i 0) (lat (i 1)) (i 2) := by
  rw [val_main_v92_apply, val_main_v91_apply, x_lat, gt_lat, val_main_v89_apply]
  unfold outv
  exact congrArg₂ (· + ·) rfl (congrArg₂ (· * ·) (md_lat x1 x2 (i 0) (i 1) 5 (i 2)).symm (Finset.sum_congr rfl fun k _ => congrArg₂ (· * ·) (glu_lat x0 x1 x2 x3 x4 x5 x6 _) (congrArg x7 (eq_ix2 _))))

end

end Cert.Ffn.Ref

end
-- ==== Proof.FfnRefCtx.lean ====
/- The reference's context segment, entry by entry. -/
module

public import proofs.«01_k».proof.Proof.FfnSpec
public import proofs.«01_k».proof.Proof.Gen.Reference2Ideal.Read
public import Idealize.ShloMosaic.Lib.Pipeline.Value
public import Idealize.ShloMosaic.Lib.KernelVsHost

@[expose] public section

noncomputable section

namespace Cert.Ffn.Ref

open Idealize.ShloMosaic Idealize.ShloMosaic.ValueIdx Cert.Reference2Ideal Cert.Reference2Ideal.Gen Cert.Reference2Ideal.Read Cert.Ffn

/-- The place of the context position `p` in the whole row. -/
abbrev ctx (p : Fin 256) : Fin 8448 := ⟨p.val, by omega⟩

section
variable (x0 : XArr) (x1 : MArr) (x2 : CArr) (x3 : GArr) (x4 : UArr) (x5 : TArr) (x6 : BArr) (x7 : DArr)

theorem md_ctx (b : Fin 4) (p : Fin 256) (k : Fin 6) (n : Fin 1024) : md x1 x2 b (ctx p) k n = x2 (ix2 k n) :=
  if_pos p.isLt

theorem x_ctx (i : S4x256x1024.Idx) : val_main_v0 (F := Ideal) x0 i = x0 (ix3 (i 0) (ctx (i 1)) (i 2)) := by
  rw [val_main_v0_apply]
  exact congrArg x0 (eq_ix3 _)

theorem g_ctx (i : S4x256x1024.Idx) : val_main_v38 (F := Ideal) x3 i = x3 (ix1 (i 2)) := by
  rw [val_main_v38_apply, val_main_v37_apply]
  exact congrArg x3 (eq_ix1 _)

theorem sh_ctx (i : S4x256x1024.Idx) : val_main_v46 (F := Ideal) x2 i = x2 (ix2 3 (i 2)) := by
  rw [val_main_v46_apply, val_main_v45_apply, val_main_v5_apply]
  exact congrArg x2 (eq_ix2 _)

theorem sc_ctx (i : S4x256x1024.Idx) : val_main_v43 (F := Ideal) x2 i = Ideal.ofBits .f32 0x3F800000#32 + x2 (ix2 4 (i 2)) := by
  rw [val_main_v43_apply, val_main_v42_apply, val_main_v41_apply, val_main_v40_apply, val_main_cst_6_apply, val_main_v6_apply]
  exact congrArg (fun j => Ideal.ofBits .f32 0x3F800000#32 + x2 j) (eq_ix2 _)

theorem gt_ctx (i : S4x256x1024.Idx) : val_main_v136 (F := Ideal) x2 i = x2 (ix2 5 (i 2)) := by
  rw [val_main_v136_apply, val_main_v135_apply, val_main_v7_apply]
  exact congrArg x2 (eq_ix2 _)

/-- The context rows, normed and modulated. -/
theorem hs_ctx (i : S4x256x1024.Idx) : val_main_v47 (F := Ideal) x0 x2 x3 i = hs x0 x1 x2 x3 (i 0) (ctx (i 1)) (i 2) := by
  simp only [val_main_v47_apply, val_main_v44_apply, val_main_v39_apply, val_main_v36_apply, val_main_v35_apply, val_main_v34_apply, val_main_v33_apply, val_main_v32_apply, val_main_cst_5_apply, val_main_v31_apply, val_main_v30_apply, val_main_cst_4_apply, val_main_v29_apply, val_main_v28_apply, val_main_cst_3_apply, val_main_v27_apply, x_ctx, g_ctx, sh_ctx, sc_ctx,
    Ideal.addf_def, Ideal.mulf_def, Ideal.hostUnary_rsqrt_def, Ideal.hostDivf_def, Ideal.ofBits_def, Ideal.ofBits_zero_f32, zero_add]
  unfold hs hrow
  exact congrArg₂ (· + ·) (congrArg₂ (· * ·) rfl (congrArg₂ (· + ·) rfl (md_ctx x1 x2 (i 0) (i 1) 4 (i 2)).symm)) (md_ctx x1 x2 (i 0) (i 1) 3 (i 2)).symm

/-- The context rows' products with the projection up. -/
theorem up_ctx (i : S4x256x5632.Idx) : val_main_v93 (F := Ideal) x0 x2 x3 x4 i = up x0 x1 x2 x3 x4 (i 0) (ctx (i 1)) (i 2) := by
  rw [val_main_v93_apply]
  exact Finset.sum_congr rfl fun k _ => congrArg₂ (· * ·) (hs_ctx x0 x1 x2 x3 _) (congrArg x4 (eq_ix2 _))

theorem gate_ctx (i : S4x256x2816.Idx) : val_main_v94 (F := Ideal) x0 x2 x3 x4 i = up x0 x1 x2 x3 x4 (i 0) (ctx (i 1)) (gcol (i 2)) := by
  rw [val_main_v94_apply, up_ctx x0 x1 x2 x3 x4]
  rfl

theorem val_ctx (i : S4x256x2816.Idx) : val_main_v95 (F := Ideal) x0 x2 x3 x4 i = up x0 x1 x2 x3 x4 (i 0) (ctx (i 1)) (vcol (i 2)) := by
  rw [val_main_v95_apply, up_ctx x0 x1 x2 x3 x4]
  rfl

/-- Inside the padding the array is as before, one place on. -/
theorem pad_in_ctx (j : S4x258x2816.Idx) (k : S4x256x2816.Idx) (h0 : (j 0).val = (k 0).val) (h1 : (j 1).val = 1 + (k 1).val) (h2 : (j 2).val = (k 2).val) :
    val_main_v96 (F := Ideal) x0 x2 x3 x4 j = up x0 x1 x2 x3 x4 (k 0) (ctx (k 1)) (gcol (k 2)) := by
  unfold val_main_v96
  rw [pad_apply_of_inside (t := S4x258x2816) (s := S4x256x2816) ![0, 1, 0] ![0, 1, 0] ![0, 0, 0] _ _ _ _ j k
    (fun a => match a with
      | ⟨0, _⟩ => h0.trans (show (k 0).val = 0 + (k 0).val * (0 + 1) by omega)
      | ⟨1, _⟩ => h1.trans (show 1 + (k 1).val = 1 + (k 1).val * (0 + 1) by omega)
      | ⟨2, _⟩ => h2.trans (show (k 2).val = 0 + (k 2).val * (0 + 1) by omega))]
  exact gate_ctx x0 x1 x2 x3 x4 k

/-- The padding is zero. -/
theorem pad_out_ctx (j : S4x258x2816.Idx) (h : (j 1).val = 0 ∨ (j 1).val = 257) : val_main_v96 (F := Ideal) x0 x2 x3 x4 j = 0 := by
  unfold val_main_v96
  rw [pad_apply_of_not_inside (t := S4x258x2816) (s := S4x256x2816) ![0, 1, 0] ![0, 1, 0] ![0, 0, 0] _ _ _ _ j (1 : Fin 3)
    (show ¬ (1 ≤ (j 1).val ∧ ((j 1).val - 1) % (0 + 1) = 0 ∧ ((j 1).val - 1) / (0 + 1) < 256) by omega), val_main_cst_12_apply]
  exact Ideal.ofBits_zero_f32

/-- The neighbour before. -/
theorem prv_ctx (i : S4x256x2816.Idx) : val_main_v97 (F := Ideal) x0 x2 x3 x4 i = prv (fun s => up x0 x1 x2 x3 x4 (i 0) s (gcol (i 2))) (ctx (i 1)) := by
  have hi : (i 1).val < 256 := (i 1).isLt
  rw [val_main_v97_apply]
  unfold prv
  by_cases h : (i 1).val = 0
  · rw [if_pos (show (i 1).val = 0 ∨ (i 1).val = 256 by omega)]
    exact pad_out_ctx x0 x2 x3 x4 _ (Or.inl h)
  · rw [if_neg (show ¬ ((i 1).val = 0 ∨ (i 1).val = 256) by omega),
      pad_in_ctx x0 x1 x2 x3 x4 _ (ix3 (i 0) (⟨(i 1).val - 1, by omega⟩ : Fin 256) (i 2)) rfl (show (i 1).val = 1 + ((i 1).val - 1) by omega) rfl]

/-- The position itself. -/
theorem cur_ctx (i : S4x256x2816.Idx) : val_main_v103 (F := Ideal) x0 x2 x3 x4 i = up x0 x1 x2 x3 x4 (i 0) (ctx (i 1)) (gcol (i 2)) := by
  rw [val_main_v103_apply]
  exact pad_in_ctx x0 x1 x2 x3 x4 _ i rfl rfl rfl

/-- The neighbour after. -/
theorem nxt_ctx (i : S4x256x2816.Idx) : val_main_v110 (F := Ideal) x0 x2 x3 x4 i = nxt (fun s => up x0 x1 x2 x3 x4 (i 0) s (gcol (i 2))) (ctx (i 1)) := by
  have hi : (i 1).val < 256 := (i 1).isLt
  rw [val_main_v110_apply]
  unfold nxt
  by_cases h : (i 1).val = 255
  · rw [dif_pos (show (i 1).val = 255 ∨ (i 1).val = 8447 by omega)]
    exact pad_out_ctx x0 x2 x3 x4 _ (Or.inr (show 2 + (i 1).val = 257 by omega))
  · rw [dif_neg (show ¬ ((i 1).val = 255 ∨ (i 1).val = 8447) by omega),
      pad_in_ctx x0 x1 x2 x3 x4 _ (ix3 (i 0) (⟨(i 1).val + 1, by omega⟩ : Fin 256) (i 2)) rfl (show 2 + (i 1).val = 1 + ((i 1).val + 1) by omega) rfl]

theorem tap0_ctx (i : S4x256x2816.Idx) : val_main_v101 (F := Ideal) x5 i = x5 (ix2 0 (i 2)) := by
  have h : (i 2).val < 2816 := (i 2).isLt
  rw [val_main_v101_apply, val_main_v100_apply, val_main_v99_apply, val_main_v98_apply]
  exact congrArg x5 ((eq_ix2 _).trans (congrArg (ix2 (0 : Fin 3)) (Fin.ext (show (i 2).val % 2816 = (i 2).val by omega))))

theorem tap1_ctx (i : S4x256x2816.Idx) : val_main_v107 (F := Ideal) x5 i = x5 (ix2 1 (i 2)) := by
  have h : (i 2).val < 2816 := (i 2).isLt
  rw [val_main_v107_apply, val_main_v106_apply, val_main_v105_apply, val_main_v104_apply]
  exact congrArg x5 ((eq_ix2 _).trans (congrArg (ix2 (1 : Fin 3)) (Fin.ext (show (i 2).val % 2816 = (i 2).val by omega))))

theorem tap2_ctx (i : S4x256x2816.Idx) : val_main_v114 (F := Ideal) x5 i = x5 (ix2 2 (i 2)) := by
  have h : (i 2).val < 2816 := (i 2).isLt
  rw [val_main_v114_apply, val_main_v113_apply, val_main_v112_apply, val_main_v111_apply]
  exact congrArg x5 ((eq_ix2 _).trans (congrArg (ix2 (2 : Fin 3)) (Fin.ext (show (i 2).val % 2816 = (i 2).val by omega))))

theorem bias_ctx (i : S4x256x2816.Idx) : val_main_v118 (F := Ideal) x6 i = x6 (ix1 (i 2)) := by
  rw [val_main_v118_apply, val_main_v117_apply]
  exact congrArg x6 (eq_ix1 _)

/-- The gate after the convolution. -/
theorem ac_ctx (i : S4x256x2816.Idx) : val_main_v119 (F := Ideal) x0 x2 x3 x4 x5 x6 i = ac x0 x1 x2 x3 x4 x5 x6 (i 0) (ctx (i 1)) (i 2) := by
  rw [val_main_v119_apply, val_main_v116_apply, val_main_v109_apply, val_main_v102_apply, val_main_v108_apply, val_main_v115_apply, prv_ctx x0 x1 x2 x3 x4, cur_ctx x0 x1 x2 x3 x4, nxt_ctx x0 x1 x2 x3 x4,
    tap0_ctx, tap1_ctx, tap2_ctx, bias_ctx]
  rfl

/-- The gate's smooth step, times the values. -/
theorem glu_ctx (i : S4x256x2816.Idx) : val_main_v133 (F := Ideal) x0 x2 x3 x4 x5 x6 i
    = glu (ac x0 x1 x2 x3 x4 x5 x6 (i 0) (ctx (i 1)) (i 2)) (up x0 x1 x2 x3 x4 (i 0) (ctx (i 1)) (vcol (i 2))) := by
  simp only [val_main_v133_apply, val_main_v132_apply, val_main_v131_apply, val_main_v130_apply, val_main_cst_16_apply, val_main_v129_apply, val_main_v128_apply, val_main_cst_15_apply, val_main_v127_apply, val_main_v126_apply, val_main_v125_apply, val_main_cst_14_apply, val_main_v124_apply, val_main_v123_apply, val_main_v122_apply, val_main_cst_13_apply, val_main_v121_apply, val_main_v120_apply, ac_ctx x0 x1 x2 x3 x4 x5 x6, val_ctx x0 x1 x2 x3 x4,
    Ideal.addf_def, Ideal.mulf_def, Ideal.hostUnary_tanh_def, Ideal.ofBits_def]
  unfold glu
  exact congrArg₂ (· * ·) ((mul_left_comm _ _ _).trans (mul_assoc _ _ _).symm) rfl

/-- The context result. -/
theorem out_ctx (i : S4x256x1024.Idx) : val_main_v138 (F := Ideal) x0 x2 x3 x4 x5 x6 x7 i = outv x0 x1 x2 x3 x4 x5 x6 x7 (i 0) (ctx (i 1)) (i 2) := by
  rw [val_main_v138_apply, val_main_v137_apply, x_ctx, gt_ctx, val_main_v134_apply]
  unfold outv
  exact congrArg₂ (· + ·) rfl (congrArg₂ (· * ·) (md_ctx x1 x2 (i 0) (i 1) 5 (i 2)).symm (Finset.sum_congr rfl fun k _ => congrArg₂ (· * ·) (glu_ctx x0 x1 x2 x3 x4 x5 x6 _) (congrArg x7 (eq_ix2 _))))

end

end Cert.Ffn.Ref

end
-- ==== Proof.FfnRef.lean ====
/- The reference's feed-forward part, its two segments put together. -/
module

public import proofs.«01_k».proof.Proof.FfnRefLat
public import proofs.«01_k».proof.Proof.FfnRefCtx

@[expose] public section

noncomputable section

namespace Cert.Ffn.Ref

open Idealize.ShloMosaic Idealize.ShloMosaic.ValueIdx Cert.Reference2Ideal Cert.Reference2Ideal.Gen Cert.Reference2Ideal.Read Cert.Ffn

/-- The reference's result, at any position. -/
theorem out_all (x0 : XArr) (x1 : MArr) (x2 : CArr) (x3 : GArr) (x4 : UArr) (x5 : TArr) (x6 : BArr) (x7 : DArr) (i : S4x8448x1024.Idx) :
    val_main_v139 (F := Ideal) x0 x1 x2 x3 x4 x5 x6 x7 i = outv x0 x1 x2 x3 x4 x5 x6 x7 (i 0) (i 1) (i 2) := by
  have e1 : (i 1).val < 8448 := (i 1).isLt
  unfold val_main_v139
  by_cases h : (i 1).val < 256
  · rw [concatenate_pair_apply_left (t := S4x8448x1024) (s₁ := S4x256x1024) (s₂ := S4x8192x1024) 1 _ _ _ i rfl
      (ix3 (i 0) (⟨(i 1).val, h⟩ : Fin 256) (i 2) : S4x256x1024.Idx)
      (fun b => match b with | ⟨0, _⟩ => rfl | ⟨1, _⟩ => rfl | ⟨2, _⟩ => rfl), out_ctx x0 x1 x2 x3 x4 x5 x6 x7]
    rfl
  · rw [concatenate_pair_apply_right (t := S4x8448x1024) (s₁ := S4x256x1024) (s₂ := S4x8192x1024) 1 _ _ _ i rfl rfl
      (ix3 (i 0) (⟨(i 1).val - 256, by omega⟩ : Fin 8192) (i 2) : S4x8192x1024.Idx)
      (fun b => match b with | ⟨0, _⟩ => fun _ => rfl | ⟨1, _⟩ => fun hb => absurd rfl hb | ⟨2, _⟩ => fun _ => rfl)
      (by show (i 1).val - 256 + 256 = (i 1).val; omega), out_lat x0 x1 x2 x3 x4 x5 x6 x7]
    exact congrArg (fun s => outv x0 x1 x2 x3 x4 x5 x6 x7 (i 0) s (i 2)) (Fin.ext (show 256 + ((i 1).val - 256) = (i 1).val by omega))

end Cert.Ffn.Ref

end
-- ==== Proof.FfnAlgebraic.lean ====
/- The feed-forward kernel and its reference end with the same result, at the ideal values. -/
module

public import proofs.«01_k».proof.Defs
public import proofs.«01_k».proof.Proof.FfnWhole
public import proofs.«01_k».proof.Proof.FfnRef
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Ffn

open Idealize.ShloMosaic Idealize.SL.Sem

/-- From memories that agree on the arguments, the kernel and the reference end with the same result and leave their
    arguments as they were. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Ker.whole m c, ?_, ?_⟩
  · refine (θ_run _ _ _).mono (fun r h c => ⟨(h c).1.trans ?_, (h c).2⟩) (Cert.Kernel2Ideal.Value.run_blocks m g)
    exact Ker.result m c
  · refine (θ_run _ _ _).mono (fun r h c => ⟨(h c).1.trans ?_, (h c).2⟩) (Cert.Reference2Ideal.Value.run (F := Ideal) m' g')
    obtain ⟨e0, e1, e2, e3, e4, e5, e6, e7⟩ := hargs c
    refine (Cert.Reference2Ideal.Read.val_main_v139_eq m' c).trans ?_
    rw [e0, e1, e2, e3, e4, e5, e6, e7]
    exact funext (Ref.out_all (Ker.aX m c) (Ker.aM m c) (Ker.aC m c) (Ker.aG m c) (Ker.aU m c) (Ker.aT m c) (Ker.aB m c) (Ker.aD m c))

end Cert.Ffn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnAlgebraic
public import Idealize.ShloMosaic.Adequacy
public import Idealize.ShloMosaic.Init

@[expose] public section

noncomputable section

namespace Cert.Proof

open Idealize.ShloMosaic Idealize.SL.Sem

/-- The reference declares no semaphore, so its run read at the arguments is its frame. -/
theorem frame_ReferenceIdeal [Cert.ReferenceIdeal.Facts] : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The second reference declares no semaphore either. -/
theorem frame_Reference2Ideal [Cert.Reference2Ideal.Facts] : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The certificate's claim: every program runs to an end with its arguments as they were, also under the precondition;
    the idealised kernel is the kernel; and the idealised kernel computes what the reference does. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Attn.Pre.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  trivial, Cert.Attn.algebraic, trivial, Cert.Ffn.algebraic⟩

end Cert.Proof

end
